-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)) (v11 : (c : Dev Cert.KernelIdeal.nD) → Buf (Elt Ideal) ((c.tc : Thread Cert.KernelIdeal.nD Cert.KernelIdeal.τ).loc Cert.KernelIdeal.main_v0_11)) (v12 : (c : Dev Cert.KernelIdeal.nD) → Buf (Elt Ideal) ((c.tc : Thread Cert.KernelIdeal.nD Cert.KernelIdeal.τ).loc Cert.KernelIdeal.main_v0_13)) (v13 : (c : Dev Cert.KernelIdeal.nD) → Buf (Elt Ideal) ((c.tc : Thread Cert.KernelIdeal.nD Cert.KernelIdeal.τ).loc Cert.KernelIdeal.main_v0_15)) (v14 : (c : Dev Cert.KernelIdeal.nD) → Buf (Elt Ideal) ((c.tc : Thread Cert.KernelIdeal.nD Cert.KernelIdeal.τ).loc Cert.KernelIdeal.main_v0_16)) (v15 : (c : Dev Cert.KernelIdeal.nD) → Buf (Elt Ideal) ((c.tc : Thread Cert.KernelIdeal.nD Cert.KernelIdeal.τ).loc Cert.KernelIdeal.main_v0_17)) (v16 : (c : Dev Cert.KernelIdeal.nD) → Buf (Elt Ideal) ((c.tc : Thread Cert.KernelIdeal.nD Cert.KernelIdeal.τ).loc Cert.KernelIdeal.main_v0_18)) (v17 : (c : Dev Cert.KernelIdeal.nD) → Buf (Elt Ideal) ((c.tc : Thread Cert.KernelIdeal.nD Cert.KernelIdeal.τ).loc Cert.KernelIdeal.main_v0_19)) (v18 : (c : Dev Cert.KernelIdeal.nD) → Buf (Elt Ideal) ((c.tc : Thread Cert.KernelIdeal.nD Cert.KernelIdeal.τ).loc Cert.KernelIdeal.main_v0_21)) (v19 : (c : Dev Cert.KernelIdeal.nD) → Buf (Elt Ideal) ((c.tc : Thread Cert.KernelIdeal.nD Cert.KernelIdeal.τ).loc Cert.KernelIdeal.main_v0_23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_v0_10) = v10 c
          ∧ r.2.mem ((c.tc : Thread Cert.KernelIdeal.nD Cert.KernelIdeal.τ).loc Cert.KernelIdeal.main_v0_11) = v11 c
          ∧ r.2.mem ((c.tc : Thread Cert.KernelIdeal.nD Cert.KernelIdeal.τ).loc Cert.KernelIdeal.main_v0_13) = v12 c
          ∧ r.2.mem ((c.tc : Thread Cert.KernelIdeal.nD Cert.KernelIdeal.τ).loc Cert.KernelIdeal.main_v0_15) = v13 c
          ∧ r.2.mem ((c.tc : Thread Cert.KernelIdeal.nD Cert.KernelIdeal.τ).loc Cert.KernelIdeal.main_v0_16) = v14 c
          ∧ r.2.mem ((c.tc : Thread Cert.KernelIdeal.nD Cert.KernelIdeal.τ).loc Cert.KernelIdeal.main_v0_17) = v15 c
          ∧ r.2.mem ((c.tc : Thread Cert.KernelIdeal.nD Cert.KernelIdeal.τ).loc Cert.KernelIdeal.main_v0_18) = v16 c
          ∧ r.2.mem ((c.tc : Thread Cert.KernelIdeal.nD Cert.KernelIdeal.τ).loc Cert.KernelIdeal.main_v0_19) = v17 c
          ∧ r.2.mem ((c.tc : Thread Cert.KernelIdeal.nD Cert.KernelIdeal.τ).loc Cert.KernelIdeal.main_v0_21) = v18 c
          ∧ r.2.mem ((c.tc : Thread Cert.KernelIdeal.nD Cert.KernelIdeal.τ).loc Cert.KernelIdeal.main_v0_23) = v19 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_v0_8) = v8 c
          ∧ r.2.mem ((c.tc : Thread Cert.ReferenceIdeal.nD Cert.ReferenceIdeal.τ).loc Cert.ReferenceIdeal.main_v0_9) = v9 c
          ∧ r.2.mem ((c.tc : Thread Cert.ReferenceIdeal.nD Cert.ReferenceIdeal.τ).loc Cert.ReferenceIdeal.main_v0_10) = v10 c
          ∧ r.2.mem ((c.tc : Thread Cert.ReferenceIdeal.nD Cert.ReferenceIdeal.τ).loc Cert.ReferenceIdeal.main_v0_11) = v11 c
          ∧ r.2.mem ((c.tc : Thread Cert.ReferenceIdeal.nD Cert.ReferenceIdeal.τ).loc Cert.ReferenceIdeal.main_v0_12) = v12 c
          ∧ r.2.mem ((c.tc : Thread Cert.ReferenceIdeal.nD Cert.ReferenceIdeal.τ).loc Cert.ReferenceIdeal.main_v0_13) = v13 c
          ∧ r.2.mem ((c.tc : Thread Cert.ReferenceIdeal.nD Cert.ReferenceIdeal.τ).loc Cert.ReferenceIdeal.main_v0_14) = v14 c
          ∧ r.2.mem ((c.tc : Thread Cert.ReferenceIdeal.nD Cert.ReferenceIdeal.τ).loc Cert.ReferenceIdeal.main_v0_15) = v15 c
          ∧ r.2.mem ((c.tc : Thread Cert.ReferenceIdeal.nD Cert.ReferenceIdeal.τ).loc Cert.ReferenceIdeal.main_v0_16) = v16 c
          ∧ r.2.mem ((c.tc : Thread Cert.ReferenceIdeal.nD Cert.ReferenceIdeal.τ).loc Cert.ReferenceIdeal.main_v0_17) = v17 c
          ∧ r.2.mem ((c.tc : Thread Cert.ReferenceIdeal.nD Cert.ReferenceIdeal.τ).loc Cert.ReferenceIdeal.main_v0_18) = v18 c
          ∧ r.2.mem ((c.tc : Thread Cert.ReferenceIdeal.nD Cert.ReferenceIdeal.τ).loc Cert.ReferenceIdeal.main_v0_19) = v19 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12288x2048 : Shape := ⟨2, ![12288, 2048]⟩
abbrev S2048x1536 : Shape := ⟨2, ![2048, 1536]⟩
abbrev S768x2048 : Shape := ⟨2, ![768, 2048]⟩
abbrev S2048x768 : Shape := ⟨2, ![2048, 768]⟩
abbrev S12288x16 : Shape := ⟨2, ![12288, 16]⟩
abbrev S12288x768 : Shape := ⟨2, ![12288, 768]⟩
abbrev S12288x6 : Shape := ⟨2, ![12288, 6]⟩
abbrev S96x2048 : Shape := ⟨2, ![96, 2048]⟩
abbrev S96x768 : Shape := ⟨2, ![96, 768]⟩
abbrev S256x2048 : Shape := ⟨2, ![256, 2048]⟩
abbrev S256x16 : Shape := ⟨2, ![256, 16]⟩
abbrev S256x768 : Shape := ⟨2, ![256, 768]⟩
abbrev S256x6 : Shape := ⟨2, ![256, 6]⟩
abbrev S8x2048 : Shape := ⟨2, ![8, 2048]⟩
abbrev S8x768 : Shape := ⟨2, ![8, 768]⟩
abbrev S256x1536 : Shape := ⟨2, ![256, 1536]⟩
abbrev S256x512 : Shape := ⟨2, ![256, 512]⟩
abbrev S256x256 : Shape := ⟨2, ![256, 256]⟩
abbrev S8x128 : Shape := ⟨2, ![8, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S2048x512 : Shape := ⟨2, ![2048, 512]⟩
abbrev S768x512 : Shape := ⟨2, ![768, 512]⟩
abbrev S512x1536 : Shape := ⟨2, ![512, 1536]⟩

abbrev nBuf : Space → Nat
  | .hbm => 29
  | .vmem => 64
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .bf16⟩
  | .hbm, ⟨2, _⟩ => ⟨S2048x1536, .bf16⟩
  | .hbm, ⟨3, _⟩ => ⟨S768x2048, .bf16⟩
  | .hbm, ⟨4, _⟩ => ⟨S12288x2048, .bf16⟩
  | .hbm, ⟨5, _⟩ => ⟨S12288x2048, .bf16⟩
  | .hbm, ⟨6, _⟩ => ⟨S2048x768, .f32⟩
  | .hbm, ⟨7, _⟩ => ⟨S2048x768, .f32⟩
  | .hbm, ⟨8, _⟩ => ⟨S768x2048, .f32⟩
  | .hbm, ⟨9, _⟩ => ⟨S12288x2048, .fp8e4m3⟩
  | .hbm, ⟨10, _⟩ => ⟨S12288x16, .f32⟩
  | .hbm, ⟨11, _⟩ => ⟨S12288x768, .fp8e4m3⟩
  | .hbm, ⟨12, _⟩ => ⟨S12288x6, .f32⟩
  | .hbm, ⟨13, _⟩ => ⟨S12288x2048, .fp8e5m2⟩
  | .hbm, ⟨14, _⟩ => ⟨S12288x16, .f32⟩
  | .hbm, ⟨15, _⟩ => ⟨S12288x2048, .fp8e5m2⟩
  | .hbm, ⟨16, _⟩ => ⟨S96x2048, .f32⟩
  | .hbm, ⟨17, _⟩ => ⟨S12288x768, .fp8e4m3⟩
  | .hbm, ⟨18, _⟩ => ⟨S96x768, .f32⟩
  | .hbm, ⟨19, _⟩ => ⟨S12288x768, .fp8e5m2⟩
  | .hbm, ⟨20, _⟩ => ⟨S12288x6, .f32⟩
  | .hbm, ⟨21, _⟩ => ⟨S12288x768, .fp8e5m2⟩
  | .hbm, ⟨22, _⟩ => ⟨S12288x6, .f32⟩
  | .hbm, ⟨23, _⟩ => ⟨S12288x2048, .fp8e4m3⟩
  | .hbm, ⟨24, _⟩ => ⟨S96x2048, .f32⟩
  | .hbm, ⟨25, _⟩ => ⟨S12288x768, .fp8e5m2⟩
  | .hbm, ⟨26, _⟩ => ⟨S96x768, .f32⟩
  | .hbm, ⟨27, _⟩ => ⟨S12288x768, .fp8e5m2⟩
  | .hbm, ⟨28, _⟩ => ⟨S96x768, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x1536, .bf16⟩
  | .local _ .vmem, ⟨5, _⟩ => ⟨S768x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S2048x768, .f32⟩
  | .local _ .vmem, ⟨11, _⟩ => ⟨S2048x768, .f32⟩
  | .local _ .vmem, ⟨12, _⟩ => ⟨S768x2048, .f32⟩
  | .local _ .vmem, ⟨13, _⟩ => ⟨S256x2048, .fp8e4m3⟩
  | .local _ .vmem, ⟨14, _⟩ => ⟨S256x2048, .fp8e4m3⟩
  | .local _ .vmem, ⟨15, _⟩ => ⟨S256x16, .f32⟩
  | .local _ .vmem, ⟨16, _⟩ => ⟨S256x16, .f32⟩
  | .local _ .vmem, ⟨17, _⟩ => ⟨S256x768, .fp8e4m3⟩
  | .local _ .vmem, ⟨18, _⟩ => ⟨S256x768, .fp8e4m3⟩
  | .local _ .vmem, ⟨19, _⟩ => ⟨S256x6, .f32⟩
  | .local _ .vmem, ⟨20, _⟩ => ⟨S256x6, .f32⟩
  | .local _ .vmem, ⟨21, _⟩ => ⟨S256x2048, .fp8e5m2⟩
  | .local _ .vmem, ⟨22, _⟩ => ⟨S256x2048, .fp8e5m2⟩
  | .local _ .vmem, ⟨23, _⟩ => ⟨S256x16, .f32⟩
  | .local _ .vmem, ⟨24, _⟩ => ⟨S256x16, .f32⟩
  | .local _ .vmem, ⟨25, _⟩ => ⟨S256x2048, .fp8e5m2⟩
  | .local _ .vmem, ⟨26, _⟩ => ⟨S256x2048, .fp8e5m2⟩
  | .local _ .vmem, ⟨27, _⟩ => ⟨S8x2048, .f32⟩
  | .local _ .vmem, ⟨28, _⟩ => ⟨S8x2048, .f32⟩
  | .local _ .vmem, ⟨29, _⟩ => ⟨S256x768, .fp8e4m3⟩
  | .local _ .vmem, ⟨30, _⟩ => ⟨S256x768, .fp8e4m3⟩
  | .local _ .vmem, ⟨31, _⟩ => ⟨S8x768, .f32⟩
  | .local _ .vmem, ⟨32, _⟩ => ⟨S8x768, .f32⟩
  | .local _ .vmem, ⟨33, _⟩ => ⟨S256x768, .fp8e5m2⟩
  | .local _ .vmem, ⟨34, _⟩ => ⟨S256x768, .fp8e5m2⟩
  | .local _ .vmem, ⟨35, _⟩ => ⟨S256x6, .f32⟩
  | .local _ .vmem, ⟨36, _⟩ => ⟨S256x6, .f32⟩
  | .local _ .vmem, ⟨37, _⟩ => ⟨S256x768, .fp8e5m2⟩
  | .local _ .vmem, ⟨38, _⟩ => ⟨S256x768, .fp8e5m2⟩
  | .local _ .vmem, ⟨39, _⟩ => ⟨S256x6, .f32⟩
  | .local _ .vmem, ⟨40, _⟩ => ⟨S256x6, .f32⟩
  | .local _ .vmem, ⟨41, _⟩ => ⟨S256x2048, .fp8e4m3⟩
  | .local _ .vmem, ⟨42, _⟩ => ⟨S256x2048, .fp8e4m3⟩
  | .local _ .vmem, ⟨43, _⟩ => ⟨S8x2048, .f32⟩
  | .local _ .vmem, ⟨44, _⟩ => ⟨S8x2048, .f32⟩
  | .local _ .vmem, ⟨45, _⟩ => ⟨S256x768, .fp8e5m2⟩
  | .local _ .vmem, ⟨46, _⟩ => ⟨S256x768, .fp8e5m2⟩
  | .local _ .vmem, ⟨47, _⟩ => ⟨S8x768, .f32⟩
  | .local _ .vmem, ⟨48, _⟩ => ⟨S8x768, .f32⟩
  | .local _ .vmem, ⟨49, _⟩ => ⟨S256x768, .fp8e5m2⟩
  | .local _ .vmem, ⟨50, _⟩ => ⟨S256x768, .fp8e5m2⟩
  | .local _ .vmem, ⟨51, _⟩ => ⟨S8x768, .f32⟩
  | .local _ .vmem, ⟨52, _⟩ => ⟨S8x768, .f32⟩
  | .local _ .vmem, ⟨53, _⟩ => ⟨S256x2048, .bf16⟩
  | .local _ .vmem, ⟨54, _⟩ => ⟨S256x2048, .bf16⟩
  | .local _ .vmem, ⟨55, _⟩ => ⟨S256x2048, .bf16⟩
  | .local _ .vmem, ⟨56, _⟩ => ⟨S256x2048, .bf16⟩
  | .local _ .vmem, ⟨57, _⟩ => ⟨S256x768, .bf16⟩
  | .local _ .vmem, ⟨58, _⟩ => ⟨S256x1536, .bf16⟩
  | .local _ .vmem, ⟨59, _⟩ => ⟨S256x768, .bf16⟩
  | .local _ .vmem, ⟨60, _⟩ => ⟨S256x768, .bf16⟩
  | .local _ .vmem, ⟨61, _⟩ => ⟨S256x768, .bf16⟩
  | .local _ .vmem, ⟨62, _⟩ => ⟨S256x512, .f32⟩
  | .local _ .vmem, ⟨63, _⟩ => ⟨S256x256, .f32⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev main_v0_10 : Ref sig .tc := ⟨.hbm, 14, rfl⟩
abbrev main_v0_11 : Ref sig .tc := ⟨.hbm, 15, rfl⟩
abbrev main_v0_12 : Ref sig .tc := ⟨.hbm, 16, rfl⟩
abbrev main_v0_13 : Ref sig .tc := ⟨.hbm, 17, rfl⟩
abbrev main_v0_14 : Ref sig .tc := ⟨.hbm, 18, rfl⟩
abbrev main_v0_15 : Ref sig .tc := ⟨.hbm, 19, rfl⟩
abbrev main_v0_16 : Ref sig .tc := ⟨.hbm, 20, rfl⟩
abbrev main_v0_17 : Ref sig .tc := ⟨.hbm, 21, rfl⟩
abbrev main_v0_18 : Ref sig .tc := ⟨.hbm, 22, rfl⟩
abbrev main_v0_19 : Ref sig .tc := ⟨.hbm, 23, rfl⟩
abbrev main_v0_20 : Ref sig .tc := ⟨.hbm, 24, rfl⟩
abbrev main_v0_21 : Ref sig .tc := ⟨.hbm, 25, rfl⟩
abbrev main_v0_22 : Ref sig .tc := ⟨.hbm, 26, rfl⟩
abbrev main_v0_23 : Ref sig .tc := ⟨.hbm, 27, rfl⟩
abbrev main_v0_24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg25_1 : Ref sig .tc := ⟨.vmem, 46, rfl⟩
abbrev cc0_stg26_0 : Ref sig .tc := ⟨.vmem, 47, rfl⟩
abbrev cc0_stg26_1 : Ref sig .tc := ⟨.vmem, 48, rfl⟩
abbrev cc0_stg27_0 : Ref sig .tc := ⟨.vmem, 49, rfl⟩
abbrev cc0_stg27_1 : Ref sig .tc := ⟨.vmem, 50, rfl⟩
abbrev cc0_stg28_0 : Ref sig .tc := ⟨.vmem, 51, rfl⟩
abbrev cc0_stg28_1 : Ref sig .tc := ⟨.vmem, 52, rfl⟩
abbrev cc0_scratch0 : Ref sig .tc := ⟨.vmem, 53, rfl⟩
abbrev cc0_scratch1 : Ref sig .tc := ⟨.vmem, 54, rfl⟩
abbrev cc0_scratch2 : Ref sig .tc := ⟨.vmem, 55, rfl⟩
abbrev cc0_scratch3 : Ref sig .tc := ⟨.vmem, 56, rfl⟩
abbrev cc0_scratch4 : Ref sig .tc := ⟨.vmem, 57, rfl⟩
abbrev cc0_scratch5 : Ref sig .tc := ⟨.vmem, 58, rfl⟩
abbrev cc0_scratch6 : Ref sig .tc := ⟨.vmem, 59, rfl⟩
abbrev cc0_scratch7 : Ref sig .tc := ⟨.vmem, 60, rfl⟩
abbrev cc0_scratch8 : Ref sig .tc := ⟨.vmem, 61, rfl⟩
abbrev cc0_scratch9 : Ref sig .tc := ⟨.vmem, 62, rfl⟩
abbrev cc0_scratch10 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45
abbrev cc0_sem25_1 : DmaSem sig := 46
abbrev cc0_sem26_0 : DmaSem sig := 47
abbrev cc0_sem26_1 : DmaSem sig := 48
abbrev cc0_sem27_0 : DmaSem sig := 49
abbrev cc0_sem27_1 : DmaSem sig := 50
abbrev cc0_sem28_0 : DmaSem sig := 51
abbrev cc0_sem28_1 : DmaSem sig := 52

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x6 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .fp8e5m2 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x768 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x768 .fp8e5m2 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x6 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x768 .fp8e5m2 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x6 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2048 .fp8e4m3 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x2048 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x768 .fp8e5m2 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S8x768 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x768 .fp8e5m2 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S8x768 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== ReferenceIdeal.lean ====
abbrev S12288x2048 : Shape := ⟨2, ![12288, 2048]⟩
abbrev S2048x1536 : Shape := ⟨2, ![2048, 1536]⟩
abbrev S768x2048 : Shape := ⟨2, ![768, 2048]⟩
abbrev S2048x768 : Shape := ⟨2, ![2048, 768]⟩
abbrev S12288x16 : Shape := ⟨2, ![12288, 16]⟩
abbrev S12288x768 : Shape := ⟨2, ![12288, 768]⟩
abbrev S12288x6 : Shape := ⟨2, ![12288, 6]⟩
abbrev S2048x3x2x256 : Shape := ⟨4, ![2048, 3, 2, 256]⟩
abbrev S2048x3x1x256 : Shape := ⟨4, ![2048, 3, 1, 256]⟩
abbrev S2048x3x256 : Shape := ⟨3, ![2048, 3, 256]⟩
abbrev S12288x16x128 : Shape := ⟨3, ![12288, 16, 128]⟩
abbrev S12288x16x1 : Shape := ⟨3, ![12288, 16, 1]⟩
abbrev S96x128x2048 : Shape := ⟨3, ![96, 128, 2048]⟩
abbrev S96x2048 : Shape := ⟨2, ![96, 2048]⟩
abbrev S96x1x2048 : Shape := ⟨3, ![96, 1, 2048]⟩
abbrev S12288x6x128 : Shape := ⟨3, ![12288, 6, 128]⟩
abbrev S12288x6x1 : Shape := ⟨3, ![12288, 6, 1]⟩
abbrev S96x128x768 : Shape := ⟨3, ![96, 128, 768]⟩
abbrev S96x768 : Shape := ⟨2, ![96, 768]⟩
abbrev S96x1x768 : Shape := ⟨3, ![96, 1, 768]⟩

abbrev nBuf : Space → Nat
  | .hbm => 24
  | .vmem => 24
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .bf16⟩
  | .hbm, ⟨2, _⟩ => ⟨S2048x1536, .bf16⟩
  | .hbm, ⟨3, _⟩ => ⟨S768x2048, .bf16⟩
  | .hbm, ⟨4, _⟩ => ⟨S12288x2048, .bf16⟩
  | .hbm, ⟨5, _⟩ => ⟨S12288x2048, .bf16⟩
  | .hbm, ⟨6, _⟩ => ⟨S2048x768, .f32⟩
  | .hbm, ⟨7, _⟩ => ⟨S2048x768, .f32⟩
  | .hbm, ⟨8, _⟩ => ⟨S768x2048, .f32⟩
  | .hbm, ⟨9, _⟩ => ⟨S12288x2048, .fp8e4m3⟩
  | .hbm, ⟨10, _⟩ => ⟨S12288x16, .f32⟩
  | .hbm, ⟨11, _⟩ => ⟨S12288x768, .fp8e4m3⟩
  | .hbm, ⟨12, _⟩ => ⟨S12288x6, .f32⟩
  | .hbm, ⟨13, _⟩ => ⟨S12288x2048, .fp8e5m2⟩
  | .hbm, ⟨14, _⟩ => ⟨S12288x16, .f32⟩
  | .hbm, ⟨15, _⟩ => ⟨S12288x2048, .fp8e5m2⟩
  | .hbm, ⟨16, _⟩ => ⟨S12288x768, .fp8e4m3⟩
  | .hbm, ⟨17, _⟩ => ⟨S12288x768, .fp8e5m2⟩
  | .hbm, ⟨18, _⟩ => ⟨S12288x6, .f32⟩
  | .hbm, ⟨19, _⟩ => ⟨S12288x768, .fp8e5m2⟩
  | .hbm, ⟨20, _⟩ => ⟨S12288x6, .f32⟩
  | .hbm, ⟨21, _⟩ => ⟨S12288x2048, .fp8e4m3⟩
  | .hbm, ⟨22, _⟩ => ⟨S12288x768, .fp8e5m2⟩
  | .hbm, ⟨23, _⟩ => ⟨S12288x768, .fp8e5m2⟩
  | .local _ .vmem, ⟨0, _⟩ => ⟨S12288x2048, .bf16⟩
  | .local _ .vmem, ⟨1, _⟩ => ⟨S12288x2048, .bf16⟩
  | .local _ .vmem, ⟨2, _⟩ => ⟨S2048x1536, .bf16⟩
  | .local _ .vmem, ⟨3, _⟩ => ⟨S768x2048, .bf16⟩
  | .local _ .vmem, ⟨4, _⟩ => ⟨S12288x2048, .bf16⟩
  | .local _ .vmem, ⟨5, _⟩ => ⟨S12288x2048, .bf16⟩
  | .local _ .vmem, ⟨6, _⟩ => ⟨S2048x768, .f32⟩
  | .local _ .vmem, ⟨7, _⟩ => ⟨S2048x768, .f32⟩
  | .local _ .vmem, ⟨8, _⟩ => ⟨S768x2048, .f32⟩
  | .local _ .vmem, ⟨9, _⟩ => ⟨S12288x2048, .fp8e4m3⟩
  | .local _ .vmem, ⟨10, _⟩ => ⟨S12288x16, .f32⟩
  | .local _ .vmem, ⟨11, _⟩ => ⟨S12288x768, .fp8e4m3⟩
  | .local _ .vmem, ⟨12, _⟩ => ⟨S12288x6, .f32⟩
  | .local _ .vmem, ⟨13, _⟩ => ⟨S12288x2048, .fp8e5m2⟩
  | .local _ .vmem, ⟨14, _⟩ => ⟨S12288x16, .f32⟩
  | .local _ .vmem, ⟨15, _⟩ => ⟨S12288x2048, .fp8e5m2⟩
  | .local _ .vmem, ⟨16, _⟩ => ⟨S12288x768, .fp8e4m3⟩
  | .local _ .vmem, ⟨17, _⟩ => ⟨S12288x768, .fp8e5m2⟩
  | .local _ .vmem, ⟨18, _⟩ => ⟨S12288x6, .f32⟩
  | .local _ .vmem, ⟨19, _⟩ => ⟨S12288x768, .fp8e5m2⟩
  | .local _ .vmem, ⟨20, _⟩ => ⟨S12288x6, .f32⟩
  | .local _ .vmem, ⟨21, _⟩ => ⟨S12288x2048, .fp8e4m3⟩
  | .local _ .vmem, ⟨22, _⟩ => ⟨S12288x768, .fp8e5m2⟩
  | .local _ .vmem, ⟨23, _⟩ => ⟨S12288x768, .fp8e5m2⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev main_v0_10 : Ref sig .tc := ⟨.hbm, 14, rfl⟩
abbrev main_v0_11 : Ref sig .tc := ⟨.hbm, 15, rfl⟩
abbrev main_v0_12 : Ref sig .tc := ⟨.hbm, 16, rfl⟩
abbrev main_v0_13 : Ref sig .tc := ⟨.hbm, 17, rfl⟩
abbrev main_v0_14 : Ref sig .tc := ⟨.hbm, 18, rfl⟩
abbrev main_v0_15 : Ref sig .tc := ⟨.hbm, 19, rfl⟩
abbrev main_v0_16 : Ref sig .tc := ⟨.hbm, 20, rfl⟩
abbrev main_v0_17 : Ref sig .tc := ⟨.hbm, 21, rfl⟩
abbrev main_v0_18 : Ref sig .tc := ⟨.hbm, 22, rfl⟩
abbrev main_v0_19 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S12288x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12288x768 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12288x6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12288x2048 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12288x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12288x2048 .fp8e5m2 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S12288x768 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S12288x768 .fp8e5m2 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S12288x6 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S12288x768 .fp8e5m2 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S12288x6 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S12288x2048 .fp8e4m3 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S12288x768 .fp8e5m2 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S12288x768 .fp8e5m2 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Proof.KernelSame.lean ====
/- The kernel is printed twice, once to be read on machine words and once over the reals, and the two texts are the same program. -/
module

public import proofs.«01_k».proof.Proof.Gen.Kernel
public import proofs.«01_k».proof.Proof.Gen.KernelIdeal
public import Idealize.ShloMosaic.PureOps.BitExact
public import Idealize.ShloMosaic.Lib.Tactic

@[expose] public section

set_option maxRecDepth 65536

noncomputable section

namespace Cert.Kernel.Same

open Idealize.ShloMosaic Idealize.SL.Sem

/-- The first text runs to its end, keeps its operands and leaves every semaphore at zero. -/
def Runs : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

/-- The same of the second text, read on machine words too. -/
def RunsIdeal : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two statements are one: the two programs are equal, term by term. -/
theorem runs_eq : Runs = RunsIdeal := by sl_kernel_rfl

end Cert.Kernel.Same

end
-- ==== Proof.Branches.lean ====
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 47#32)) 0#32) = 1#1
/-- It holds at the last point only — by arithmetic of the point. -/
theorem hcond0_1 : ∀ t : Fin cfg0.N, cond0_1 (grid0.coords t) ↔ t.val % 48 = 47 :=
  (fun t => by
    have ht : t.val < 48 := Nat.lt_of_lt_of_eq t.isLt N_0
    have e0 : (grid0.coords t 0).val = t.val / 1 % 48 := Pipeline.Grid.coords_val t 0 (by decide) rfl
    simp only [cond0_1, e0]
    word_cmp
   : ∀ t : Fin grid0.N, cond0_1 (grid0.coords t) ↔ t.val % 48 = 47)

/-! ## The buffers the body is called on -/

/-- Each window's current staging memref at point `t`, spelled as the pipeline passes it (`bodyAt0`), and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x16 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x768 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x6 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x2048 .fp8e5m2 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x16 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x2048 .fp8e5m2 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x2048 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x768 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S8x768 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x768 .fp8e5m2 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x6 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256x768 .fp8e5m2 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S256x6 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S256x2048 .fp8e4m3 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S8x2048 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S256x768 .fp8e5m2 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S8x768 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S256x768 .fp8e5m2 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S8x768 .f32 := win0_28.stage (cfg0.slots t 28)
abbrev hs0_28 (t : Fin cfg0.N) : (ms0_28 t).IsWhole := hstage0_28 ((cfg0.slots t 28).cast nbuf0_28)
/-- The scratch operands: whole scoped buffers of the kernel's own, passed beside the windows. -/
abbrev scM0_0 : Memref sig .tc .vmem S256x2048 .bf16 := Memref.whole cc0_scratch0
abbrev scM0_1 : Memref sig .tc .vmem S256x2048 .bf16 := Memref.whole cc0_scratch1
abbrev scM0_2 : Memref sig .tc .vmem S256x2048 .bf16 := Memref.whole cc0_scratch2
abbrev scM0_3 : Memref sig .tc .vmem S256x2048 .bf16 := Memref.whole cc0_scratch3
abbrev scM0_4 : Memref sig .tc .vmem S256x768 .bf16 := Memref.whole cc0_scratch4
abbrev scM0_5 : Memref sig .tc .vmem S256x1536 .bf16 := Memref.whole cc0_scratch5
abbrev scM0_6 : Memref sig .tc .vmem S256x768 .bf16 := Memref.whole cc0_scratch6
abbrev scM0_7 : Memref sig .tc .vmem S256x768 .bf16 := Memref.whole cc0_scratch7
abbrev scM0_8 : Memref sig .tc .vmem S256x768 .bf16 := Memref.whole cc0_scratch8
abbrev scM0_9 : Memref sig .tc .vmem S256x512 .f32 := Memref.whole cc0_scratch9
abbrev scM0_10 : Memref sig .tc .vmem S256x256 .f32 := Memref.whole cc0_scratch10

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.KernelIdeal.Gen

end
-- ==== Proof.Blocks.lean ====
module

public import proofs.«01_k».proof.Proof.Branches

/-! What one grid point computes, written once: the quantiser on a 128 × 128 block, the gate's block arithmetic, the products, and the lists of
    block stores each buffer is filled by. Everything here is over any float interpretation `F`; the run of the body is shown equal to these lists. -/

@[expose] public section

noncomputable section

namespace Cert.KernelIdeal.Step

open Idealize.ShloMosaic Cert.KernelIdeal.Gen

variable {F : FTy → Type} [FloatOps F]

/-! ## The quantiser on a block -/

/-- An 8-bit format as the kernel uses it: its type, the reciprocal of its largest value, and the two clipping bounds, as 32-bit words. -/
structure Fmt where
  ty : FTy
  ltB : ty.bits < FTy.bits .bf16
  ltF : ty.bits < FTy.bits .f32
  rc : BitVec 32
  lo : BitVec 32
  hi : BitVec 32

/-- E4M3, largest value 448. -/
abbrev e4 : Fmt := ⟨.fp8e4m3, bitsLt_fp8e4m3_bf16, bitsLt_fp8e4m3_f32, 0x3B124925#32, 0xC3E00000#32, 0x43E00000#32⟩
/-- E5M2, largest value 57344. -/
abbrev e5 : Fmt := ⟨.fp8e5m2, bitsLt_fp8e5m2_bf16, bitsLt_fp8e5m2_f32, 0x37924925#32, 0xC7600000#32, 0x47600000#32⟩

/-- The exponent of the scale of a group whose largest magnitude is `amax`: the exponent of `amax / fmax` plus one, zero where that is zero. -/
def expo (s : Shape) (rc : BitVec 32) (amax : FVec F s .f32) : FVec F s .f32 :=
  let q := mulf amax (broadcast s (Scalar.ofBits .f32 rc))
  select (cmpf .oeq q (broadcast s (Scalar.ofBits .f32 0x00000000#32))) (broadcast s (Scalar.ofBits .f32 0x00000000#32))
    (addf (floor (divf (log q) (log (broadcast s (Scalar.ofBits .f32 0x40000000#32))))) (broadcast s (Scalar.ofBits .f32 0x3F800000#32)))

/-- The scale. -/
def scale (s : Shape) (rc : BitVec 32) (amax : FVec F s .f32) : FVec F s .f32 := exp2 (expo s rc amax)
/-- Its inverse. -/
def inv (s : Shape) (rc : BitVec 32) (amax : FVec F s .f32) : FVec F s .f32 :=
  exp2 (subf (broadcast s (Scalar.ofBits .f32 0x00000000#32)) (expo s rc amax))

/-- The largest magnitude of each row of a bfloat16 block. -/
def rowMaxB (v : FVec F S128x128 .bf16) : FVec F S128x1 .f32 :=
  extf .f32 (shapeCast S128x1 (multiReduction .maximumf [1] S128 (absf v) 0xFF80#16 reduces_S128x128_S128 (.inr rfl) rfl) shapeCasts_S128_S128x1) bitsLt_bf16_f32
/-- The largest magnitude of each row of a float32 block. -/
def rowMaxF (v : FVec F S128x128 .f32) : FVec F S128x1 .f32 :=
  shapeCast S128x1 (multiReduction .maximumf [1] S128 (absf v) 0xFF800000#32 reduces_S128x128_S128 (.inl rfl) rfl) shapeCasts_S128_S128x1
/-- The largest magnitude of each column of a bfloat16 block. -/
def colMaxB (v : FVec F S128x128 .bf16) : FVec F S1x128 .f32 :=
  extf .f32 (shapeCast S1x128 (multiReduction .maximumf [0] S128 (absf v) 0xFF80#16 reduces_S128x128_S128_2 (.inr rfl) rfl) shapeCasts_S128_S1x128) bitsLt_bf16_f32
/-- The largest magnitude of each column of a float32 block. -/
def colMaxF (v : FVec F S128x128 .f32) : FVec F S1x128 .f32 :=
  shapeCast S1x128 (multiReduction .maximumf [0] S128 (absf v) 0xFF800000#32 reduces_S128x128_S128_2 (.inl rfl) rfl) shapeCasts_S128_S1x128

/-- A bfloat16 block times the inverse scales, clipped and rounded to the format. -/
def codesB (f : Fmt) (v : FVec F S128x128 .bf16) (i : FVec F S128x128 .bf16) : FVec F S128x128 f.ty :=
  truncf f.ty (minimumf (broadcast S128x128 (Scalar.truncf .bf16 bitsLt_bf16_f32 (Scalar.ofBits .f32 f.hi)))
    (maximumf (broadcast S128x128 (Scalar.truncf .bf16 bitsLt_bf16_f32 (Scalar.ofBits .f32 f.lo))) (mulf v i))) f.ltB
/-- A float32 block times the inverse scales, clipped and rounded to the format. -/
def codesF (f : Fmt) (v : FVec F S128x128 .f32) (i : FVec F S128x128 .f32) : FVec F S128x128 f.ty :=
  truncf f.ty (minimumf (broadcast S128x128 (Scalar.ofBits .f32 f.hi))
    (maximumf (broadcast S128x128 (Scalar.ofBits .f32 f.lo)) (mulf v i))) f.ltF
/-- Codes times their scales. -/
def wide (f : Fmt) (q : FVec F S128x128 f.ty) (s : FVec F S128x128 .bf16) : FVec F S128x128 .bf16 := mulf (extf .bf16 q f.ltB) s
/-- A block as it is stored in a scratch buffer. -/
def stored (v : FVec F S128x128 .bf16) : FVec F S128x128 .bf16 := shapeCast S128x128 v shapeCasts_S128x128_S128x128

/-- Row scales spread along the rows, and column scales down the columns. -/
def spreadR (s : FVec F S128x1 .f32) : FVec F S128x128 .bf16 := broadcastTo S128x128 (truncf .bf16 s bitsLt_bf16_f32) broadcasts_S128x1_S128x128
def spreadRF (s : FVec F S128x1 .f32) : FVec F S128x128 .f32 := broadcastTo S128x128 s broadcasts_S128x1_S128x128
def spreadC (s : FVec F S1x128 .f32) : FVec F S128x128 .bf16 := broadcastTo S128x128 (truncf .bf16 s bitsLt_bf16_f32) broadcasts_S1x128_S128x128
def spreadCF (s : FVec F S1x128 .f32) : FVec F S128x128 .f32 := broadcastTo S128x128 s broadcasts_S1x128_S128x128

/-- Codes, scales and wide values of a block quantised along rows or columns, from bfloat16 (`B`) or float32 (`F`). -/
def rowScaleB (f : Fmt) (v : FVec F S128x128 .bf16) : FVec F S128x1 .f32 := scale S128x1 f.rc (rowMaxB v)
def rowCodesB (f : Fmt) (v : FVec F S128x128 .bf16) : FVec F S128x128 f.ty := codesB f v (spreadR (inv S128x1 f.rc (rowMaxB v)))
def rowWideB (f : Fmt) (v : FVec F S128x128 .bf16) : FVec F S128x128 .bf16 := wide f (rowCodesB f v) (spreadR (rowScaleB f v))
def rowScaleF (f : Fmt) (v : FVec F S128x128 .f32) : FVec F S128x1 .f32 := scale S128x1 f.rc (rowMaxF v)
def rowCodesF (f : Fmt) (v : FVec F S128x128 .f32) : FVec F S128x128 f.ty := codesF f v (spreadRF (inv S128x1 f.rc (rowMaxF v)))
def rowWideF (f : Fmt) (v : FVec F S128x128 .f32) : FVec F S128x128 .bf16 := wide f (rowCodesF f v) (spreadR (rowScaleF f v))
def colScaleB (f : Fmt) (v : FVec F S128x128 .bf16) : FVec F S1x128 .f32 := scale S1x128 f.rc (colMaxB v)
def colCodesB (f : Fmt) (v : FVec F S128x128 .bf16) : FVec F S128x128 f.ty := codesB f v (spreadC (inv S1x128 f.rc (colMaxB v)))
def colWideB (f : Fmt) (v : FVec F S128x128 .bf16) : FVec F S128x128 .bf16 := wide f (colCodesB f v) (spreadC (colScaleB f v))
def colScaleF (f : Fmt) (v : FVec F S128x128 .f32) : FVec F S1x128 .f32 := scale S1x128 f.rc (colMaxF v)
def colCodesF (f : Fmt) (v : FVec F S128x128 .f32) : FVec F S128x128 f.ty := codesF f v (spreadCF (inv S1x128 f.rc (colMaxF v)))
def colWideF (f : Fmt) (v : FVec F S128x128 .f32) : FVec F S128x128 .bf16 := wide f (colCodesF f v) (spreadC (colScaleF f v))

/-! ## The gate -/

/-- The logistic of a block. -/
def logis (a : FVec F S128x128 .f32) : FVec F S128x128 .f32 :=
  divf (broadcast S128x128 (Scalar.ofBits .f32 0x3F800000#32))
    (addf (broadcast S128x128 (Scalar.ofBits .f32 0x3F800000#32)) (exp (subf (broadcast S128x128 (Scalar.ofBits .f32 0x00000000#32)) a)))
/-- The gated activation `h`, and the gradients `da` and `db`. -/
def gateH (a b : FVec F S128x128 .f32) : FVec F S128x128 .f32 := mulf (mulf a (logis a)) b
def gateA (a b d : FVec F S128x128 .f32) : FVec F S128x128 .f32 :=
  mulf (mulf (mulf d b) (logis a)) (addf (broadcast S128x128 (Scalar.ofBits .f32 0x3F800000#32))
    (mulf a (subf (broadcast S128x128 (Scalar.ofBits .f32 0x3F800000#32)) (logis a))))
def gateB (a d : FVec F S128x128 .f32) : FVec F S128x128 .f32 := mulf (mulf d a) (logis a)

/-! ## Lists of block stores, last first -/

/-- The `n`-th block stored: its half of the 256 rows. -/
abbrev rowOf (n : ℕ) : Fin 2 := ⟨n / 2 % 2, Nat.mod_lt _ (by decide)⟩
/-- Its block column. -/
abbrev colOf (n : ℕ) : ℕ := 2 * (n / 4) + n % 2

/-- The block column of a store is in range. -/
theorem colOf_lt16 (n : Fin 32) : colOf n.val < 16 := by have := n.isLt; unfold colOf; omega
/-- The block column of a store is in range. -/
theorem colOf_lt6 (n : Fin 12) : colOf n.val < 6 := by have := n.isLt; unfold colOf; omega

/-- The 128 by 128 blocks lie in a tile of 2048 columns. -/
theorem inb2048 (r : Fin 2) (k : Fin 16) : ∀ a, (![128 * r.val, 128 * k.val] : Fin S256x2048.rank → ℕ) a + S128x128.size a ≤ S256x2048.size a := by
  intro a; have h1 := r.isLt; have h2 := k.isLt
  fin_cases a
  · show 128 * r.val + 128 ≤ 256; omega
  · show 128 * k.val + 128 ≤ 2048; omega
/-- The scale columns of the blocks lie in a tile of 16. -/
theorem inb16 (r : Fin 2) (k : Fin 16) : ∀ a, (![128 * r.val, k.val] : Fin S256x16.rank → ℕ) a + S128x1.size a ≤ S256x16.size a := by
  intro a; have h1 := r.isLt; have h2 := k.isLt
  fin_cases a
  · show 128 * r.val + 128 ≤ 256; omega
  · show k.val + 1 ≤ 16; omega
/-- The 128 by 128 blocks lie in a tile of 768 columns. -/
theorem inb768 (r : Fin 2) (k : Fin 6) : ∀ a, (![128 * r.val, 128 * k.val] : Fin S256x768.rank → ℕ) a + S128x128.size a ≤ S256x768.size a := by
  intro a; have h1 := r.isLt; have h2 := k.isLt
  fin_cases a
  · show 128 * r.val + 128 ≤ 256; omega
  · show 128 * k.val + 128 ≤ 768; omega
/-- The scale columns of the blocks lie in a tile of 6. -/
theorem inb6 (r : Fin 2) (k : Fin 6) : ∀ a, (![128 * r.val, k.val] : Fin S256x6.rank → ℕ) a + S128x1.size a ≤ S256x6.size a := by
  intro a; have h1 := r.isLt; have h2 := k.isLt
  fin_cases a
  · show 128 * r.val + 128 ≤ 256; omega
  · show k.val + 1 ≤ 6; omega
/-- The blocks lie in the interleaved operand. -/
theorem inb1536 (r : Fin 2) (k : Fin 12) : ∀ a, (![128 * r.val, 128 * k.val] : Fin S256x1536.rank → ℕ) a + S128x128.size a ≤ S256x1536.size a := by
  intro a; have h1 := r.isLt; have h2 := k.isLt
  fin_cases a
  · show 128 * r.val + 128 ≤ 256; omega
  · show 128 * k.val + 128 ≤ 1536; omega
/-- The blocks lie in a product of 512 columns. -/
theorem inb512 (r : Fin 2) (k : Fin 4) : ∀ a, (![128 * r.val, 128 * k.val] : Fin S256x512.rank → ℕ) a + S128x128.size a ≤ S256x512.size a := by
  intro a; have h1 := r.isLt; have h2 := k.isLt
  fin_cases a
  · show 128 * r.val + 128 ≤ 256; omega
  · show 128 * k.val + 128 ≤ 512; omega
/-- The blocks lie in a product of 256 columns. -/
theorem inb256 (r : Fin 2) (k : Fin 2) : ∀ a, (![128 * r.val, 128 * k.val] : Fin S256x256.rank → ℕ) a + S128x128.size a ≤ S256x256.size a := by
  intro a; have h1 := r.isLt; have h2 := k.isLt
  fin_cases a
  · show 128 * r.val + 128 ≤ 256; omega
  · show 128 * k.val + 128 ≤ 256; omega

/-- The 32 blocks of a 256 × 2048 buffer in the order they are stored. -/
def tiles32 {e : EltTy} (pay : Fin 2 → Fin 16 → Vec F S128x128 e) : List (View.Piece (Elt F) S256x2048 e) :=
  (List.finRange 32).reverse.map fun n =>
    ⟨Rect.unit (s := _) ![128 * (rowOf n.val).val, 128 * colOf n.val] S128x128.size (inb2048 (rowOf n.val) ⟨colOf n.val, colOf_lt16 n⟩), pay (rowOf n.val) ⟨colOf n.val, colOf_lt16 n⟩⟩
/-- Their 32 columns of scales. -/
def scales32 (pay : Fin 2 → Fin 16 → Vec F S128x1 .f32) : List (View.Piece (Elt F) S256x16 .f32) :=
  (List.finRange 32).reverse.map fun n =>
    ⟨Rect.unit (s := _) ![128 * (rowOf n.val).val, colOf n.val] S128x1.size (inb16 (rowOf n.val) ⟨colOf n.val, colOf_lt16 n⟩), pay (rowOf n.val) ⟨colOf n.val, colOf_lt16 n⟩⟩
/-- The 12 blocks of a 256 × 768 buffer. -/
def tiles12 {e : EltTy} (pay : Fin 2 → Fin 6 → Vec F S128x128 e) : List (View.Piece (Elt F) S256x768 e) :=
  (List.finRange 12).reverse.map fun n =>
    ⟨Rect.unit (s := _) ![128 * (rowOf n.val).val, 128 * colOf n.val] S128x128.size (inb768 (rowOf n.val) ⟨colOf n.val, colOf_lt6 n⟩), pay (rowOf n.val) ⟨colOf n.val, colOf_lt6 n⟩⟩
/-- Their 12 columns of scales. -/
def scales12 (pay : Fin 2 → Fin 6 → Vec F S128x1 .f32) : List (View.Piece (Elt F) S256x6 .f32) :=
  (List.finRange 12).reverse.map fun n =>
    ⟨Rect.unit (s := _) ![128 * (rowOf n.val).val, colOf n.val] S128x1.size (inb6 (rowOf n.val) ⟨colOf n.val, colOf_lt6 n⟩), pay (rowOf n.val) ⟨colOf n.val, colOf_lt6 n⟩⟩

/-! ## The first half of a point: blocks of `x` and `dy` -/

section
variable {c : Dev nD}
variable (arg1 : Memref sig .tc .vmem S256x2048 .bf16) (harg1 : arg1.IsWhole) (arg2 : Memref sig .tc .vmem S256x2048 .bf16) (harg2 : arg2.IsWhole)
  (arg3 : Memref sig .tc .vmem S2048x1536 .bf16) (harg3 : arg3.IsWhole) (arg4 : Memref sig .tc .vmem S768x2048 .bf16) (harg4 : arg4.IsWhole)
  (arg30 arg31 : Memref sig .tc .vmem S256x2048 .bf16) (arg34 : Memref sig .tc .vmem S256x768 .bf16) (arg35 : Memref sig .tc .vmem S256x1536 .bf16)
  (arg39 : Memref sig .tc .vmem S256x512 .f32) (arg40 : Memref sig .tc .vmem S256x256 .f32)
  (x0 x1 : Vec F S256x2048 .bf16) (x2 : Vec F S2048x1536 .bf16) (x3 : Vec F S768x2048 .bf16)

/-- A block of a 256 × 2048 input. -/
def blk (arg : Memref sig .tc .vmem S256x2048 .bf16) (harg : arg.IsWhole) (x : Vec F S256x2048 .bf16) (r : Fin 2) (k : Fin 16) : Vec F S128x128 .bf16 :=
  View.readAt (Elt F) arg.view (Rect.unit (s := S256x2048) ![128 * r.val, 128 * k.val] S128x128.size (inb2048 r k)).toLoadRect (harg.unread x)

/-- The stores of the wide values of `x` (or `dy`). -/
def wideL (f : Fmt) (arg : Memref sig .tc .vmem S256x2048 .bf16) (harg : arg.IsWhole) (x : Vec F S256x2048 .bf16) : List (View.Piece (Elt F) S256x2048 .bf16) :=
  tiles32 fun r k => stored (rowWideB f (blk arg harg x r k))

/-! ## The gate's inputs -/

/-- The whole of the wide `x`, as read back. -/
def readXw : Vec F S256x2048 .bf16 :=
  arg30.view.readCov (wideL e4 arg1 harg1 x0) (Rect.unit (s := S256x2048) ![0, 0] S256x2048.size inb_S256x2048_S256x2048_0_0).toLoadRect
def readDyw : Vec F S256x2048 .bf16 :=
  arg31.view.readCov (wideL e5 arg2 harg2 x1) (Rect.unit (s := S256x2048) ![0, 0] S256x2048.size inb_S256x2048_S256x2048_0_0).toLoadRect

/-- The groups of 512 columns lie in `w13`. -/
theorem inbW13 (g : Fin 3) : ∀ a, (![0, 512 * g.val] : Fin S2048x1536.rank → ℕ) a + S2048x512.size a ≤ S2048x1536.size a := by
  intro a; have h1 := g.isLt
  fin_cases a
  · show 0 + 2048 ≤ 2048; omega
  · show 512 * g.val + 512 ≤ 1536; omega
/-- The groups of 256 rows lie in `w2`. -/
theorem inbW2 (g : Fin 3) : ∀ a, (![256 * g.val, 0] : Fin S768x2048.rank → ℕ) a + S256x2048.size a ≤ S768x2048.size a := by
  intro a; have h1 := g.isLt
  fin_cases a
  · show 256 * g.val + 256 ≤ 768; omega
  · show 0 + 2048 ≤ 2048; omega

/-- The product of the wide `x` with 512 columns of `w13`. -/
def abPiece (g : Fin 3) : View.Piece (Elt F) S256x512 .f32 :=
  ⟨Rect.unit (s := _) ![0, 0] S256x512.size inb_S256x512_S256x512_0_0,
    shapeCast S256x512 (matmul dot_S256x2048_S2048x512_S256x512_1_0_0_1_n_n none (readXw arg1 harg1 arg30 x0)
      (View.readAt (Elt F) arg3.view (Rect.unit (s := S2048x1536) ![0, 512 * g.val] S2048x512.size (inbW13 g)).toLoadRect (harg3.unread x2)) (constant S256x512 .f32 0x00000000#32))
      shapeCasts_S256x512_S256x512⟩
/-- The product of the wide `dy` with 256 rows of `w2`. -/
def dhPiece (g : Fin 3) : View.Piece (Elt F) S256x256 .f32 :=
  ⟨Rect.unit (s := _) ![0, 0] S256x256.size inb_S256x256_S256x256_0_0,
    shapeCast S256x256 (matmul dot_S256x2048_S256x2048_S256x256_1_1_0_0_n_n none (readDyw arg2 harg2 arg31 x1)
      (View.readAt (Elt F) arg4.view (Rect.unit (s := S768x2048) ![256 * g.val, 0] S256x2048.size (inbW2 g)).toLoadRect (harg4.unread x3)) (constant S256x256 .f32 0x00000000#32))
      shapeCasts_S256x256_S256x256⟩
/-- The stores into the two product buffers up to the `g`-th. -/
def abL (g : ℕ) : List (View.Piece (Elt F) S256x512 .f32) := ((List.finRange 3).take (g + 1)).reverse.map (abPiece arg1 harg1 arg3 harg3 arg30 x0 x2)
def dhL (g : ℕ) : List (View.Piece (Elt F) S256x256 .f32) := ((List.finRange 3).take (g + 1)).reverse.map (dhPiece arg2 harg2 arg4 harg4 arg31 x1 x3)

/-- The block column within its product is in range. -/
theorem half_lt (k : Fin 6) : k.val % 2 < 2 := Nat.mod_lt _ (by decide)
/-- The block column within its product is in range. -/
theorem half_lt4 (k : Fin 6) : k.val % 2 < 4 := by omega
/-- The block column within its product is in range. -/
theorem half_lt4' (k : Fin 6) : 2 + k.val % 2 < 4 := by omega

/-- The gate's three input blocks. -/
def aBlk (r : Fin 2) (k : Fin 6) : FVec F S128x128 .f32 :=
  arg39.view.readCov (abL arg1 harg1 arg3 harg3 arg30 x0 x2 (k.val / 2)) (Rect.unit (s := S256x512) ![128 * r.val, 128 * (k.val % 2)] S128x128.size (inb512 r ⟨k.val % 2, half_lt4 k⟩)).toLoadRect
def bBlk (r : Fin 2) (k : Fin 6) : FVec F S128x128 .f32 :=
  arg39.view.readCov (abL arg1 harg1 arg3 harg3 arg30 x0 x2 (k.val / 2)) (Rect.unit (s := S256x512) ![128 * r.val, 128 * (2 + k.val % 2)] S128x128.size (inb512 r ⟨2 + k.val % 2, half_lt4' k⟩)).toLoadRect
def dhBlk (r : Fin 2) (k : Fin 6) : FVec F S128x128 .f32 :=
  arg40.view.readCov (dhL arg2 harg2 arg4 harg4 arg31 x1 x3 (k.val / 2)) (Rect.unit (s := S256x256) ![128 * r.val, 128 * (k.val % 2)] S128x128.size (inb256 r ⟨k.val % 2, half_lt k⟩)).toLoadRect

/-- The gate's three output blocks. -/
def hBlk (r : Fin 2) (k : Fin 6) : FVec F S128x128 .f32 :=
  gateH (aBlk arg1 harg1 arg3 harg3 arg30 arg39 x0 x2 r k) (bBlk arg1 harg1 arg3 harg3 arg30 arg39 x0 x2 r k)
def daBlk (r : Fin 2) (k : Fin 6) : FVec F S128x128 .f32 :=
  gateA (aBlk arg1 harg1 arg3 harg3 arg30 arg39 x0 x2 r k) (bBlk arg1 harg1 arg3 harg3 arg30 arg39 x0 x2 r k) (dhBlk arg2 harg2 arg4 harg4 arg31 arg40 x1 x3 r k)
def dbBlk (r : Fin 2) (k : Fin 6) : FVec F S128x128 .f32 :=
  gateB (aBlk arg1 harg1 arg3 harg3 arg30 arg39 x0 x2 r k) (dhBlk arg2 harg2 arg4 harg4 arg31 arg40 x1 x3 r k)

/-! ## The second half: the products that use the gate's outputs -/

/-- The block column in the interleaved operand is in range. -/
theorem dabCol_lt (n : Fin 24) : 4 * (n.val / 2 / 4) + 2 * (n.val % 2) + n.val / 2 % 2 < 12 := by have := n.isLt; omega
/-- The block column of a store is in range. -/
theorem colOf_lt24 (n : Fin 24) : colOf (n.val / 2) < 6 := by have := n.isLt; unfold colOf; omega

/-- A wide block of `da` (`t = 0`) or of `db`. -/
def dabPay (t : ℕ) (r : Fin 2) (k : Fin 6) : FVec F S128x128 .bf16 :=
  if t = 0 then stored (rowWideF e5 (daBlk arg1 harg1 arg2 harg2 arg3 harg3 arg4 harg4 arg30 arg31 arg39 arg40 x0 x1 x2 x3 r k))
  else stored (rowWideF e5 (dbBlk arg1 harg1 arg2 harg2 arg3 harg3 arg4 harg4 arg30 arg31 arg39 arg40 x0 x1 x2 x3 r k))
/-- The stores of the wide gradients `da` and `db`, side by side in pairs of 256 columns. -/
def dabL : List (View.Piece (Elt F) S256x1536 .bf16) :=
  (List.finRange 24).reverse.map fun n =>
    ⟨Rect.unit (s := _) ![128 * (rowOf (n.val / 2)).val, 128 * (4 * (n.val / 2 / 4) + 2 * (n.val % 2) + n.val / 2 % 2)] S128x128.size
        (inb1536 (rowOf (n.val / 2)) ⟨_, dabCol_lt n⟩),
      dabPay arg1 harg1 arg2 harg2 arg3 harg3 arg4 harg4 arg30 arg31 arg39 arg40 x0 x1 x2 x3 (n.val % 2) (rowOf (n.val / 2)) ⟨colOf (n.val / 2), colOf_lt24 n⟩⟩

/-- The stores of the wide `h`. -/
def hwL : List (View.Piece (Elt F) S256x768 .bf16) :=
  tiles12 fun r k => stored (rowWideF e4 (hBlk arg1 harg1 arg3 harg3 arg30 arg39 x0 x2 r k))

def readHw : Vec F S256x768 .bf16 :=
  arg34.view.readCov (hwL arg1 harg1 arg3 harg3 arg30 arg39 x0 x2) (Rect.unit (s := S256x768) ![0, 0] S256x768.size inb_S256x768_S256x768_0_0).toLoadRect
def readDab : Vec F S256x1536 .bf16 :=
  arg35.view.readCov (dabL arg1 harg1 arg2 harg2 arg3 harg3 arg4 harg4 arg30 arg31 arg39 arg40 x0 x1 x2 x3)
    (Rect.unit (s := S256x1536) ![0, 0] S256x1536.size inb_S256x1536_S256x1536_0_0).toLoadRect

/-- The groups of 512 columns lie in the output tile. -/
theorem inbY (g : Fin 4) : ∀ a, (![0, 512 * g.val] : Fin S256x2048.rank → ℕ) a + S256x512.size a ≤ S256x2048.size a := by
  intro a; have h1 := g.isLt
  fin_cases a
  · show 0 + 256 ≤ 256; omega
  · show 512 * g.val + 512 ≤ 2048; omega
/-- The groups of 512 columns lie in `w2`. -/
theorem inbW2c (g : Fin 4) : ∀ a, (![0, 512 * g.val] : Fin S768x2048.rank → ℕ) a + S768x512.size a ≤ S768x2048.size a := by
  intro a; have h1 := g.isLt
  fin_cases a
  · show 0 + 768 ≤ 768; omega
  · show 512 * g.val + 512 ≤ 2048; omega
/-- The groups of 512 rows lie in `w13`. -/
theorem inbW13r (g : Fin 4) : ∀ a, (![512 * g.val, 0] : Fin S2048x1536.rank → ℕ) a + S512x1536.size a ≤ S2048x1536.size a := by
  intro a; have h1 := g.isLt
  fin_cases a
  · show 512 * g.val + 512 ≤ 2048; omega
  · show 0 + 1536 ≤ 1536; omega

/-- The stores of `y` and of `dx`, 512 columns each. -/
def yL : List (View.Piece (Elt F) S256x2048 .bf16) :=
  (List.finRange 4).reverse.map fun g =>
    ⟨Rect.unit (s := _) ![0, 512 * g.val] S256x512.size (inbY g),
      truncf .bf16 (matmul dot_S256x768_S768x512_S256x512_1_0_0_1_n_n none (readHw arg1 harg1 arg3 harg3 arg30 arg34 arg39 x0 x2)
        (View.readAt (Elt F) arg4.view (Rect.unit (s := S768x2048) ![0, 512 * g.val] S768x512.size (inbW2c g)).toLoadRect (harg4.unread x3))
        (constant S256x512 .f32 0x00000000#32)) bitsLt_bf16_f32⟩
def dxL : List (View.Piece (Elt F) S256x2048 .bf16) :=
  (List.finRange 4).reverse.map fun g =>
    ⟨Rect.unit (s := _) ![0, 512 * g.val] S256x512.size (inbY g),
      truncf .bf16 (matmul dot_S256x1536_S512x1536_S256x512_1_1_0_0_n_n none
        (readDab arg1 harg1 arg2 harg2 arg3 harg3 arg4 harg4 arg30 arg31 arg35 arg39 arg40 x0 x1 x2 x3)
        (View.readAt (Elt F) arg3.view (Rect.unit (s := S2048x1536) ![512 * g.val, 0] S512x1536.size (inbW13r g)).toLoadRect (harg3.unread x2))
        (constant S256x512 .f32 0x00000000#32)) bitsLt_bf16_f32⟩

end

/-! ## The accumulated gradients -/

section
variable (arg7 : Memref sig .tc .vmem S2048x768 .f32) (harg7 : arg7.IsWhole) (arg9 : Memref sig .tc .vmem S768x2048 .f32) (harg9 : arg9.IsWhole)
  (arg32 : Memref sig .tc .vmem S256x2048 .bf16) (harg32 : arg32.IsWhole) (arg33 : Memref sig .tc .vmem S256x2048 .bf16) (harg33 : arg33.IsWhole)
  (arg36 : Memref sig .tc .vmem S256x768 .bf16) (harg36 : arg36.IsWhole) (arg37 : Memref sig .tc .vmem S256x768 .bf16) (harg37 : arg37.IsWhole)
  (h6 : Vec F S2048x768 .f32) (h8 : Vec F S768x2048 .f32) (hs2 hs3 : Vec F S256x2048 .bf16) (hs6 hs7 : Vec F S256x768 .bf16)

/-- The groups of 256 rows lie in a weight gradient. -/
theorem inbDw (c : Fin 8) : ∀ a, (![256 * c.val, 0] : Fin S2048x768.rank → ℕ) a + S256x768.size a ≤ S2048x768.size a := by
  intro a; have h1 := c.isLt
  fin_cases a
  · show 256 * c.val + 256 ≤ 2048; omega
  · show 0 + 768 ≤ 768; omega
/-- The groups of 256 columns lie in a tile. -/
theorem inbXc (c : Fin 8) : ∀ a, (![0, 256 * c.val] : Fin S256x2048.rank → ℕ) a + S256x256.size a ≤ S256x2048.size a := by
  intro a; have h1 := c.isLt
  fin_cases a
  · show 0 + 256 ≤ 256; omega
  · show 256 * c.val + 256 ≤ 2048; omega

/-- A gradient's 256 rows with one more product added. -/
def addProd (w : FVec F S256x768 .f32) (p : FVec F S256x256 .bf16) (q : FVec F S256x768 .bf16) : FVec F S256x768 .f32 :=
  addf (shapeCast S256x768 w shapeCasts_S256x768_S256x768)
    (matmul dot_S256x256_S256x768_S256x768_0_0_1_1_n_n none p q (constant S256x768 .f32 0x00000000#32))
/-- The other gradient's 512 columns with one more product added. -/
def addProd2 (w : FVec F S768x512 .f32) (p : FVec F S256x768 .bf16) (q : FVec F S256x512 .bf16) : FVec F S768x512 .f32 :=
  addf (shapeCast S768x512 w shapeCasts_S768x512_S768x512)
    (matmul dot_S256x768_S256x512_S768x512_0_0_1_1_n_n none p q (constant S768x512 .f32 0x00000000#32))

/-- The stores into `dw1` (or `dw3`) at a middle point. -/
def dwL : List (View.Piece (Elt F) S2048x768 .f32) :=
  (List.finRange 8).reverse.map fun c =>
    ⟨Rect.unit (s := _) ![256 * c.val, 0] S256x768.size (inbDw c),
      addProd (View.readAt (Elt F) arg7.view (Rect.unit (s := S2048x768) ![256 * c.val, 0] S256x768.size (inbDw c)).toLoadRect (harg7.unread h6))
        (View.readAt (Elt F) arg32.view (Rect.unit (s := S256x2048) ![0, 256 * c.val] S256x256.size (inbXc c)).toLoadRect (harg32.unread hs2))
        (View.readAt (Elt F) arg37.view (Rect.unit (s := S256x768) ![0, 0] S256x768.size inb_S256x768_S256x768_0_0).toLoadRect (harg37.unread hs7))⟩
/-- The stores into `dw2` at a middle point. -/
def dw2L : List (View.Piece (Elt F) S768x2048 .f32) :=
  (List.finRange 4).reverse.map fun g =>
    ⟨Rect.unit (s := _) ![0, 512 * g.val] S768x512.size (inbW2c g),
      addProd2 (View.readAt (Elt F) arg9.view (Rect.unit (s := S768x2048) ![0, 512 * g.val] S768x512.size (inbW2c g)).toLoadRect (harg9.unread h8))
        (View.readAt (Elt F) arg36.view (Rect.unit (s := S256x768) ![0, 0] S256x768.size inb_S256x768_S256x768_0_0).toLoadRect (harg36.unread hs6))
        (View.readAt (Elt F) arg33.view (Rect.unit (s := S256x2048) ![0, 512 * g.val] S256x512.size (inbY g)).toLoadRect (harg33.unread hs3))⟩

end

end Cert.KernelIdeal.Step

end
-- ==== Proof.Grads.lean ====
/- The stores into the weight gradients and into the buffers that carry a point's column-quantised values to the next one. -/
module

public import proofs.«01_k».proof.Proof.Blocks

@[expose] public section

noncomputable section

namespace Cert.KernelIdeal.Step

open Idealize.ShloMosaic Idealize.ShloMosaic.TcCoe Idealize.ShloMosaic.Tactic
open Cert.KernelIdeal.Gen

variable {F : FTy → Type} [FloatOps F]

/-! ## What a point leaves for the next -/

section
variable (arg1 : Memref sig .tc .vmem S256x2048 .bf16) (harg1 : arg1.IsWhole) (arg2 : Memref sig .tc .vmem S256x2048 .bf16) (harg2 : arg2.IsWhole)
  (arg3 : Memref sig .tc .vmem S2048x1536 .bf16) (harg3 : arg3.IsWhole) (arg4 : Memref sig .tc .vmem S768x2048 .bf16) (harg4 : arg4.IsWhole)
  (arg30 arg31 : Memref sig .tc .vmem S256x2048 .bf16) (arg39 : Memref sig .tc .vmem S256x512 .f32) (arg40 : Memref sig .tc .vmem S256x256 .f32)
  (x0 x1 : Vec F S256x2048 .bf16) (x2 : Vec F S2048x1536 .bf16) (x3 : Vec F S768x2048 .bf16)

/-- The wide column-quantised values: of the widened `x`, -/
def xcwL : List (View.Piece (Elt F) S256x2048 .bf16) := tiles32 fun r k => stored (colWideB e4 (rowWideB e4 (blk arg1 harg1 x0 r k)))
/-- of `dy`, -/
def dycwL : List (View.Piece (Elt F) S256x2048 .bf16) := tiles32 fun r k => stored (colWideB e5 (blk arg2 harg2 x1 r k))
/-- of the widened `h`, -/
def hcwL : List (View.Piece (Elt F) S256x768 .bf16) :=
  tiles12 fun r k => stored (colWideB e4 (rowWideF e4 (hBlk arg1 harg1 arg3 harg3 arg30 arg39 x0 x2 r k)))
/-- of `da` -/
def dacwL : List (View.Piece (Elt F) S256x768 .bf16) :=
  tiles12 fun r k => stored (colWideF e5 (daBlk arg1 harg1 arg2 harg2 arg3 harg3 arg4 harg4 arg30 arg31 arg39 arg40 x0 x1 x2 x3 r k))
/-- and of `db`. -/
def dbcwL : List (View.Piece (Elt F) S256x768 .bf16) :=
  tiles12 fun r k => stored (colWideF e5 (dbBlk arg1 harg1 arg2 harg2 arg3 harg3 arg4 harg4 arg30 arg31 arg39 arg40 x0 x1 x2 x3 r k))
end

/-! ## The first point: everything starts at zero -/

/-- A bf16 buffer of 2048 columns filled with zero. -/
def zero2048 : View.Piece (Elt F) S256x2048 .bf16 := ⟨Rect.unit (s := _) ![0, 0] S256x2048.size inb_S256x2048_S256x2048_0_0, constant S256x2048 .bf16 0x0000#16⟩
/-- A bf16 buffer of 768 columns filled with zero. -/
def zero768 : View.Piece (Elt F) S256x768 .bf16 := ⟨Rect.unit (s := _) ![0, 0] S256x768.size inb_S256x768_S256x768_0_0, constant S256x768 .bf16 0x0000#16⟩
/-- A gradient filled with zero. -/
def zeroDw : View.Piece (Elt F) S2048x768 .f32 := ⟨Rect.unit (s := _) ![0, 0] S2048x768.size inb_S2048x768_S2048x768_0_0, constant S2048x768 .f32 0x00000000#32⟩
/-- The other gradient filled with zero. -/
def zeroDw2 : View.Piece (Elt F) S768x2048 .f32 := ⟨Rect.unit (s := _) ![0, 0] S768x2048.size inb_S768x2048_S768x2048_0_0, constant S768x2048 .f32 0x00000000#32⟩

/-! ## The last point: its own products are added too -/

section
variable (a : Memref sig .tc .vmem S2048x768 .f32) (a2 : Memref sig .tc .vmem S768x2048 .f32) (p : Memref sig .tc .vmem S256x2048 .bf16) (q : Memref sig .tc .vmem S256x768 .bf16)
  (L : List (View.Piece (Elt F) S2048x768 .f32)) (L2 : List (View.Piece (Elt F) S768x2048 .f32))
  (P : List (View.Piece (Elt F) S256x2048 .bf16)) (Q : List (View.Piece (Elt F) S256x768 .bf16))

/-- The first `n` groups of rows of `dw1` (or `dw3`), over earlier stores `L`, with the product of what `P` and `Q` left added. -/
def dwC : ℕ → List (View.Piece (Elt F) S2048x768 .f32)
  | 0 => L
  | n + 1 => if h : n < 8 then
      ⟨Rect.unit (s := _) ![256 * n, 0] S256x768.size (inbDw ⟨n, h⟩),
        addProd (a.view.readCov (dwC n) (Rect.unit (s := S2048x768) ![256 * n, 0] S256x768.size (inbDw ⟨n, h⟩)).toLoadRect)
          (p.view.readCov P (Rect.unit (s := S256x2048) ![0, 256 * n] S256x256.size (inbXc ⟨n, h⟩)).toLoadRect)
          (q.view.readCov Q (Rect.unit (s := S256x768) ![0, 0] S256x768.size inb_S256x768_S256x768_0_0).toLoadRect)⟩ :: dwC n
    else dwC n
/-- The same at the first point, before group `n` of which the first `4 * n` of the stores `T` have been made over a zero. -/
def dwA (T : List (View.Piece (Elt F) S256x2048 .bf16)) : ℕ → List (View.Piece (Elt F) S2048x768 .f32)
  | 0 => [zeroDw]
  | n + 1 => if h : n < 8 then
      ⟨Rect.unit (s := _) ![256 * n, 0] S256x768.size (inbDw ⟨n, h⟩),
        addProd (a.view.readCov (dwA T n) (Rect.unit (s := S2048x768) ![256 * n, 0] S256x768.size (inbDw ⟨n, h⟩)).toLoadRect)
          (p.view.readCov (T.drop (32 - 4 * n) ++ [zero2048]) (Rect.unit (s := S256x2048) ![0, 256 * n] S256x256.size (inbXc ⟨n, h⟩)).toLoadRect)
          (q.view.readCov [zero768] (Rect.unit (s := S256x768) ![0, 0] S256x768.size inb_S256x768_S256x768_0_0).toLoadRect)⟩ :: dwA T n
    else dwA T n
/-- The first `n` groups of columns of `dw2`, likewise. -/
def dw2C : ℕ → List (View.Piece (Elt F) S768x2048 .f32)
  | 0 => L2
  | n + 1 => if h : n < 4 then
      ⟨Rect.unit (s := _) ![0, 512 * n] S768x512.size (inbW2c ⟨n, h⟩),
        addProd2 (a2.view.readCov (dw2C n) (Rect.unit (s := S768x2048) ![0, 512 * n] S768x512.size (inbW2c ⟨n, h⟩)).toLoadRect)
          (q.view.readCov Q (Rect.unit (s := S256x768) ![0, 0] S256x768.size inb_S256x768_S256x768_0_0).toLoadRect)
          (p.view.readCov P (Rect.unit (s := S256x2048) ![0, 512 * n] S256x512.size (inbY ⟨n, h⟩)).toLoadRect)⟩ :: dw2C n
    else dw2C n
end

end Cert.KernelIdeal.Step

end
-- ==== Proof.Spec.lean ====
/- The step's mathematics over the extended reals, entry by entry: arrays are functions of two naturals, so that a block, a tile of 256
   rows and the whole array are read by the same definitions at an offset. -/
module

public import Idealize.ShloMosaic.PureOps.Ideal
public import Idealize.ShloMosaic.Lib.MatmulPlain
public import Idealize.ShloMosaic.Lib.Pipeline.Value

@[expose] public section

noncomputable section

namespace Cert.Spec

open Idealize.ShloMosaic Idealize.ShloMosaic.ValueIdx

/-- An array of extended reals. -/
abbrev Mat := ℕ → ℕ → EReal

/-- The extended real a 32-bit word means. -/
abbrev word (w : BitVec 32) : EReal := FloatOps.ofBits (F := Ideal) .f32 w

/-- A number format's constants: one over its largest value, and its least and largest values. -/
structure Num where
  rc : BitVec 32
  lo : BitVec 32
  hi : BitVec 32

/-- E4M3, largest value 448. -/
abbrev n4 : Num := ⟨0x3B124925#32, 0xC3E00000#32, 0x43E00000#32⟩
/-- E5M2, largest value 57344. -/
abbrev n5 : Num := ⟨0x37924925#32, 0xC7600000#32, 0x47600000#32⟩

/-! ## The quantiser -/

/-- The exponent of the scale of a group whose largest magnitude is `m`: that of the power of two above `m / fmax`, zero if `m` is. -/
def expo (rc : BitVec 32) (m : EReal) : EReal :=
  Scalar.select (FloatOps.cmpf (F := Ideal) (φ := .f32) .oeq (m * word rc) (word 0x00000000#32)) (word 0x00000000#32)
    (Ideal.liftRound Int.floor (Ideal.div (Ideal.log (m * word rc)) (Ideal.log (word 0x40000000#32))) + word 0x3F800000#32)
/-- The scale. -/
def scale (rc : BitVec 32) (m : EReal) : EReal := Ideal.exp2 (expo rc m)
/-- Its inverse. -/
def inv (rc : BitVec 32) (m : EReal) : EReal := Ideal.exp2 (word 0x00000000#32 - expo rc m)
/-- The code of a value in a group whose largest magnitude is `m`: the value times the inverse scale, clipped. -/
def code (f : Num) (v m : EReal) : EReal := min (word f.hi) (max (word f.lo) (v * inv f.rc m))

/-- The largest of 128 magnitudes. -/
def amax (g : Fin 128 → EReal) : EReal := (Finset.univ : Finset (Fin 128)).fold max (word 0xFF800000#32) fun p => max (g p) (-(g p))
/-- The largest magnitude of 128 columns of row `i` from column `j`. -/
def rowMax (M : Mat) (i j : ℕ) : EReal := amax fun q => M i (j + q.val)
/-- The largest magnitude of 128 rows of column `j` from row `i`. -/
def colMax (M : Mat) (i j : ℕ) : EReal := amax fun p => M (i + p.val) j

/-- Codes, scales, and the product of both, of an array quantised in groups of 128 along its rows. -/
def rowCode (f : Num) (M : Mat) : Mat := fun i j => code f (M i j) (rowMax M i (128 * (j / 128)))
def rowScale (f : Num) (M : Mat) : Mat := fun i k => scale f.rc (rowMax M i (128 * k))
def rowWide (f : Num) (M : Mat) : Mat := fun i j => rowCode f M i j * scale f.rc (rowMax M i (128 * (j / 128)))
/-- The same along its columns. -/
def colCode (f : Num) (M : Mat) : Mat := fun i j => code f (M i j) (colMax M (128 * (i / 128)) j)
def colScale (f : Num) (M : Mat) : Mat := fun k j => scale f.rc (colMax M (128 * k) j)
def colWide (f : Num) (M : Mat) : Mat := fun i j => colCode f M i j * scale f.rc (colMax M (128 * (i / 128)) j)

/-- The first `n` rows of `X`, transposed, times those of `Y`. -/
def rowsProd (n : ℕ) (X Y : Mat) : Mat := fun i j => ∑ l : Fin n, X l.val i * Y l.val j

/-! ## The gate -/

/-- The logistic function. -/
def logis (a : EReal) : EReal := Ideal.div (word 0x3F800000#32) (word 0x3F800000#32 + Ideal.exp (word 0x00000000#32 - a))
/-- The gated activation and the two gradients. -/
def gH (a b : EReal) : EReal := a * logis a * b
def gA (a b d : EReal) : EReal := d * b * logis a * (word 0x3F800000#32 + a * (word 0x3F800000#32 - logis a))
def gB (a d : EReal) : EReal := d * a * logis a

/-! ## The step -/

/-- The step's operands. -/
structure Ops where
  x : Mat
  dy : Mat
  w13 : Mat
  w2 : Mat

namespace Ops

variable (I : Ops)

/-- The operands with their first `n` rows of tokens dropped. -/
def drop (n : ℕ) : Ops := ⟨fun i j => I.x (n + i) j, fun i j => I.dy (n + i) j, I.w13, I.w2⟩

def xw : Mat := rowWide n4 I.x
def dyw : Mat := rowWide n5 I.dy
/-- Of each 512 columns of `w13` the first 256 are columns of `w1`, the others of `w3`. -/
def w1 : Mat := fun l j => I.w13 l (512 * (j / 256) + j % 256)
def w3 : Mat := fun l j => I.w13 l (512 * (j / 256) + 256 + j % 256)
def a : Mat := fun i j => ∑ l : Fin 2048, I.xw i l.val * I.w1 l.val j
def b : Mat := fun i j => ∑ l : Fin 2048, I.xw i l.val * I.w3 l.val j
def dh : Mat := fun i j => ∑ l : Fin 2048, I.dyw i l.val * I.w2 j l.val
def h : Mat := fun i j => gH (I.a i j) (I.b i j)
def da : Mat := fun i j => gA (I.a i j) (I.b i j) (I.dh i j)
def db : Mat := fun i j => gB (I.a i j) (I.dh i j)
def hw : Mat := rowWide n4 I.h
def daw : Mat := rowWide n5 I.da
def dbw : Mat := rowWide n5 I.db
def y : Mat := fun i j => ∑ l : Fin 768, I.hw i l.val * I.w2 l.val j
def dx : Mat := fun i j => (∑ l : Fin 768, I.daw i l.val * I.w1 j l.val) + ∑ l : Fin 768, I.dbw i l.val * I.w3 j l.val
def xcw : Mat := colWide n4 I.xw
def dycw : Mat := colWide n5 I.dy
def hcw : Mat := colWide n4 I.hw
def dacw : Mat := colWide n5 I.da
def dbcw : Mat := colWide n5 I.db
/-- The weight gradients. -/
def dw1 : Mat := rowsProd 12288 I.xcw I.dacw
def dw3 : Mat := rowsProd 12288 I.xcw I.dbcw
def dw2 : Mat := rowsProd 12288 I.hcw I.dycw

end Ops

/-! ## Products over rows -/

/-- A product over more rows is the product over the first and over the others. -/
theorem rowsProd_add (n k : ℕ) (X Y : Mat) (i j : ℕ) :
    rowsProd n X Y i j + rowsProd k (fun l => X (n + l)) (fun l => Y (n + l)) i j = rowsProd (n + k) X Y i j := by
  unfold rowsProd; rw [Fin.sum_univ_add]; rfl

/-- A product contracted over the rows of both operands. -/
abbrev rowsDot (M K N : ℕ) (wf : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- Its entries. -/
theorem matmul_rows_apply {M K N : ℕ} (wf : DotDims.WF ⟨2, ![K, M]⟩ ⟨2, ![K, N]⟩ ⟨2, ![M, N]⟩ [0] [0] [1] [1] [] []) {φ₁ φ₂ : FTy} (prec : Option ContractPrecision)
    (u : FVec Ideal ⟨2, ![K, M]⟩ φ₁) (v : FVec Ideal ⟨2, ![K, N]⟩ φ₂) (acc : FVec Ideal ⟨2, ![M, N]⟩ .f32) (r : Fin M) (c : Fin N) :
    FloatOps.matmul (rowsDot M K N wf) prec u v acc (ix2 r c) = acc (ix2 r c) + ∑ k : Fin K, u (ix2 k r) * v (ix2 k c) := by
  have hr : (rowsDot M K N wf).contr.rank = 1 := rfl
  have hs : (rowsDot M K N wf).contr.size ⟨0, by rw [hr]; exact Nat.one_pos⟩ = K := rfl
  rw [Ideal.matmul_apply, ← Equiv.sum_comp (contrEquiv1 _ K hr hs).symm]
  refine congrArg (acc (ix2 r c) + ·) (Finset.sum_congr rfl fun k _ => ?_)
  have hk := contrEquiv1_symm_val _ K hr hs k
  have el : (rowsDot M K N wf).lhsIdx (ix2 r c) ((contrEquiv1 _ K hr hs).symm k) = ix2 k r := by
    funext a; apply Fin.ext
    match a with
    | ⟨0, _⟩ => exact hk
    | ⟨1, _⟩ => rfl
  have er : (rowsDot M K N wf).rhsIdx (ix2 r c) ((contrEquiv1 _ K hr hs).symm k) = ix2 k c := by
    funext a; apply Fin.ext
    match a with
    | ⟨0, _⟩ => exact hk
    | ⟨1, _⟩ => rfl
  rw [el, er]

/-! ## Dropping rows -/

/-- Quantising along columns commutes with dropping a whole number of groups of rows. -/
theorem colCode_drop (f : Num) (M : Mat) (n : ℕ) (i j : ℕ) :
    colCode f (fun i j => M (128 * n + i) j) i j = colCode f M (128 * n + i) j := by
  have e : 128 * ((128 * n + i) / 128) = 128 * n + 128 * (i / 128) := by omega
  unfold colCode colMax; rw [e]; simp only [Nat.add_assoc]
/-- The same for the widened column codes. -/
theorem colWide_drop (f : Num) (M : Mat) (n : ℕ) (i j : ℕ) :
    colWide f (fun i j => M (128 * n + i) j) i j = colWide f M (128 * n + i) j := by
  have e : 128 * ((128 * n + i) / 128) = 128 * n + 128 * (i / 128) := by omega
  unfold colWide; rw [colCode_drop]; unfold colMax; rw [e]; simp only [Nat.add_assoc]

/-! ## Reading arrays -/

/-- An array's values as a function of naturals (zero out of range). -/
def of {m n : ℕ} {φ : FTy} (v : FVec Ideal ⟨2, ![m, n]⟩ φ) : Mat := fun i j =>
  if h : i < m ∧ j < n then v (ix2 ⟨i, h.1⟩ ⟨j, h.2⟩) else (0 : EReal)

/-- An entry read at two indices in range. -/
theorem of_ix2 {m n : ℕ} {φ : FTy} (v : FVec Ideal ⟨2, ![m, n]⟩ φ) (p : Fin m) (q : Fin n) : of v p.val q.val = v (ix2 p q) :=
  dif_pos ⟨p.isLt, q.isLt⟩

/-- An entry read at two naturals in range. -/
theorem of_eq {m n : ℕ} {φ : FTy} (v : FVec Ideal ⟨2, ![m, n]⟩ φ) (i j : ℕ) (hi : i < m) (hj : j < n) :
    of v i j = v (ix2 ⟨i, hi⟩ ⟨j, hj⟩) := dif_pos ⟨hi, hj⟩

/-- The array of a function's values. -/
def arr (m n : ℕ) (φ : FTy) (M : Mat) : FVec Ideal ⟨2, ![m, n]⟩ φ := fun y => M (y 0).val (y 1).val

/-- Reading the array of a function's values gives the function. -/
theorem of_arr {m n : ℕ} {φ : FTy} (M : Mat) (i j : ℕ) (hi : i < m) (hj : j < n) : of (arr m n φ M) i j = M i j := of_eq _ i j hi hj

end Cert.Spec

end
-- ==== Proof.BlockRead.lean ====
/- The quantiser and the gate on a 128 × 128 block, read at an entry: they are the entrywise mathematics of the array the block is
   cut from. -/
module

public import proofs.«01_k».proof.Proof.Blocks
public import proofs.«01_k».proof.Proof.Spec

@[expose] public section

set_option maxRecDepth 16384

noncomputable section

namespace Cert.KernelIdeal.Step

open Idealize.ShloMosaic Idealize.ShloMosaic.ValueIdx Cert.Spec Cert.KernelIdeal.Gen

/-- The constants of a format. -/
abbrev Fmt.num (f : Fmt) : Num := ⟨f.rc, f.lo, f.hi⟩

/-- Block `v` is the array `M` from row `i` and column `j`. -/
def Is {φ : FTy} (v : FVec Ideal S128x128 φ) (M : Mat) (i j : ℕ) : Prop := ∀ p q : Fin 128, v (ix2 p q) = M (i + p.val) (j + q.val)

/-- Over the extended reals a change of format changes nothing. -/
theorem extf_at {s : Shape} {φ ψ : FTy} (x : FVec Ideal s φ) (h : φ.bits < ψ.bits) (k : s.Idx) : extf ψ x h k = x k := rfl
/-- Over the reals narrowing a vector changes no entry. -/
theorem truncf_at {s : Shape} {φ ψ : FTy} (x : FVec Ideal s φ) (h : ψ.bits < φ.bits) (k : s.Idx) : truncf ψ x h k = x k := rfl
/-- Over the reals narrowing a scalar changes nothing. -/
theorem truncS (x : Ideal .f32) : Scalar.truncf (F := Ideal) .bf16 bitsLt_bf16_f32 x = x := rfl

/-- A code is the scaled value clipped (bf16 block). -/
theorem codesB_at (f : Fmt) (v w : FVec Ideal S128x128 .bf16) (k : S128x128.Idx) :
    codesB f v w k = min (word f.hi) (max (word f.lo) (v k * w k)) := by
  unfold codesB; rw [truncf_at, truncS, truncS]; rfl
/-- A code is the scaled value clipped (f32 block). -/
theorem codesF_at (f : Fmt) (v w : FVec Ideal S128x128 .f32) (k : S128x128.Idx) :
    codesF f v w k = min (word f.hi) (max (word f.lo) (v k * w k)) := by
  unfold codesF; rw [truncf_at]; rfl
/-- A code widened is the code times its scale. -/
theorem wide_at (f : Fmt) (q : FVec Ideal S128x128 f.ty) (s : FVec Ideal S128x128 .bf16) (k : S128x128.Idx) : wide f q s k = q k * s k := rfl

/-- The least value in bf16 and in f32 is the same extended real. -/
theorem neg_inf_word : (FloatOps.ofBits (F := Ideal) .bf16 0xFF80#16 : EReal) = word 0xFF800000#32 := by
  simp [Ideal.ofBits, Ideal.ieee]

section
variable {φ : FTy} {M : Mat} {i j : ℕ}

/-- The entries a maximum along a row runs over. -/
theorem lift_row (p q : Fin 128) : (reduces_S128x128_S128.lift (ix1 p) q) = ix2 p q := by
  funext a; apply Fin.ext
  match a with
  | ⟨0, _⟩ => rfl
  | ⟨1, _⟩ => rfl
/-- The entries a maximum along a column runs over. -/
theorem lift_col (p q : Fin 128) : (reduces_S128x128_S128_2.lift (ix1 q) p) = ix2 p q := by
  funext a; apply Fin.ext
  match a with
  | ⟨0, _⟩ => rfl
  | ⟨1, _⟩ => rfl

/-- A vector made a column keeps its entries. -/
theorem cast_row {α : Type} (x : S128.Idx → α) (p : Fin 128) (z : Fin 1) : shapeCast S128x1 x shapeCasts_S128_S128x1 (ix2 p z) = x (ix1 p) :=
  shapeCast_apply x _ _ _ (by rw [Shape.rowMajor_val_two]; have := z.isLt; show (Shape.rowMajor _ _).val = p.val * 1 + z.val; rw [Shape.rowMajor_val_one]; show p.val = _; omega)
/-- A vector made a row keeps its entries. -/
theorem cast_col {α : Type} (x : S128.Idx → α) (z : Fin 1) (q : Fin 128) : shapeCast S1x128 x shapeCasts_S128_S1x128 (ix2 z q) = x (ix1 q) :=
  shapeCast_apply x _ _ _ (by rw [Shape.rowMajor_val_two]; have := z.isLt; show (Shape.rowMajor _ _).val = z.val * 128 + q.val; rw [Shape.rowMajor_val_one]; show q.val = _; omega)

/-- The largest magnitude of a row of a block is that of the array there (f32 block). -/
theorem rowMaxF_at {v : FVec Ideal S128x128 .f32} (hv : Is v M i j) (p : Fin 128) (z : Fin 1) : rowMaxF v (ix2 p z) = rowMax M (i + p.val) j := by
  unfold rowMaxF; refine (cast_row _ p z).trans ((Ideal.multiReduction_maximumf_single (absf v) _ reduces_S128x128_S128 _ _ (ix1 p)).trans ?_)
  unfold rowMax amax
  congr 1; funext q
  exact congrArg (fun t : EReal => max t (-t)) ((congrArg v (lift_row p q)).trans (hv p q))
/-- The largest magnitude of a row of a block is that of the array there (bf16 block). -/
theorem rowMaxB_at {v : FVec Ideal S128x128 .bf16} (hv : Is v M i j) (p : Fin 128) (z : Fin 1) : rowMaxB v (ix2 p z) = rowMax M (i + p.val) j := by
  unfold rowMaxB; rw [extf_at]; refine (cast_row _ p z).trans ((Ideal.multiReduction_maximumf_single (absf v) _ reduces_S128x128_S128 _ _ (ix1 p)).trans ?_)
  rw [neg_inf_word]
  unfold rowMax amax
  congr 1; funext q
  exact congrArg (fun t : EReal => max t (-t)) ((congrArg v (lift_row p q)).trans (hv p q))
/-- The largest magnitude of a column of a block is that of the array there (f32 block). -/
theorem colMaxF_at {v : FVec Ideal S128x128 .f32} (hv : Is v M i j) (z : Fin 1) (q : Fin 128) : colMaxF v (ix2 z q) = colMax M i (j + q.val) := by
  unfold colMaxF; refine (cast_col _ z q).trans ((Ideal.multiReduction_maximumf_single (absf v) _ reduces_S128x128_S128_2 _ _ (ix1 q)).trans ?_)
  unfold colMax amax
  congr 1; funext p
  exact congrArg (fun t : EReal => max t (-t)) ((congrArg v (lift_col p q)).trans (hv p q))
/-- The largest magnitude of a column of a block is that of the array there (bf16 block). -/
theorem colMaxB_at {v : FVec Ideal S128x128 .bf16} (hv : Is v M i j) (z : Fin 1) (q : Fin 128) : colMaxB v (ix2 z q) = colMax M i (j + q.val) := by
  unfold colMaxB; rw [extf_at]; refine (cast_col _ z q).trans ((Ideal.multiReduction_maximumf_single (absf v) _ reduces_S128x128_S128_2 _ _ (ix1 q)).trans ?_)
  rw [neg_inf_word]
  unfold colMax amax
  congr 1; funext p
  exact congrArg (fun t : EReal => max t (-t)) ((congrArg v (lift_col p q)).trans (hv p q))

/-- A column spread over 128 columns. -/
theorem bcR {α : Type} (x : S128x1.Idx → α) (p q : Fin 128) : broadcastTo S128x128 x broadcasts_S128x1_S128x128 (ix2 p q) = x (ix2 p 0) :=
  broadcastTo_apply x _ _ _ (fun a => match a with | ⟨0, _⟩ => rfl | ⟨1, _⟩ => rfl)
/-- A row spread over 128 rows. -/
theorem bcC {α : Type} (x : S1x128.Idx → α) (p q : Fin 128) : broadcastTo S128x128 x broadcasts_S1x128_S128x128 (ix2 p q) = x (ix2 0 q) :=
  broadcastTo_apply x _ _ _ (fun a => match a with | ⟨0, _⟩ => rfl | ⟨1, _⟩ => rfl)

/-- A block of row scales spread over the block: its entries. -/
theorem spreadR_at (s : FVec Ideal S128x1 .f32) (p q : Fin 128) : spreadR s (ix2 p q) = s (ix2 p 0) := by unfold spreadR; rw [bcR, truncf_at]
/-- A block of row scales spread over the block: its entries. -/
theorem spreadRF_at (s : FVec Ideal S128x1 .f32) (p q : Fin 128) : spreadRF s (ix2 p q) = s (ix2 p 0) := by unfold spreadRF; rw [bcR]
/-- A block of column scales spread over the block: its entries. -/
theorem spreadC_at (s : FVec Ideal S1x128 .f32) (p q : Fin 128) : spreadC s (ix2 p q) = s (ix2 0 q) := by unfold spreadC; rw [bcC, truncf_at]
/-- A block of column scales spread over the block: its entries. -/
theorem spreadCF_at (s : FVec Ideal S1x128 .f32) (p q : Fin 128) : spreadCF s (ix2 p q) = s (ix2 0 q) := by unfold spreadCF; rw [bcC]

/-- The scale, entry by entry. -/
theorem scale_at {s : Shape} (rc : BitVec 32) (m : FVec Ideal s .f32) (k : s.Idx) : Step.scale s rc m k = Spec.scale rc (m k) := rfl
/-- The inverse scale, entry by entry. -/
theorem inv_at {s : Shape} (rc : BitVec 32) (m : FVec Ideal s .f32) (k : s.Idx) : Step.inv s rc m k = Spec.inv rc (m k) := rfl

/-- The group a column lies in. -/
theorem grp {j : ℕ} (hj : j % 128 = 0) (q : Fin 128) : 128 * ((j + q.val) / 128) = j := by have := q.isLt; omega

/-- The row codes of a block are the block of the array's row codes (bf16 block). -/
theorem rowCodesB_is (f : Fmt) {v : FVec Ideal S128x128 .bf16} (hv : Is v M i j) (hj : j % 128 = 0) : Is (rowCodesB f v) (rowCode f.num M) i j := fun p q => by
  unfold rowCodesB; rw [codesB_at, spreadR_at, inv_at, rowMaxB_at hv, hv]; unfold rowCode code; rw [grp hj]
/-- The row codes of a block are the block of the array's row codes (f32 block). -/
theorem rowCodesF_is (f : Fmt) {v : FVec Ideal S128x128 .f32} (hv : Is v M i j) (hj : j % 128 = 0) : Is (rowCodesF f v) (rowCode f.num M) i j := fun p q => by
  unfold rowCodesF; rw [codesF_at, spreadRF_at, inv_at, rowMaxF_at hv, hv]; unfold rowCode code; rw [grp hj]
/-- The column codes of a block are the block of the array's column codes (bf16 block). -/
theorem colCodesB_is (f : Fmt) {v : FVec Ideal S128x128 .bf16} (hv : Is v M i j) (hi : i % 128 = 0) : Is (colCodesB f v) (colCode f.num M) i j := fun p q => by
  unfold colCodesB; rw [codesB_at, spreadC_at, inv_at, colMaxB_at hv, hv]; unfold colCode code; rw [grp hi]
/-- The column codes of a block are the block of the array's column codes (f32 block). -/
theorem colCodesF_is (f : Fmt) {v : FVec Ideal S128x128 .f32} (hv : Is v M i j) (hi : i % 128 = 0) : Is (colCodesF f v) (colCode f.num M) i j := fun p q => by
  unfold colCodesF; rw [codesF_at, spreadCF_at, inv_at, colMaxF_at hv, hv]; unfold colCode code; rw [grp hi]
/-- The row scales of a block are the array's (bf16 block). -/
theorem rowScaleB_at (f : Fmt) {v : FVec Ideal S128x128 .bf16} (hv : Is v M i j) (p : Fin 128) (z : Fin 1) :
    rowScaleB f v (ix2 p z) = Spec.scale f.rc (rowMax M (i + p.val) j) := by
  unfold rowScaleB; rw [scale_at, rowMaxB_at hv]
/-- The row scales of a block are the array's (f32 block). -/
theorem rowScaleF_at (f : Fmt) {v : FVec Ideal S128x128 .f32} (hv : Is v M i j) (p : Fin 128) (z : Fin 1) :
    rowScaleF f v (ix2 p z) = Spec.scale f.rc (rowMax M (i + p.val) j) := by
  unfold rowScaleF; rw [scale_at, rowMaxF_at hv]
/-- The column scales of a block are the array's (bf16 block). -/
theorem colScaleB_at (f : Fmt) {v : FVec Ideal S128x128 .bf16} (hv : Is v M i j) (z : Fin 1) (q : Fin 128) :
    colScaleB f v (ix2 z q) = Spec.scale f.rc (colMax M i (j + q.val)) := by
  unfold colScaleB; rw [scale_at, colMaxB_at hv]
/-- The column scales of a block are the array's (f32 block). -/
theorem colScaleF_at (f : Fmt) {v : FVec Ideal S128x128 .f32} (hv : Is v M i j) (z : Fin 1) (q : Fin 128) :
    colScaleF f v (ix2 z q) = Spec.scale f.rc (colMax M i (j + q.val)) := by
  unfold colScaleF; rw [scale_at, colMaxF_at hv]

/-- The reshapes on the way to a store change no entry. -/
theorem stored_is {v : FVec Ideal S128x128 .bf16} (hv : Is v M i j) : Is (stored v) M i j := fun p q => by
  unfold stored; rw [shapeCast_apply v _ (ix2 p q) (ix2 p q) rfl]; exact hv p q

/-- The widened row codes of a block are the block of the array's (bf16 block). -/
theorem rowWideB_is (f : Fmt) {v : FVec Ideal S128x128 .bf16} (hv : Is v M i j) (hj : j % 128 = 0) : Is (rowWideB f v) (rowWide f.num M) i j := fun p q => by
  unfold rowWideB; rw [wide_at, spreadR_at, rowCodesB_is f hv hj, rowScaleB_at f hv]; unfold rowWide; rw [grp hj]
/-- The widened row codes of a block are the block of the array's (f32 block). -/
theorem rowWideF_is (f : Fmt) {v : FVec Ideal S128x128 .f32} (hv : Is v M i j) (hj : j % 128 = 0) : Is (rowWideF f v) (rowWide f.num M) i j := fun p q => by
  unfold rowWideF; rw [wide_at, spreadR_at, rowCodesF_is f hv hj, rowScaleF_at f hv]; unfold rowWide; rw [grp hj]
/-- The widened column codes of a block are the block of the array's (bf16 block). -/
theorem colWideB_is (f : Fmt) {v : FVec Ideal S128x128 .bf16} (hv : Is v M i j) (hi : i % 128 = 0) : Is (colWideB f v) (colWide f.num M) i j := fun p q => by
  unfold colWideB; rw [wide_at, spreadC_at, colCodesB_is f hv hi, colScaleB_at f hv]; unfold colWide; rw [grp hi]
/-- The widened column codes of a block are the block of the array's (f32 block). -/
theorem colWideF_is (f : Fmt) {v : FVec Ideal S128x128 .f32} (hv : Is v M i j) (hi : i % 128 = 0) : Is (colWideF f v) (colWide f.num M) i j := fun p q => by
  unfold colWideF; rw [wide_at, spreadC_at, colCodesF_is f hv hi, colScaleF_at f hv]; unfold colWide; rw [grp hi]
end

/-! ## The gate -/

/-- The gated activation of blocks of `a` and `b` is the block of the gated activation. -/
theorem gateH_is {A B : Mat} {i j : ℕ} {a b : FVec Ideal S128x128 .f32} (ha : Is a A i j) (hb : Is b B i j) :
    Is (gateH a b) (fun i j => gH (A i j) (B i j)) i j := fun p q => by
  show gH (a (ix2 p q)) (b (ix2 p q)) = _; rw [ha, hb]
/-- The same for the gradient of `a`. -/
theorem gateA_is {A B D : Mat} {i j : ℕ} {a b d : FVec Ideal S128x128 .f32} (ha : Is a A i j) (hb : Is b B i j) (hd : Is d D i j) :
    Is (gateA a b d) (fun i j => gA (A i j) (B i j) (D i j)) i j := fun p q => by
  show gA (a (ix2 p q)) (b (ix2 p q)) (d (ix2 p q)) = _; rw [ha, hb, hd]
/-- The same for the gradient of `b`. -/
theorem gateB_is {A D : Mat} {i j : ℕ} {a d : FVec Ideal S128x128 .f32} (ha : Is a A i j) (hd : Is d D i j) :
    Is (gateB a d) (fun i j => gB (A i j) (D i j)) i j := fun p q => by
  show gB (a (ix2 p q)) (d (ix2 p q)) = _; rw [ha, hd]

end Cert.KernelIdeal.Step

end
-- ==== Proof.TileRead.lean ====
/- What a point's stores leave in each buffer, read at an entry: the step's mathematics on the point's 256 rows. -/
module

public import proofs.«01_k».proof.Proof.BlockRead

@[expose] public section

set_option maxRecDepth 16384

noncomputable section

namespace Cert.KernelIdeal.Step

open Idealize.ShloMosaic Idealize.ShloMosaic.ValueIdx Idealize.ShloMosaic.Tactic Cert.Spec Cert.KernelIdeal.Gen

/-! ## Lists of block stores, read -/

section Lists
variable {F : FTy → Type} [FloatOps F] {e : EltTy}

/-- The stores block by block cover the tile. -/
theorem cover_tiles32 (pay : Fin 2 → Fin 16 → Vec F S128x128 e) (y : S256x2048.Idx) : ∃ p ∈ tiles32 pay, y ∈ p.1.set :=
  View.cover_of_tiled (tiles32 pay) S128x128.size (by sl_kernel_rfl) y
/-- The stores block by block cover the tile. -/
theorem cover_scales32 (pay : Fin 2 → Fin 16 → Vec F S128x1 .f32) (y : S256x16.Idx) : ∃ p ∈ scales32 pay, y ∈ p.1.set :=
  View.cover_of_tiled (scales32 pay) S128x1.size (by sl_kernel_rfl) y
/-- The stores block by block cover the tile. -/
theorem cover_tiles12 (pay : Fin 2 → Fin 6 → Vec F S128x128 e) (y : S256x768.Idx) : ∃ p ∈ tiles12 pay, y ∈ p.1.set :=
  View.cover_of_tiled (tiles12 pay) S128x128.size (by sl_kernel_rfl) y
/-- The stores block by block cover the tile. -/
theorem cover_scales12 (pay : Fin 2 → Fin 6 → Vec F S128x1 .f32) (y : S256x6.Idx) : ∃ p ∈ scales12 pay, y ∈ p.1.set :=
  View.cover_of_tiled (scales12 pay) S128x1.size (by sl_kernel_rfl) y

/-- If every block stored is the block of one array, the buffer holds that array. -/
theorem tiles32_canon (pay : Fin 2 → Fin 16 → Vec F S128x128 e) (G : ℕ → ℕ → Elt F e)
    (h : ∀ (r : Fin 2) (k : Fin 16) (p q : Fin 128), pay r k (ix2 p q) = G (128 * r.val + p.val) (128 * k.val + q.val)) :
    View.canon (tiles32 pay) = fun y => G (y 0).val (y 1).val := by
  funext y
  refine View.canon_apply_of_pieces (fun y => G (y 0).val (y 1).val) _ (fun p hp x => ?_) y (cover_tiles32 pay y)
  obtain ⟨n, -, rfl⟩ := List.mem_map.mp hp
  obtain ⟨a, b, rfl⟩ : ∃ (a b : Fin 128), x = ix2 a b := ⟨x 0, x 1, eq_ix2 x⟩
  refine (h _ _ a b).trans ?_
  show G (128 * _ + a.val) (128 * _ + b.val) = G (128 * _ + 1 * a.val) (128 * _ + 1 * b.val)
  rw [Nat.one_mul, Nat.one_mul]
/-- Stores block by block make up the array that has their entries. -/
theorem tiles12_canon (pay : Fin 2 → Fin 6 → Vec F S128x128 e) (G : ℕ → ℕ → Elt F e)
    (h : ∀ (r : Fin 2) (k : Fin 6) (p q : Fin 128), pay r k (ix2 p q) = G (128 * r.val + p.val) (128 * k.val + q.val)) :
    View.canon (tiles12 pay) = fun y => G (y 0).val (y 1).val := by
  funext y
  refine View.canon_apply_of_pieces (fun y => G (y 0).val (y 1).val) _ (fun p hp x => ?_) y (cover_tiles12 pay y)
  obtain ⟨n, -, rfl⟩ := List.mem_map.mp hp
  obtain ⟨a, b, rfl⟩ : ∃ (a b : Fin 128), x = ix2 a b := ⟨x 0, x 1, eq_ix2 x⟩
  refine (h _ _ a b).trans ?_
  show G (128 * _ + a.val) (128 * _ + b.val) = G (128 * _ + 1 * a.val) (128 * _ + 1 * b.val)
  rw [Nat.one_mul, Nat.one_mul]
/-- Stores block by block make up the array that has their entries. -/
theorem scales32_canon (pay : Fin 2 → Fin 16 → Vec F S128x1 .f32) (G : ℕ → ℕ → Elt F .f32)
    (h : ∀ (r : Fin 2) (k : Fin 16) (p : Fin 128) (z : Fin 1), pay r k (ix2 p z) = G (128 * r.val + p.val) k.val) :
    View.canon (scales32 pay) = fun y => G (y 0).val (y 1).val := by
  funext y
  refine View.canon_apply_of_pieces (fun y => G (y 0).val (y 1).val) _ (fun p hp x => ?_) y (cover_scales32 pay y)
  obtain ⟨n, -, rfl⟩ := List.mem_map.mp hp
  obtain ⟨a, b, rfl⟩ : ∃ (a : Fin 128) (b : Fin 1), x = ix2 a b := ⟨x 0, x 1, eq_ix2 x⟩
  refine (h _ _ a b).trans ?_
  have hb : b.val = 0 := by have := b.isLt; omega
  show G (128 * _ + a.val) _ = G (128 * _ + 1 * a.val) (_ + 1 * b.val)
  rw [Nat.one_mul, hb]; rfl
/-- Stores block by block make up the array that has their entries. -/
theorem scales12_canon (pay : Fin 2 → Fin 6 → Vec F S128x1 .f32) (G : ℕ → ℕ → Elt F .f32)
    (h : ∀ (r : Fin 2) (k : Fin 6) (p : Fin 128) (z : Fin 1), pay r k (ix2 p z) = G (128 * r.val + p.val) k.val) :
    View.canon (scales12 pay) = fun y => G (y 0).val (y 1).val := by
  funext y
  refine View.canon_apply_of_pieces (fun y => G (y 0).val (y 1).val) _ (fun p hp x => ?_) y (cover_scales12 pay y)
  obtain ⟨n, -, rfl⟩ := List.mem_map.mp hp
  obtain ⟨a, b, rfl⟩ : ∃ (a : Fin 128) (b : Fin 1), x = ix2 a b := ⟨x 0, x 1, eq_ix2 x⟩
  refine (h _ _ a b).trans ?_
  have hb : b.val = 0 := by have := b.isLt; omega
  show G (128 * _ + a.val) _ = G (128 * _ + 1 * a.val) (_ + 1 * b.val)
  rw [Nat.one_mul, hb]; rfl

end Lists

/-! ## Sums -/

/-- 1536 columns are the first and the second halves of three groups of 512. -/
def halves : Fin 1536 ≃ Fin 768 ⊕ Fin 768 where
  toFun l := if l.val % 512 < 256 then .inl ⟨256 * (l.val / 512) + l.val % 256, by have := l.isLt; omega⟩
    else .inr ⟨256 * (l.val / 512) + l.val % 256, by have := l.isLt; omega⟩
  invFun s := match s with
    | .inl m => ⟨512 * (m.val / 256) + m.val % 256, by have := m.isLt; omega⟩
    | .inr m => ⟨512 * (m.val / 256) + 256 + m.val % 256, by have := m.isLt; omega⟩
  left_inv l := by
    have := l.isLt
    by_cases h : l.val % 512 < 256
    · dsimp only; rw [if_pos h]; apply Fin.ext; show 512 * ((256 * (l.val / 512) + l.val % 256) / 256) + (256 * (l.val / 512) + l.val % 256) % 256 = l.val; omega
    · dsimp only; rw [if_neg h]; apply Fin.ext; show 512 * ((256 * (l.val / 512) + l.val % 256) / 256) + 256 + (256 * (l.val / 512) + l.val % 256) % 256 = l.val; omega
  right_inv s := by
    match s with
    | .inl m =>
      have := m.isLt
      show (if (512 * (m.val / 256) + m.val % 256) % 512 < 256 then _ else _) = _
      rw [if_pos (by omega)]; refine congrArg Sum.inl (Fin.ext ?_)
      show 256 * ((512 * (m.val / 256) + m.val % 256) / 512) + (512 * (m.val / 256) + m.val % 256) % 256 = m.val; omega
    | .inr m =>
      have := m.isLt
      show (if (512 * (m.val / 256) + 256 + m.val % 256) % 512 < 256 then _ else _) = _
      rw [if_neg (by omega)]; refine congrArg Sum.inr (Fin.ext ?_)
      show 256 * ((512 * (m.val / 256) + 256 + m.val % 256) / 512) + (512 * (m.val / 256) + 256 + m.val % 256) % 256 = m.val; omega

/-- A sum over 1536 interleaved places is the sum over the first halves of the groups plus that over the second. -/
theorem sum_halves (g : ℕ → EReal) : ∑ l : Fin 1536, g l.val
    = (∑ m : Fin 768, g (512 * (m.val / 256) + m.val % 256)) + ∑ m : Fin 768, g (512 * (m.val / 256) + 256 + m.val % 256) := by
  rw [← Equiv.sum_comp halves.symm (fun l => g l.val), Fintype.sum_sum_type]; rfl

/-! ## The buffers of a point -/

section
variable (arg1 : Memref sig .tc .vmem S256x2048 .bf16) (harg1 : arg1.IsWhole) (arg2 : Memref sig .tc .vmem S256x2048 .bf16) (harg2 : arg2.IsWhole)
  (arg3 : Memref sig .tc .vmem S2048x1536 .bf16) (harg3 : arg3.IsWhole) (arg4 : Memref sig .tc .vmem S768x2048 .bf16) (harg4 : arg4.IsWhole)
  (arg30 arg31 : Memref sig .tc .vmem S256x2048 .bf16) (arg34 : Memref sig .tc .vmem S256x768 .bf16) (arg35 : Memref sig .tc .vmem S256x1536 .bf16)
  (arg39 : Memref sig .tc .vmem S256x512 .f32) (arg40 : Memref sig .tc .vmem S256x256 .f32)
  (x0 x1 : Vec Ideal S256x2048 .bf16) (x2 : Vec Ideal S2048x1536 .bf16) (x3 : Vec Ideal S768x2048 .bf16)

/-- The operands of a point: its blocks of the four inputs. -/
abbrev ops : Ops := ⟨of (φ := .bf16) x0, of (φ := .bf16) x1, of (φ := .bf16) x2, of (φ := .bf16) x3⟩

/-- A load at an offset of a whole input reads its entries there. -/
theorem readAt_of {m n a b : ℕ} (arg : Memref sig .tc .vmem ⟨2, ![m, n]⟩ .bf16) (harg : arg.IsWhole) (x : Vec Ideal ⟨2, ![m, n]⟩ .bf16) (o0 o1 : ℕ)
    (inb : ∀ c, (![o0, o1] : Fin 2 → ℕ) c + (⟨2, ![a, b]⟩ : Shape).size c ≤ (⟨2, ![m, n]⟩ : Shape).size c) (p : Fin a) (q : Fin b) :
    View.readAt (Elt Ideal) arg.view (Rect.unit (s := ⟨2, ![m, n]⟩) ![o0, o1] (⟨2, ![a, b]⟩ : Shape).size inb).toLoadRect (harg.unread x) (ix2 p q)
      = of (φ := .bf16) x (o0 + p.val) (o1 + q.val) := by
  have h0 : o0 + a ≤ m := inb 0
  have h1 : o1 + b ≤ n := inb 1
  have hp := p.isLt; have hq := q.isLt
  rw [View.readAt_apply, harg.read_unread, of_eq _ _ _ (by omega) (by omega)]
  refine congrArg x (funext fun c => Fin.ext ?_)
  match c with
  | ⟨0, _⟩ => show o0 + 1 * p.val = o0 + p.val; omega
  | ⟨1, _⟩ => show o1 + 1 * q.val = o1 + q.val; omega

/-- A block read from a tile is that block of the tile. -/
theorem blk_is (arg : Memref sig .tc .vmem S256x2048 .bf16) (harg : arg.IsWhole) (x : Vec Ideal S256x2048 .bf16) (r : Fin 2) (k : Fin 16) :
    Is (φ := .bf16) (blk arg harg x r k) (of (φ := .bf16) x) (128 * r.val) (128 * k.val) := fun p q => readAt_of arg harg x _ _ (inb2048 r k) p q

/-- A block starts at a multiple of 128. -/
theorem mul_mod128 (k : ℕ) : 128 * k % 128 = 0 := by omega

/-- The stores of the widened row codes make up the widened array. -/
theorem wideL_canon (f : Fmt) (arg : Memref sig .tc .vmem S256x2048 .bf16) (harg : arg.IsWhole) (x : Vec Ideal S256x2048 .bf16) :
    View.canon (wideL f arg harg x) = arr 256 2048 .bf16 (rowWide f.num (of (φ := .bf16) x)) := by
  unfold wideL
  refine tiles32_canon (F := Ideal) (e := .bf16) _ (rowWide f.num (of (φ := .bf16) x)) fun r k p q => ?_
  have h := stored_is (rowWideB_is f (blk_is arg harg x r k) (mul_mod128 _))
  exact h p q

/-- A load of a whole buffer reads the buffer. -/
theorem readCov_whole {m n : ℕ} {e : EltTy} (arg : Memref sig .tc .vmem ⟨2, ![m, n]⟩ e) (L : List (View.Piece (Elt Ideal) ⟨2, ![m, n]⟩ e))
    (inb : ∀ c, (![0, 0] : Fin 2 → ℕ) c + (⟨2, ![m, n]⟩ : Shape).size c ≤ (⟨2, ![m, n]⟩ : Shape).size c) (y : (⟨2, ![m, n]⟩ : Shape).Idx) :
    arg.view.readCov L (Rect.unit (s := ⟨2, ![m, n]⟩) ![0, 0] (⟨2, ![m, n]⟩ : Shape).size inb).toLoadRect y = View.canon L y := by
  rw [View.readCov_eq_canon']
  refine congrArg (View.canon L) (funext fun c => Fin.ext ?_)
  match c with
  | ⟨0, _⟩ => show 0 + 1 * (y 0).val = (y 0).val; omega
  | ⟨1, _⟩ => show 0 + 1 * (y 1).val = (y 1).val; omega

/-- What is read back from the scratch buffer: `x` quantised along rows and widened. -/
theorem readXw_at (i : Fin 256) (l : Fin 2048) : readXw arg1 harg1 arg30 x0 (ix2 i l) = (ops x0 x1 x2 x3).xw i.val l.val := by
  unfold readXw; refine (readCov_whole arg30 _ _ _).trans ?_; rw [wideL_canon]; rfl
/-- What is read back from the scratch buffer: `dy` quantised along rows and widened. -/
theorem readDyw_at (i : Fin 256) (l : Fin 2048) : readDyw arg2 harg2 arg31 x1 (ix2 i l) = (ops x0 x1 x2 x3).dyw i.val l.val := by
  unfold readDyw; refine (readCov_whole arg31 _ _ _).trans ?_; rw [wideL_canon]; rfl

/-- The entries of one group's product. -/
theorem abPiece_at (g : Fin 3) (i : Fin 256) (j : Fin 512) : (abPiece arg1 harg1 arg3 harg3 arg30 x0 x2 g).2 (ix2 i j)
    = ∑ l : Fin 2048, (ops x0 x1 x2 x3).xw i.val l.val * (ops x0 x1 x2 x3).w13 l.val (512 * g.val + j.val) := by
  unfold abPiece; dsimp only
  rw [shapeCast_apply _ _ (ix2 i j) (ix2 i j) rfl]
  refine (Ideal.matmul_plain_apply (M := 256) (K := 2048) (N := 512) none _ _ _ i j).trans ?_
  refine (congrArg (· + _) (show (constant (F := Ideal) S256x512 .f32 0x00000000#32 (ix2 i j) : EReal) = 0 from Ideal.ofBits_zero_f32)).trans ?_
  rw [zero_add]
  refine Finset.sum_congr rfl fun l _ => ?_
  rw [readXw_at arg1 harg1 arg30 x0 x1 x2 x3]
  refine congrArg (_ * ·) ((readAt_of arg3 harg3 x2 _ _ (inbW13 g) l j).trans ?_)
  rw [Nat.zero_add]
/-- The entries of one group's product. -/
theorem dhPiece_at (g : Fin 3) (i : Fin 256) (j : Fin 256) : (dhPiece arg2 harg2 arg4 harg4 arg31 x1 x3 g).2 (ix2 i j)
    = (ops x0 x1 x2 x3).dh i.val (256 * g.val + j.val) := by
  unfold dhPiece; dsimp only
  rw [shapeCast_apply _ _ (ix2 i j) (ix2 i j) rfl]
  refine (Ideal.matmul_transposedRhs_apply (M := 256) (K := 2048) (N := 256) none _ _ _ i j).trans ?_
  refine (congrArg (· + _) (show (constant (F := Ideal) S256x256 .f32 0x00000000#32 (ix2 i j) : EReal) = 0 from Ideal.ofBits_zero_f32)).trans ?_
  rw [zero_add]
  refine Finset.sum_congr rfl fun l _ => ?_
  rw [readDyw_at arg2 harg2 arg31 x0 x1 x2 x3]
  refine congrArg (_ * ·) ((readAt_of arg4 harg4 x3 _ _ (inbW2 g) j l).trans ?_)
  rw [Nat.zero_add]

/-- The last store of the up products is that of the current group. -/
theorem abL_cons (g : Fin 3) : ∃ L, abL arg1 harg1 arg3 harg3 arg30 x0 x2 g.val = abPiece arg1 harg1 arg3 harg3 arg30 x0 x2 g :: L :=
  match g with | ⟨0, _⟩ => ⟨_, rfl⟩ | ⟨1, _⟩ => ⟨_, rfl⟩ | ⟨2, _⟩ => ⟨_, rfl⟩
/-- The last store of `dh` is that of the current group. -/
theorem dhL_cons (g : Fin 3) : ∃ L, dhL arg2 harg2 arg4 harg4 arg31 x1 x3 g.val = dhPiece arg2 harg2 arg4 harg4 arg31 x1 x3 g :: L :=
  match g with | ⟨0, _⟩ => ⟨_, rfl⟩ | ⟨1, _⟩ => ⟨_, rfl⟩ | ⟨2, _⟩ => ⟨_, rfl⟩

/-- After a store of a whole buffer the buffer holds what was stored. -/
theorem canon_whole {m n : ℕ} {e : EltTy} (inb : ∀ c, (![0, 0] : Fin 2 → ℕ) c + (⟨2, ![m, n]⟩ : Shape).size c ≤ (⟨2, ![m, n]⟩ : Shape).size c)
    (w : (⟨2, ![m, n]⟩ : Shape).Idx → Elt Ideal e) (L : List (View.Piece (Elt Ideal) ⟨2, ![m, n]⟩ e)) (y : (⟨2, ![m, n]⟩ : Shape).Idx) :
    View.canon (⟨Rect.unit (s := ⟨2, ![m, n]⟩) ![0, 0] (⟨2, ![m, n]⟩ : Shape).size inb, w⟩ :: L) y = w y := by
  have h := View.canon_cons_emb (Rect.unit (s := ⟨2, ![m, n]⟩) ![0, 0] (⟨2, ![m, n]⟩ : Shape).size inb) w L y
  rwa [show (Rect.unit (s := ⟨2, ![m, n]⟩) ![0, 0] (⟨2, ![m, n]⟩ : Shape).size inb).emb y = y from funext fun c => Fin.ext (by
    match c with
    | ⟨0, _⟩ => show 0 + 1 * (y 0).val = (y 0).val; omega
    | ⟨1, _⟩ => show 0 + 1 * (y 1).val = (y 1).val; omega)] at h

/-- The entries of the scratch buffer after group `g`. -/
theorem abL_at (g : ℕ) (hg : g < 3) (i j : ℕ) (hi : i < 256) (hj : j < 512) (y : S256x512.Idx) (h0 : (y 0).val = i) (h1 : (y 1).val = j) :
    View.canon (abL arg1 harg1 arg3 harg3 arg30 x0 x2 g) y
      = ∑ l : Fin 2048, (ops x0 x1 x2 x3).xw i l.val * (ops x0 x1 x2 x3).w13 l.val (512 * g + j) := by
  obtain ⟨L, hL⟩ := abL_cons arg1 harg1 arg3 harg3 arg30 x0 x2 ⟨g, hg⟩
  have hy : y = ix2 ⟨i, hi⟩ ⟨j, hj⟩ := funext fun c => Fin.ext (by
    match c with
    | ⟨0, _⟩ => exact h0
    | ⟨1, _⟩ => exact h1)
  rw [show abL arg1 harg1 arg3 harg3 arg30 x0 x2 g = _ from hL, hy]
  exact (canon_whole _ _ _ _).trans (abPiece_at arg1 harg1 arg3 harg3 arg30 x0 x1 x2 x3 ⟨g, hg⟩ ⟨i, hi⟩ ⟨j, hj⟩)
/-- The entries of the scratch buffer after group `g`. -/
theorem dhL_at (g : ℕ) (hg : g < 3) (i j : ℕ) (hi : i < 256) (hj : j < 256) (y : S256x256.Idx) (h0 : (y 0).val = i) (h1 : (y 1).val = j) :
    View.canon (dhL arg2 harg2 arg4 harg4 arg31 x1 x3 g) y = (ops x0 x1 x2 x3).dh i (256 * g + j) := by
  obtain ⟨L, hL⟩ := dhL_cons arg2 harg2 arg4 harg4 arg31 x1 x3 ⟨g, hg⟩
  have hy : y = ix2 ⟨i, hi⟩ ⟨j, hj⟩ := funext fun c => Fin.ext (by
    match c with
    | ⟨0, _⟩ => exact h0
    | ⟨1, _⟩ => exact h1)
  rw [show dhL arg2 harg2 arg4 harg4 arg31 x1 x3 g = _ from hL, hy]
  exact (canon_whole _ _ _ _).trans (dhPiece_at arg2 harg2 arg4 harg4 arg31 x0 x1 x2 x3 ⟨g, hg⟩ ⟨i, hi⟩ ⟨j, hj⟩)

/-- The block is the block of `a`, the first product with the weights. -/
theorem aBlk_is (r : Fin 2) (k : Fin 6) : Is (aBlk arg1 harg1 arg3 harg3 arg30 arg39 x0 x2 r k) (ops x0 x1 x2 x3).a (128 * r.val) (128 * k.val) := fun p q => by
  have hr := r.isLt; have hk := k.isLt; have hp := p.isLt; have hq := q.isLt
  unfold aBlk; rw [View.readCov_eq_canon']
  refine (abL_at arg1 harg1 arg3 harg3 arg30 x0 x1 x2 x3 (k.val / 2) (by omega) (128 * r.val + p.val) (128 * (k.val % 2) + q.val) (by omega) (by omega) _
    (show 128 * r.val + 1 * p.val = _ by omega) (show 128 * (k.val % 2) + 1 * q.val = _ by omega)).trans ?_
  refine Finset.sum_congr rfl fun l _ => congrArg (fun t : EReal => (ops x0 x1 x2 x3).xw (128 * r.val + p.val) l.val * t) ?_
  show of (φ := .bf16) x2 _ _ = of (φ := .bf16) x2 _ _
  refine congrArg (of (φ := .bf16) x2 _) ?_
  omega
/-- The block is the block of `b`, the second product with the weights. -/
theorem bBlk_is (r : Fin 2) (k : Fin 6) : Is (bBlk arg1 harg1 arg3 harg3 arg30 arg39 x0 x2 r k) (ops x0 x1 x2 x3).b (128 * r.val) (128 * k.val) := fun p q => by
  have hr := r.isLt; have hk := k.isLt; have hp := p.isLt; have hq := q.isLt
  unfold bBlk; rw [View.readCov_eq_canon']
  refine (abL_at arg1 harg1 arg3 harg3 arg30 x0 x1 x2 x3 (k.val / 2) (by omega) (128 * r.val + p.val) (128 * (2 + k.val % 2) + q.val) (by omega) (by omega) _
    (show 128 * r.val + 1 * p.val = _ by omega) (show 128 * (2 + k.val % 2) + 1 * q.val = _ by omega)).trans ?_
  refine Finset.sum_congr rfl fun l _ => congrArg (fun t : EReal => (ops x0 x1 x2 x3).xw (128 * r.val + p.val) l.val * t) ?_
  show of (φ := .bf16) x2 _ _ = of (φ := .bf16) x2 _ _
  refine congrArg (of (φ := .bf16) x2 _) ?_
  omega
/-- The block is the block of `dh`, the gradient of the gated activation. -/
theorem dhBlk_is (r : Fin 2) (k : Fin 6) : Is (dhBlk arg2 harg2 arg4 harg4 arg31 arg40 x1 x3 r k) (ops x0 x1 x2 x3).dh (128 * r.val) (128 * k.val) := fun p q => by
  have hr := r.isLt; have hk := k.isLt; have hp := p.isLt; have hq := q.isLt
  unfold dhBlk; rw [View.readCov_eq_canon']
  refine (dhL_at arg2 harg2 arg4 harg4 arg31 x0 x1 x2 x3 (k.val / 2) (by omega) (128 * r.val + p.val) (128 * (k.val % 2) + q.val) (by omega) (by omega) _
    (show 128 * r.val + 1 * p.val = _ by omega) (show 128 * (k.val % 2) + 1 * q.val = _ by omega)).trans ?_
  refine congrArg ((ops x0 x1 x2 x3).dh _) ?_
  omega

/-- The block is the block of `h`, the gated activation. -/
theorem hBlk_is (r : Fin 2) (k : Fin 6) : Is (hBlk arg1 harg1 arg3 harg3 arg30 arg39 x0 x2 r k) (ops x0 x1 x2 x3).h (128 * r.val) (128 * k.val) :=
  gateH_is (aBlk_is arg1 harg1 arg3 harg3 arg30 arg39 x0 x1 x2 x3 r k) (bBlk_is arg1 harg1 arg3 harg3 arg30 arg39 x0 x1 x2 x3 r k)
/-- The block is the block of `da`, the gradient of `a`. -/
theorem daBlk_is (r : Fin 2) (k : Fin 6) : Is (daBlk arg1 harg1 arg2 harg2 arg3 harg3 arg4 harg4 arg30 arg31 arg39 arg40 x0 x1 x2 x3 r k)
    (ops x0 x1 x2 x3).da (128 * r.val) (128 * k.val) :=
  gateA_is (aBlk_is arg1 harg1 arg3 harg3 arg30 arg39 x0 x1 x2 x3 r k) (bBlk_is arg1 harg1 arg3 harg3 arg30 arg39 x0 x1 x2 x3 r k)
    (dhBlk_is arg2 harg2 arg4 harg4 arg31 arg40 x0 x1 x2 x3 r k)
/-- The block is the block of `db`, the gradient of `b`. -/
theorem dbBlk_is (r : Fin 2) (k : Fin 6) : Is (dbBlk arg1 harg1 arg2 harg2 arg3 harg3 arg4 harg4 arg30 arg31 arg39 arg40 x0 x1 x2 x3 r k)
    (ops x0 x1 x2 x3).db (128 * r.val) (128 * k.val) :=
  gateB_is (aBlk_is arg1 harg1 arg3 harg3 arg30 arg39 x0 x1 x2 x3 r k) (dhBlk_is arg2 harg2 arg4 harg4 arg31 arg40 x0 x1 x2 x3 r k)

/-- The stores of the widened row codes of `h` make up `hw`. -/
theorem hwL_canon : View.canon (hwL arg1 harg1 arg3 harg3 arg30 arg39 x0 x2) = arr 256 768 .bf16 (ops x0 x1 x2 x3).hw := by
  unfold hwL
  refine tiles12_canon (F := Ideal) (e := .bf16) _ (ops x0 x1 x2 x3).hw fun r k p q => ?_
  have h := stored_is (rowWideF_is e4 (hBlk_is arg1 harg1 arg3 harg3 arg30 arg39 x0 x1 x2 x3 r k) (mul_mod128 _))
  exact h p q
/-- What is read back from the scratch buffer: `h` quantised along rows and widened. -/
theorem readHw_at (i : Fin 256) (l : Fin 768) : readHw arg1 harg1 arg3 harg3 arg30 arg34 arg39 x0 x2 (ix2 i l) = (ops x0 x1 x2 x3).hw i.val l.val := by
  unfold readHw; refine (readCov_whole arg34 _ _ _).trans ?_
  rw [hwL_canon arg1 harg1 arg3 harg3 arg30 arg39 x0 x1 x2 x3]; rfl

/-- The two wide gradients side by side in pairs of 256 columns. -/
def dab (I : Ops) : Mat := fun i j => if j % 512 < 256 then I.daw i (256 * (j / 512) + j % 256) else I.dbw i (256 * (j / 512) + j % 256)

/-- What is stored in a block of the interleaved operand. -/
theorem dabPay_at (t : ℕ) (ht : t < 2) (r : Fin 2) (k : Fin 6) (p q : Fin 128) :
    dabPay arg1 harg1 arg2 harg2 arg3 harg3 arg4 harg4 arg30 arg31 arg39 arg40 x0 x1 x2 x3 t r k (ix2 p q)
      = dab (ops x0 x1 x2 x3) (128 * r.val + p.val) (128 * (4 * (k.val / 2) + 2 * t + k.val % 2) + q.val) := by
  have hq := q.isLt
  have e1 : 256 * ((128 * (4 * (k.val / 2) + 2 * t + k.val % 2) + q.val) / 512) + (128 * (4 * (k.val / 2) + 2 * t + k.val % 2) + q.val) % 256 = 128 * k.val + q.val := by omega
  unfold dabPay dab
  by_cases h : t = 0
  · rw [if_pos h, if_pos (by omega), e1]
    exact stored_is (rowWideF_is e5 (daBlk_is arg1 harg1 arg2 harg2 arg3 harg3 arg4 harg4 arg30 arg31 arg39 arg40 x0 x1 x2 x3 r k) (mul_mod128 _)) p q
  · rw [if_neg h, if_neg (by omega), e1]
    exact stored_is (rowWideF_is e5 (dbBlk_is arg1 harg1 arg2 harg2 arg3 harg3 arg4 harg4 arg30 arg31 arg39 arg40 x0 x1 x2 x3 r k) (mul_mod128 _)) p q

/-- The stores of the interleaved operand make up it. -/
theorem dabL_canon : View.canon (dabL arg1 harg1 arg2 harg2 arg3 harg3 arg4 harg4 arg30 arg31 arg39 arg40 x0 x1 x2 x3)
    = arr 256 1536 .bf16 (dab (ops x0 x1 x2 x3)) := by
  funext y
  refine View.canon_apply_of_pieces (arr 256 1536 .bf16 (dab (ops x0 x1 x2 x3))) _ (fun p hp x => ?_) y
    (View.cover_of_tiled (dabL arg1 harg1 arg2 harg2 arg3 harg3 arg4 harg4 arg30 arg31 arg39 arg40 x0 x1 x2 x3) S128x128.size (by sl_kernel_rfl) y)
  obtain ⟨n, -, rfl⟩ := List.mem_map.mp hp
  obtain ⟨a, b, rfl⟩ : ∃ (a b : Fin 128), x = ix2 a b := ⟨x 0, x 1, eq_ix2 x⟩
  refine (dabPay_at arg1 harg1 arg2 harg2 arg3 harg3 arg4 harg4 arg30 arg31 arg39 arg40 x0 x1 x2 x3 _ (Nat.mod_lt _ (by decide)) _ _ a b).trans ?_
  refine congrArg₂ (dab (ops x0 x1 x2 x3)) ?_ ?_
  · show 128 * _ + a.val = 128 * _ + 1 * a.val; rw [Nat.one_mul]
  · have := n.isLt
    show 128 * (4 * ((2 * (n.val / 2 / 4) + n.val / 2 % 2) / 2) + 2 * (n.val % 2) + (2 * (n.val / 2 / 4) + n.val / 2 % 2) % 2) + b.val
      = 128 * (4 * (n.val / 2 / 4) + 2 * (n.val % 2) + n.val / 2 % 2) + 1 * b.val
    omega

/-- What is read back from the scratch buffer: the widened `da` and `db`, interleaved. -/
theorem readDab_at (i : Fin 256) (l : Fin 1536) :
    readDab arg1 harg1 arg2 harg2 arg3 harg3 arg4 harg4 arg30 arg31 arg35 arg39 arg40 x0 x1 x2 x3 (ix2 i l) = dab (ops x0 x1 x2 x3) i.val l.val := by
  unfold readDab; refine (readCov_whole arg35 _ _ _).trans ?_; rw [dabL_canon]; rfl

/-- The stores of `y` make up the tile of `y`. -/
theorem yL_canon : View.canon (yL arg1 harg1 arg3 harg3 arg4 harg4 arg30 arg34 arg39 x0 x2 x3) = arr 256 2048 .bf16 (ops x0 x1 x2 x3).y := by
  funext y
  refine View.canon_apply_of_pieces (arr 256 2048 .bf16 (ops x0 x1 x2 x3).y) _ (fun p hp x => ?_) y (View.cover_of_tiled (yL arg1 harg1 arg3 harg3 arg4 harg4 arg30 arg34 arg39 x0 x2 x3) S256x512.size (by sl_kernel_rfl) y)
  obtain ⟨g, -, rfl⟩ := List.mem_map.mp hp
  obtain ⟨a, b, rfl⟩ : ∃ (a : Fin 256) (b : Fin 512), x = ix2 a b := ⟨x 0, x 1, eq_ix2 x⟩
  refine ((truncf_at (φ := .f32) (ψ := .bf16) _ (by decide) _).trans (Ideal.matmul_plain_apply (M := 256) (K := 768) (N := 512) none _ _ _ a b)).trans ?_
  refine (congrArg (· + _) (show (constant (F := Ideal) S256x512 .f32 0x00000000#32 (ix2 a b) : EReal) = 0 from Ideal.ofBits_zero_f32)).trans ?_
  rw [zero_add]
  show _ = (ops x0 x1 x2 x3).y (0 + 1 * a.val) (512 * g.val + 1 * b.val)
  rw [Nat.one_mul, Nat.one_mul, Nat.zero_add]
  refine Finset.sum_congr rfl fun l _ => ?_
  rw [readHw_at arg1 harg1 arg3 harg3 arg30 arg34 arg39 x0 x1 x2 x3]
  refine congrArg (_ * ·) ((readAt_of arg4 harg4 x3 _ _ (inbW2c g) l b).trans ?_)
  rw [Nat.zero_add]

/-- The stores of `dx` make up the tile of `dx`: the product over the interleaved operand is the sum of the two products. -/
theorem dxL_canon : View.canon (dxL arg1 harg1 arg2 harg2 arg3 harg3 arg4 harg4 arg30 arg31 arg35 arg39 arg40 x0 x1 x2 x3)
    = arr 256 2048 .bf16 (ops x0 x1 x2 x3).dx := by
  funext y
  refine View.canon_apply_of_pieces (arr 256 2048 .bf16 (ops x0 x1 x2 x3).dx) _ (fun p hp x => ?_) y (View.cover_of_tiled (dxL arg1 harg1 arg2 harg2 arg3 harg3 arg4 harg4 arg30 arg31 arg35 arg39 arg40 x0 x1 x2 x3) S256x512.size (by sl_kernel_rfl) y)
  obtain ⟨g, -, rfl⟩ := List.mem_map.mp hp
  obtain ⟨a, b, rfl⟩ : ∃ (a : Fin 256) (b : Fin 512), x = ix2 a b := ⟨x 0, x 1, eq_ix2 x⟩
  refine ((truncf_at (φ := .f32) (ψ := .bf16) _ (by decide) _).trans (Ideal.matmul_transposedRhs_apply (M := 256) (K := 1536) (N := 512) none _ _ _ a b)).trans ?_
  refine (congrArg (· + _) (show (constant (F := Ideal) S256x512 .f32 0x00000000#32 (ix2 a b) : EReal) = 0 from Ideal.ofBits_zero_f32)).trans ?_
  rw [zero_add]
  show _ = (ops x0 x1 x2 x3).dx (0 + 1 * a.val) (512 * g.val + 1 * b.val)
  rw [Nat.one_mul, Nat.one_mul, Nat.zero_add]
  refine (Finset.sum_congr rfl fun l _ => ?_ : _ = ∑ l : Fin 1536, dab (ops x0 x1 x2 x3) a.val l.val * (ops x0 x1 x2 x3).w13 (512 * g.val + b.val) l.val).trans ?_
  · rw [readDab_at arg1 harg1 arg2 harg2 arg3 harg3 arg4 harg4 arg30 arg31 arg35 arg39 arg40 x0 x1 x2 x3]
    refine congrArg (_ * ·) ((readAt_of arg3 harg3 x2 _ _ (inbW13r g) b l).trans ?_)
    rw [Nat.zero_add]
  · rw [sum_halves fun l => dab (ops x0 x1 x2 x3) a.val l * (ops x0 x1 x2 x3).w13 (512 * g.val + b.val) l]
    refine congrArg₂ (· + ·) (Finset.sum_congr rfl fun m _ => ?_) (Finset.sum_congr rfl fun m _ => ?_)
    · have hm := m.isLt
      refine congrArg (· * _) ?_
      unfold dab; rw [if_pos (by omega)]; refine congrArg _ ?_; omega
    · have hm := m.isLt
      refine congrArg (· * _) ?_
      unfold dab; rw [if_neg (by omega)]; refine congrArg _ ?_; omega

end

end Cert.KernelIdeal.Step

end
-- ==== Proof.Carried.lean ====
/- Which stores fill a buffer and with what: those of the weight gradients and of the buffers carried to the next point. -/
module

public import proofs.«01_k».proof.Proof.Grads
public import proofs.«01_k».proof.Proof.TileRead

@[expose] public section

noncomputable section

namespace Cert.KernelIdeal.Step

open Idealize.ShloMosaic Idealize.ShloMosaic.TcCoe Idealize.ShloMosaic.Tactic
open Cert.KernelIdeal.Gen

variable {F : FTy → Type} [FloatOps F]

/-- Every entry is stored. -/
def Covers {s : Shape} {e : EltTy} (L : List (View.Piece (Elt F) s e)) : Prop := ∀ y, ∃ p ∈ L, y ∈ p.1.set
/-- Every entry is stored, and the stores make up `X`. -/
def Fills {s : Shape} {e : EltTy} (L : List (View.Piece (Elt F) s e)) (X : s.Idx → Elt F e) : Prop := Covers L ∧ View.canon L = X

section
variable {s : Shape} {e : EltTy} {L L' Z : List (View.Piece (Elt F) s e)}

/-- Stores that cover a buffer leave nothing of earlier ones. -/
theorem canon_over (Z : List (View.Piece (Elt F) s e)) : ∀ (L : List (View.Piece (Elt F) s e)) (y : s.Idx), (∃ p ∈ L, y ∈ p.1.set) →
    View.canon (L ++ Z) y = View.canon L y
  | [], y, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hy
      rcases List.mem_cons.mp hq with rfl | hq'
      · exact absurd hyq hm
      · exact canon_over Z L y ⟨q, hq', hyq⟩

/-- Stores that cover a buffer fill it. -/
theorem fills (h : L = L') (hc : Covers L') : Fills L (View.canon L') := by subst h; exact ⟨hc, rfl⟩
/-- They do over earlier ones. -/
theorem fills_over (h : L = L' ++ Z) (hc : Covers L') : Fills L (View.canon L') := by
  subst h
  refine ⟨fun y => ?_, funext fun y => canon_over Z L' y (hc y)⟩
  obtain ⟨p, hp, hy⟩ := hc y
  exact ⟨p, List.mem_append_left _ hp, hy⟩
end

section
variable (a : Memref sig .tc .vmem S2048x768 .f32) (ha : a.IsWhole) (a2 : Memref sig .tc .vmem S768x2048 .f32) (ha2 : a2.IsWhole)
  (p : Memref sig .tc .vmem S256x2048 .bf16) (hp : p.IsWhole) (q : Memref sig .tc .vmem S256x768 .bf16) (hq : q.IsWhole)

/-- The stores into `dw1` (or `dw3`) at a middle point cover it. -/
theorem cover_dwL (w : Vec F S2048x768 .f32) (u : Vec F S256x2048 .bf16) (v : Vec F S256x768 .bf16) : Covers (dwL a ha p hp q hq w u v) :=
  View.cover_of_tiled (dwL a ha p hp q hq w u v) S256x768.size (by sl_kernel_rfl)
/-- Those into `dw2` do. -/
theorem cover_dw2L (w : Vec F S768x2048 .f32) (u : Vec F S256x2048 .bf16) (v : Vec F S256x768 .bf16) : Covers (dw2L a2 ha2 p hp q hq w u v) :=
  View.cover_of_tiled (dw2L a2 ha2 p hp q hq w u v) S768x512.size (by sl_kernel_rfl)
/-- The zero covers `dw1`, -/
theorem cover_zeroDw : Covers (F := F) [zeroDw] := View.cover_of_tiled [zeroDw] S2048x768.size (by sl_kernel_rfl)
/-- and `dw2`. -/
theorem cover_zeroDw2 : Covers (F := F) [zeroDw2] := View.cover_of_tiled [zeroDw2] S768x2048.size (by sl_kernel_rfl)

variable {L : List (View.Piece (Elt F) S2048x768 .f32)} {L2 : List (View.Piece (Elt F) S768x2048 .f32)}
  (P : List (View.Piece (Elt F) S256x2048 .bf16)) (Q : List (View.Piece (Elt F) S256x768 .bf16))

/-- More stores cover no less. -/
theorem cover_cons {s : Shape} {e : EltTy} {L : List (View.Piece (Elt F) s e)} (z : View.Piece (Elt F) s e) (h : Covers L) : Covers (z :: L) := fun y => by
  obtain ⟨q, hq, hy⟩ := h y
  exact ⟨q, List.mem_cons_of_mem _ hq, hy⟩
/-- The last point's stores into `dw1` (or `dw3`) cover it, -/
theorem cover_dwC (h : Covers L) : ∀ n, Covers (dwC a p q L P Q n)
  | 0 => h
  | n + 1 => by unfold dwC; split; exacts [cover_cons _ (cover_dwC h n), cover_dwC h n]
/-- those into `dw2` do, -/
theorem cover_dw2C (h : Covers L2) : ∀ n, Covers (dw2C a2 p q L2 P Q n)
  | 0 => h
  | n + 1 => by unfold dw2C; split; exacts [cover_cons _ (cover_dw2C h n), cover_dw2C h n]
/-- and so do the first point's. -/
theorem cover_dwA : ∀ n, Covers (dwA a p q P n)
  | 0 => cover_zeroDw
  | n + 1 => by unfold dwA; split; exacts [cover_cons _ (cover_dwA n), cover_dwA n]
end

end Cert.KernelIdeal.Step

end
-- ==== Proof.Buffers.lean ====
/- What the body is started with and what it leaves, all buffers together. -/
module

public import proofs.«01_k».proof.Proof.Branches
public import proofs.«01_k».proof.Proof.Carried

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The buffer holds `X`. -/
abbrev holds (c : Dev nD) {s : Shape} {e : EltTy} (a : Memref sig .tc .vmem s e) (X : s.Idx → Elt F e) : sProp 𝕄 :=
  owns (c : Thread nD τ) a fullShare X
/-- The buffer holds something. -/
abbrev anyAt (c : Dev nD) {s : Shape} {e : EltTy} (a : Memref sig .tc .vmem s e) : sProp 𝕄 :=
  iprop(∃ d : s.Idx → Elt F e, owns (c : Thread nD τ) a fullShare d)
/-- The buffer holds what the stores `L` leave. -/
abbrev writtenAt (c : Dev nD) {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

/-- Stores that cover a buffer leave in it the array they make up. -/
theorem leaves_canon (c : Dev nD) {s : Shape} {e : EltTy} (a : Memref sig .tc .vmem s e) (L : List (View.Piece (Elt F) s e))
    (h : ∀ y, ∃ p ∈ L, y ∈ p.1.set) : writtenAt c a L ⊢ holds c a (View.canon L) := by
  unfold writtenAt holds owns; iintro ⟨%f, H⟩; iexists _; isplitr; swap; · iexact H
  ipureintro; exact View.read_writes_eq_canon _ _ _ h
/-- Stores that fill a buffer leave in it what they fill it with. -/
theorem leaves_as (c : Dev nD) {s : Shape} {e : EltTy} (a : Memref sig .tc .vmem s e) {L : List (View.Piece (Elt F) s e)} {X : s.Idx → Elt F e}
    (h : Fills L X) : writtenAt c a L ⊢ holds c a X := by
  obtain ⟨hc, rfl⟩ := h; exact leaves_canon c a L hc
/-- Any stores leave something. -/
theorem leaves_any (c : Dev nD) {s : Shape} {e : EltTy} (a : Memref sig .tc .vmem s e) (L : List (View.Piece (Elt F) s e)) :
    writtenAt c a L ⊢ anyAt c a := by
  unfold writtenAt anyAt owns; iintro ⟨%f, H⟩; iexists _, _; isplitr; swap; · iexact H
  ipureintro; rfl

/-- The stores of `y` cover its block. -/
theorem cover_y (arg1 : Memref sig .tc .vmem S256x2048 .bf16) (harg1 : arg1.IsWhole) (arg3 : Memref sig .tc .vmem S2048x1536 .bf16) (harg3 : arg3.IsWhole)
    (arg4 : Memref sig .tc .vmem S768x2048 .bf16) (harg4 : arg4.IsWhole) (arg30 : Memref sig .tc .vmem S256x2048 .bf16)
    (arg34 : Memref sig .tc .vmem S256x768 .bf16) (arg39 : Memref sig .tc .vmem S256x512 .f32)
    (x0 : Vec F S256x2048 .bf16) (x2 : Vec F S2048x1536 .bf16) (x3 : Vec F S768x2048 .bf16) (i : S256x2048.Idx) :
    ∃ p ∈ yL arg1 harg1 arg3 harg3 arg4 harg4 arg30 arg34 arg39 x0 x2 x3, i ∈ p.1.set := View.cover_of_tiled (yL arg1 harg1 arg3 harg3 arg4 harg4 arg30 arg34 arg39 x0 x2 x3) S256x512.size (by sl_kernel_rfl) i
/-- The stores of `dx` cover its block. -/
theorem cover_dx (arg1 : Memref sig .tc .vmem S256x2048 .bf16) (harg1 : arg1.IsWhole) (arg2 : Memref sig .tc .vmem S256x2048 .bf16) (harg2 : arg2.IsWhole)
    (arg3 : Memref sig .tc .vmem S2048x1536 .bf16) (harg3 : arg3.IsWhole) (arg4 : Memref sig .tc .vmem S768x2048 .bf16) (harg4 : arg4.IsWhole)
    (arg30 arg31 : Memref sig .tc .vmem S256x2048 .bf16) (arg35 : Memref sig .tc .vmem S256x1536 .bf16)
    (arg39 : Memref sig .tc .vmem S256x512 .f32) (arg40 : Memref sig .tc .vmem S256x256 .f32)
    (x0 x1 : Vec F S256x2048 .bf16) (x2 : Vec F S2048x1536 .bf16) (x3 : Vec F S768x2048 .bf16) (i : S256x2048.Idx) :
    ∃ p ∈ dxL arg1 harg1 arg2 harg2 arg3 harg3 arg4 harg4 arg30 arg31 arg35 arg39 arg40 x0 x1 x2 x3, i ∈ p.1.set :=
  View.cover_of_tiled (dxL arg1 harg1 arg2 harg2 arg3 harg3 arg4 harg4 arg30 arg31 arg35 arg39 arg40 x0 x1 x2 x3) S256x512.size (by sl_kernel_rfl) i

variable (c : Dev nD) (arg1 : Memref sig .tc .vmem S256x2048 .bf16) (arg2 : Memref sig .tc .vmem S256x2048 .bf16) (arg3 : Memref sig .tc .vmem S2048x1536 .bf16) (arg4 : Memref sig .tc .vmem S768x2048 .bf16) (arg5 : Memref sig .tc .vmem S256x2048 .bf16) (arg6 : Memref sig .tc .vmem S256x2048 .bf16) (arg7 : Memref sig .tc .vmem S2048x768 .f32) (arg8 : Memref sig .tc .vmem S2048x768 .f32) (arg9 : Memref sig .tc .vmem S768x2048 .f32) (arg10 : Memref sig .tc .vmem S256x2048 .fp8e4m3) (arg11 : Memref sig .tc .vmem S256x16 .f32) (arg12 : Memref sig .tc .vmem S256x768 .fp8e4m3) (arg13 : Memref sig .tc .vmem S256x6 .f32) (arg14 : Memref sig .tc .vmem S256x2048 .fp8e5m2) (arg15 : Memref sig .tc .vmem S256x16 .f32) (arg16 : Memref sig .tc .vmem S256x2048 .fp8e5m2) (arg17 : Memref sig .tc .vmem S8x2048 .f32) (arg18 : Memref sig .tc .vmem S256x768 .fp8e4m3) (arg19 : Memref sig .tc .vmem S8x768 .f32) (arg20 : Memref sig .tc .vmem S256x768 .fp8e5m2) (arg21 : Memref sig .tc .vmem S256x6 .f32) (arg22 : Memref sig .tc .vmem S256x768 .fp8e5m2) (arg23 : Memref sig .tc .vmem S256x6 .f32) (arg24 : Memref sig .tc .vmem S256x2048 .fp8e4m3) (arg25 : Memref sig .tc .vmem S8x2048 .f32) (arg26 : Memref sig .tc .vmem S256x768 .fp8e5m2) (arg27 : Memref sig .tc .vmem S8x768 .f32) (arg28 : Memref sig .tc .vmem S256x768 .fp8e5m2) (arg29 : Memref sig .tc .vmem S8x768 .f32) (arg30 : Memref sig .tc .vmem S256x2048 .bf16) (arg31 : Memref sig .tc .vmem S256x2048 .bf16) (arg32 : Memref sig .tc .vmem S256x2048 .bf16) (arg33 : Memref sig .tc .vmem S256x2048 .bf16) (arg34 : Memref sig .tc .vmem S256x768 .bf16) (arg35 : Memref sig .tc .vmem S256x1536 .bf16) (arg36 : Memref sig .tc .vmem S256x768 .bf16) (arg37 : Memref sig .tc .vmem S256x768 .bf16) (arg38 : Memref sig .tc .vmem S256x768 .bf16) (arg39 : Memref sig .tc .vmem S256x512 .f32) (arg40 : Memref sig .tc .vmem S256x256 .f32)
    (harg1 : arg1.IsWhole) (harg2 : arg2.IsWhole) (harg3 : arg3.IsWhole) (harg4 : arg4.IsWhole)
    (x0 x1 : Vec F S256x2048 .bf16) (x2 : Vec F S2048x1536 .bf16) (x3 : Vec F S768x2048 .bf16)

/-- What the body is started with: the four input blocks, and every output block and scratch buffer holding something; beside it `R`. -/
def given (R : sProp 𝕄) : sProp 𝕄 :=
  iprop(holds c arg1 x0 ∗ holds c arg2 x1 ∗ holds c arg3 x2 ∗ holds c arg4 x3 ∗ anyAt (F := F) c arg5 ∗ anyAt (F := F) c arg6 ∗ anyAt (F := F) c arg7 ∗
    anyAt (F := F) c arg8 ∗ anyAt (F := F) c arg9 ∗ anyAt (F := F) c arg10 ∗ anyAt (F := F) c arg11 ∗ anyAt (F := F) c arg12 ∗
    anyAt (F := F) c arg13 ∗ anyAt (F := F) c arg14 ∗ anyAt (F := F) c arg15 ∗ anyAt (F := F) c arg16 ∗ anyAt (F := F) c arg17 ∗
    anyAt (F := F) c arg18 ∗ anyAt (F := F) c arg19 ∗ anyAt (F := F) c arg20 ∗ anyAt (F := F) c arg21 ∗ anyAt (F := F) c arg22 ∗
    anyAt (F := F) c arg23 ∗ anyAt (F := F) c arg24 ∗ anyAt (F := F) c arg25 ∗ anyAt (F := F) c arg26 ∗ anyAt (F := F) c arg27 ∗
    anyAt (F := F) c arg28 ∗ anyAt (F := F) c arg29 ∗ anyAt (F := F) c arg30 ∗ anyAt (F := F) c arg31 ∗ anyAt (F := F) c arg32 ∗
    anyAt (F := F) c arg33 ∗ anyAt (F := F) c arg34 ∗ anyAt (F := F) c arg35 ∗ anyAt (F := F) c arg36 ∗ anyAt (F := F) c arg37 ∗
    anyAt (F := F) c arg38 ∗ anyAt (F := F) c arg39 ∗ anyAt (F := F) c arg40 ∗ R)

/-- `given`, of the buffers the later points read, with what they hold named. -/
def givenAt (h6 h7 : Vec F S2048x768 .f32) (h8 : Vec F S768x2048 .f32) (hs2 hs3 : Vec F S256x2048 .bf16) (hs6 hs7 hs8 : Vec F S256x768 .bf16)
    (R : sProp 𝕄) : sProp 𝕄 :=
  iprop(holds c arg1 x0 ∗ holds c arg2 x1 ∗ holds c arg3 x2 ∗ holds c arg4 x3 ∗ anyAt (F := F) c arg5 ∗ anyAt (F := F) c arg6 ∗ holds c arg7 h6 ∗
    holds c arg8 h7 ∗ holds c arg9 h8 ∗ anyAt (F := F) c arg10 ∗ anyAt (F := F) c arg11 ∗ anyAt (F := F) c arg12 ∗ anyAt (F := F) c arg13 ∗
    anyAt (F := F) c arg14 ∗ anyAt (F := F) c arg15 ∗ anyAt (F := F) c arg16 ∗ anyAt (F := F) c arg17 ∗ anyAt (F := F) c arg18 ∗
    anyAt (F := F) c arg19 ∗ anyAt (F := F) c arg20 ∗ anyAt (F := F) c arg21 ∗ anyAt (F := F) c arg22 ∗ anyAt (F := F) c arg23 ∗
    anyAt (F := F) c arg24 ∗ anyAt (F := F) c arg25 ∗ anyAt (F := F) c arg26 ∗ anyAt (F := F) c arg27 ∗ anyAt (F := F) c arg28 ∗
    anyAt (F := F) c arg29 ∗ anyAt (F := F) c arg30 ∗ anyAt (F := F) c arg31 ∗ holds c arg32 hs2 ∗ holds c arg33 hs3 ∗ anyAt (F := F) c arg34 ∗
    anyAt (F := F) c arg35 ∗ holds c arg36 hs6 ∗ holds c arg37 hs7 ∗ holds c arg38 hs8 ∗ anyAt (F := F) c arg39 ∗ anyAt (F := F) c arg40 ∗ R)

/-- What the body leaves: the inputs as they were, and the stores of each output block and scratch buffer. -/
def left (Ly : List (View.Piece (Elt F) S256x2048 .bf16)) (Ldx : List (View.Piece (Elt F) S256x2048 .bf16)) (Ldw1 : List (View.Piece (Elt F) S2048x768 .f32)) (Ldw3 : List (View.Piece (Elt F) S2048x768 .f32)) (Ldw2 : List (View.Piece (Elt F) S768x2048 .f32)) (Lxq : List (View.Piece (Elt F) S256x2048 .fp8e4m3)) (Lxs : List (View.Piece (Elt F) S256x16 .f32)) (Lhq : List (View.Piece (Elt F) S256x768 .fp8e4m3)) (Lhs : List (View.Piece (Elt F) S256x6 .f32)) (Ldyq : List (View.Piece (Elt F) S256x2048 .fp8e5m2)) (Ldys : List (View.Piece (Elt F) S256x16 .f32)) (Ldycq : List (View.Piece (Elt F) S256x2048 .fp8e5m2)) (Lhcq : List (View.Piece (Elt F) S256x768 .fp8e4m3)) (Ldaq : List (View.Piece (Elt F) S256x768 .fp8e5m2)) (Ldas : List (View.Piece (Elt F) S256x6 .f32)) (Ldbq : List (View.Piece (Elt F) S256x768 .fp8e5m2)) (Ldbs : List (View.Piece (Elt F) S256x6 .f32)) (Lxcq : List (View.Piece (Elt F) S256x2048 .fp8e4m3)) (Ldacq : List (View.Piece (Elt F) S256x768 .fp8e5m2)) (Ldbcq : List (View.Piece (Elt F) S256x768 .fp8e5m2)) (Lxw : List (View.Piece (Elt F) S256x2048 .bf16)) (Ldyw : List (View.Piece (Elt F) S256x2048 .bf16)) (Lxcw : List (View.Piece (Elt F) S256x2048 .bf16)) (Ldycw : List (View.Piece (Elt F) S256x2048 .bf16)) (Lhw : List (View.Piece (Elt F) S256x768 .bf16)) (Ldabw : List (View.Piece (Elt F) S256x1536 .bf16)) (Lhcw : List (View.Piece (Elt F) S256x768 .bf16)) (Ldacw : List (View.Piece (Elt F) S256x768 .bf16)) (Ldbcw : List (View.Piece (Elt F) S256x768 .bf16)) (Lab : List (View.Piece (Elt F) S256x512 .f32)) (Ldh : List (View.Piece (Elt F) S256x256 .f32))
    : sProp 𝕄 :=
  iprop(holds c arg1 x0 ∗ holds c arg2 x1 ∗ holds c arg3 x2 ∗ holds c arg4 x3 ∗ writtenAt c arg5 Ly ∗ writtenAt c arg6 Ldx ∗ writtenAt c arg7 Ldw1 ∗
    writtenAt c arg8 Ldw3 ∗ writtenAt c arg9 Ldw2 ∗ writtenAt c arg10 Lxq ∗ writtenAt c arg11 Lxs ∗ writtenAt c arg12 Lhq ∗ writtenAt c arg13 Lhs ∗
    writtenAt c arg14 Ldyq ∗ writtenAt c arg15 Ldys ∗ writtenAt c arg16 Ldycq ∗ anyAt (F := F) c arg17 ∗ writtenAt c arg18 Lhcq ∗
    anyAt (F := F) c arg19 ∗ writtenAt c arg20 Ldaq ∗ writtenAt c arg21 Ldas ∗ writtenAt c arg22 Ldbq ∗ writtenAt c arg23 Ldbs ∗
    writtenAt c arg24 Lxcq ∗ anyAt (F := F) c arg25 ∗ writtenAt c arg26 Ldacq ∗ anyAt (F := F) c arg27 ∗ writtenAt c arg28 Ldbcq ∗
    anyAt (F := F) c arg29 ∗ writtenAt c arg30 Lxw ∗ writtenAt c arg31 Ldyw ∗ writtenAt c arg32 Lxcw ∗ writtenAt c arg33 Ldycw ∗
    writtenAt c arg34 Lhw ∗ writtenAt c arg35 Ldabw ∗ writtenAt c arg36 Lhcw ∗ writtenAt c arg37 Ldacw ∗ writtenAt c arg38 Ldbcw ∗
    writtenAt c arg39 Lab ∗ writtenAt c arg40 Ldh)

/-- What of it is kept: of seventeen outputs the array their stores make up, of the weight gradients and of what is carried to the next point
    an array named here, of the rest that they hold something. -/
def kept (o6 o7 : Vec F S2048x768 .f32) (o8 : Vec F S768x2048 .f32) (s2 s3 : Vec F S256x2048 .bf16) (s6 s7 s8 : Vec F S256x768 .bf16) : sProp 𝕄 :=
  iprop(holds c arg1 x0 ∗ holds c arg2 x1 ∗ holds c arg3 x2 ∗ holds c arg4 x3 ∗
    holds c arg5 (View.canon (yL arg1 harg1 arg3 harg3 arg4 harg4 arg30 arg34 arg39 x0 x2 x3)) ∗
    holds c arg6 (View.canon (dxL arg1 harg1 arg2 harg2 arg3 harg3 arg4 harg4 arg30 arg31 arg35 arg39 arg40 x0 x1 x2 x3)) ∗ holds c arg7 o6 ∗
    holds c arg8 o7 ∗ holds c arg9 o8 ∗ holds c arg10 (View.canon (tiles32 fun r k => rowCodesB e4 (blk arg1 harg1 x0 r k))) ∗
    holds c arg11 (View.canon (scales32 fun r k => rowScaleB e4 (blk arg1 harg1 x0 r k))) ∗
    holds c arg12 (View.canon (tiles12 fun r k => rowCodesF e4 (hBlk arg1 harg1 arg3 harg3 arg30 arg39 x0 x2 r k))) ∗
    holds c arg13 (View.canon (scales12 fun r k => rowScaleF e4 (hBlk arg1 harg1 arg3 harg3 arg30 arg39 x0 x2 r k))) ∗
    holds c arg14 (View.canon (tiles32 fun r k => rowCodesB e5 (blk arg2 harg2 x1 r k))) ∗
    holds c arg15 (View.canon (scales32 fun r k => rowScaleB e5 (blk arg2 harg2 x1 r k))) ∗
    holds c arg16 (View.canon (tiles32 fun r k => colCodesB e5 (blk arg2 harg2 x1 r k))) ∗ anyAt (F := F) c arg17 ∗
    holds c arg18 (View.canon (tiles12 fun r k => colCodesB e4 (rowWideF e4 (hBlk arg1 harg1 arg3 harg3 arg30 arg39 x0 x2 r k)))) ∗
    anyAt (F := F) c arg19 ∗
    holds c arg20 (View.canon (tiles12 fun r k => rowCodesF e5 (daBlk arg1 harg1 arg2 harg2 arg3 harg3 arg4 harg4 arg30 arg31 arg39 arg40 x0 x1 x2 x3 r k))) ∗
    holds c arg21 (View.canon (scales12 fun r k => rowScaleF e5 (daBlk arg1 harg1 arg2 harg2 arg3 harg3 arg4 harg4 arg30 arg31 arg39 arg40 x0 x1 x2 x3 r k))) ∗
    holds c arg22 (View.canon (tiles12 fun r k => rowCodesF e5 (dbBlk arg1 harg1 arg2 harg2 arg3 harg3 arg4 harg4 arg30 arg31 arg39 arg40 x0 x1 x2 x3 r k))) ∗
    holds c arg23 (View.canon (scales12 fun r k => rowScaleF e5 (dbBlk arg1 harg1 arg2 harg2 arg3 harg3 arg4 harg4 arg30 arg31 arg39 arg40 x0 x1 x2 x3 r k))) ∗
    holds c arg24 (View.canon (tiles32 fun r k => colCodesB e4 (rowWideB e4 (blk arg1 harg1 x0 r k)))) ∗ anyAt (F := F) c arg25 ∗
    holds c arg26 (View.canon (tiles12 fun r k => colCodesF e5 (daBlk arg1 harg1 arg2 harg2 arg3 harg3 arg4 harg4 arg30 arg31 arg39 arg40 x0 x1 x2 x3 r k))) ∗
    anyAt (F := F) c arg27 ∗
    holds c arg28 (View.canon (tiles12 fun r k => colCodesF e5 (dbBlk arg1 harg1 arg2 harg2 arg3 harg3 arg4 harg4 arg30 arg31 arg39 arg40 x0 x1 x2 x3 r k))) ∗
    anyAt (F := F) c arg29 ∗ anyAt (F := F) c arg30 ∗ anyAt (F := F) c arg31 ∗ holds c arg32 s2 ∗ holds c arg33 s3 ∗ anyAt (F := F) c arg34 ∗
    anyAt (F := F) c arg35 ∗ holds c arg36 s6 ∗ holds c arg37 s7 ∗ holds c arg38 s8 ∗ anyAt (F := F) c arg39 ∗ anyAt (F := F) c arg40)

set_option maxHeartbeats 800000 in
/-- From the stores to what is kept: of an output the array its stores make up. -/
theorem settle {Ly : List (View.Piece (Elt F) S256x2048 .bf16)} {Ldx : List (View.Piece (Elt F) S256x2048 .bf16)} {Ldw1 : List (View.Piece (Elt F) S2048x768 .f32)} {Ldw3 : List (View.Piece (Elt F) S2048x768 .f32)} {Ldw2 : List (View.Piece (Elt F) S768x2048 .f32)} {Lxq : List (View.Piece (Elt F) S256x2048 .fp8e4m3)} {Lxs : List (View.Piece (Elt F) S256x16 .f32)} {Lhq : List (View.Piece (Elt F) S256x768 .fp8e4m3)} {Lhs : List (View.Piece (Elt F) S256x6 .f32)} {Ldyq : List (View.Piece (Elt F) S256x2048 .fp8e5m2)} {Ldys : List (View.Piece (Elt F) S256x16 .f32)} {Ldycq : List (View.Piece (Elt F) S256x2048 .fp8e5m2)} {Lhcq : List (View.Piece (Elt F) S256x768 .fp8e4m3)} {Ldaq : List (View.Piece (Elt F) S256x768 .fp8e5m2)} {Ldas : List (View.Piece (Elt F) S256x6 .f32)} {Ldbq : List (View.Piece (Elt F) S256x768 .fp8e5m2)} {Ldbs : List (View.Piece (Elt F) S256x6 .f32)} {Lxcq : List (View.Piece (Elt F) S256x2048 .fp8e4m3)} {Ldacq : List (View.Piece (Elt F) S256x768 .fp8e5m2)} {Ldbcq : List (View.Piece (Elt F) S256x768 .fp8e5m2)} {Lxw : List (View.Piece (Elt F) S256x2048 .bf16)} {Ldyw : List (View.Piece (Elt F) S256x2048 .bf16)} {Lxcw : List (View.Piece (Elt F) S256x2048 .bf16)} {Ldycw : List (View.Piece (Elt F) S256x2048 .bf16)} {Lhw : List (View.Piece (Elt F) S256x768 .bf16)} {Ldabw : List (View.Piece (Elt F) S256x1536 .bf16)} {Lhcw : List (View.Piece (Elt F) S256x768 .bf16)} {Ldacw : List (View.Piece (Elt F) S256x768 .bf16)} {Ldbcw : List (View.Piece (Elt F) S256x768 .bf16)} {Lab : List (View.Piece (Elt F) S256x512 .f32)} {Ldh : List (View.Piece (Elt F) S256x256 .f32)} {o6 o7 : Vec F S2048x768 .f32} {o8 : Vec F S768x2048 .f32} {s2 s3 : Vec F S256x2048 .bf16} {s6 s7 s8 : Vec F S256x768 .bf16}
    (ey : Ly = yL arg1 harg1 arg3 harg3 arg4 harg4 arg30 arg34 arg39 x0 x2 x3) (edx : Ldx = dxL arg1 harg1 arg2 harg2 arg3 harg3 arg4 harg4 arg30 arg31 arg35 arg39 arg40 x0 x1 x2 x3) (fdw1 : Fills Ldw1 o6) (fdw3 : Fills Ldw3 o7) (fdw2 : Fills Ldw2 o8) (exq : Lxq = tiles32 fun r k => rowCodesB e4 (blk arg1 harg1 x0 r k)) (exs : Lxs = scales32 fun r k => rowScaleB e4 (blk arg1 harg1 x0 r k)) (ehq : Lhq = tiles12 fun r k => rowCodesF e4 (hBlk arg1 harg1 arg3 harg3 arg30 arg39 x0 x2 r k)) (ehs : Lhs = scales12 fun r k => rowScaleF e4 (hBlk arg1 harg1 arg3 harg3 arg30 arg39 x0 x2 r k)) (edyq : Ldyq = tiles32 fun r k => rowCodesB e5 (blk arg2 harg2 x1 r k)) (edys : Ldys = scales32 fun r k => rowScaleB e5 (blk arg2 harg2 x1 r k)) (edycq : Ldycq = tiles32 fun r k => colCodesB e5 (blk arg2 harg2 x1 r k)) (ehcq : Lhcq = tiles12 fun r k => colCodesB e4 (rowWideF e4 (hBlk arg1 harg1 arg3 harg3 arg30 arg39 x0 x2 r k))) (edaq : Ldaq = tiles12 fun r k => rowCodesF e5 (daBlk arg1 harg1 arg2 harg2 arg3 harg3 arg4 harg4 arg30 arg31 arg39 arg40 x0 x1 x2 x3 r k)) (edas : Ldas = scales12 fun r k => rowScaleF e5 (daBlk arg1 harg1 arg2 harg2 arg3 harg3 arg4 harg4 arg30 arg31 arg39 arg40 x0 x1 x2 x3 r k)) (edbq : Ldbq = tiles12 fun r k => rowCodesF e5 (dbBlk arg1 harg1 arg2 harg2 arg3 harg3 arg4 harg4 arg30 arg31 arg39 arg40 x0 x1 x2 x3 r k)) (edbs : Ldbs = scales12 fun r k => rowScaleF e5 (dbBlk arg1 harg1 arg2 harg2 arg3 harg3 arg4 harg4 arg30 arg31 arg39 arg40 x0 x1 x2 x3 r k)) (excq : Lxcq = tiles32 fun r k => colCodesB e4 (rowWideB e4 (blk arg1 harg1 x0 r k))) (edacq : Ldacq = tiles12 fun r k => colCodesF e5 (daBlk arg1 harg1 arg2 harg2 arg3 harg3 arg4 harg4 arg30 arg31 arg39 arg40 x0 x1 x2 x3 r k)) (edbcq : Ldbcq = tiles12 fun r k => colCodesF e5 (dbBlk arg1 harg1 arg2 harg2 arg3 harg3 arg4 harg4 arg30 arg31 arg39 arg40 x0 x1 x2 x3 r k)) (fxcw : Fills Lxcw s2) (fdycw : Fills Ldycw s3) (fhcw : Fills Lhcw s6) (fdacw : Fills Ldacw s7) (fdbcw : Fills Ldbcw s8) :
    left c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 Ly Ldx Ldw1 Ldw3 Ldw2 Lxq Lxs Lhq Lhs Ldyq Ldys Ldycq Lhcq Ldaq Ldas Ldbq Ldbs Lxcq Ldacq Ldbcq Lxw Ldyw Lxcw Ldycw Lhw Ldabw Lhcw Ldacw Ldbcw Lab Ldh ⊢ kept c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 o6 o7 o8 s2 s3 s6 s7 s8 := by
  subst ey; subst edx; subst exq; subst exs; subst ehq; subst ehs; subst edyq; subst edys; subst edycq; subst ehcq; subst edaq; subst edas; subst edbq; subst edbs; subst excq; subst edacq; subst edbcq
  unfold left kept
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, H40⟩
  isplitl [H1]; · iexact H1
  isplitl [H2]; · iexact H2
  isplitl [H3]; · iexact H3
  isplitl [H4]; · iexact H4
  isplitl [H5]; · iapply (leaves_canon c arg5 _ (cover_y _ _ _ _ _ _ _ _ _ _ _ _)); iexact H5
  isplitl [H6]; · iapply (leaves_canon c arg6 _ (cover_dx _ _ _ _ _ _ _ _ _ _ _ _ _ _ _ _ _)); iexact H6
  isplitl [H7]; · iapply (leaves_as c arg7 fdw1); iexact H7
  isplitl [H8]; · iapply (leaves_as c arg8 fdw3); iexact H8
  isplitl [H9]; · iapply (leaves_as c arg9 fdw2); iexact H9
  isplitl [H10]; · iapply (leaves_canon c arg10 _ (cover_tiles32 _)); iexact H10
  isplitl [H11]; · iapply (leaves_canon c arg11 _ (cover_scales32 _)); iexact H11
  isplitl [H12]; · iapply (leaves_canon c arg12 _ (cover_tiles12 _)); iexact H12
  isplitl [H13]; · iapply (leaves_canon c arg13 _ (cover_scales12 _)); iexact H13
  isplitl [H14]; · iapply (leaves_canon c arg14 _ (cover_tiles32 _)); iexact H14
  isplitl [H15]; · iapply (leaves_canon c arg15 _ (cover_scales32 _)); iexact H15
  isplitl [H16]; · iapply (leaves_canon c arg16 _ (cover_tiles32 _)); iexact H16
  isplitl [H17]; · iexact H17
  isplitl [H18]; · iapply (leaves_canon c arg18 _ (cover_tiles12 _)); iexact H18
  isplitl [H19]; · iexact H19
  isplitl [H20]; · iapply (leaves_canon c arg20 _ (cover_tiles12 _)); iexact H20
  isplitl [H21]; · iapply (leaves_canon c arg21 _ (cover_scales12 _)); iexact H21
  isplitl [H22]; · iapply (leaves_canon c arg22 _ (cover_tiles12 _)); iexact H22
  isplitl [H23]; · iapply (leaves_canon c arg23 _ (cover_scales12 _)); iexact H23
  isplitl [H24]; · iapply (leaves_canon c arg24 _ (cover_tiles32 _)); iexact H24
  isplitl [H25]; · iexact H25
  isplitl [H26]; · iapply (leaves_canon c arg26 _ (cover_tiles12 _)); iexact H26
  isplitl [H27]; · iexact H27
  isplitl [H28]; · iapply (leaves_canon c arg28 _ (cover_tiles12 _)); iexact H28
  isplitl [H29]; · iexact H29
  isplitl [H30]; · iapply (leaves_any c arg30 _); iexact H30
  isplitl [H31]; · iapply (leaves_any c arg31 _); iexact H31
  isplitl [H32]; · iapply (leaves_as c arg32 fxcw); iexact H32
  isplitl [H33]; · iapply (leaves_as c arg33 fdycw); iexact H33
  isplitl [H34]; · iapply (leaves_any c arg34 _); iexact H34
  isplitl [H35]; · iapply (leaves_any c arg35 _); iexact H35
  isplitl [H36]; · iapply (leaves_as c arg36 fhcw); iexact H36
  isplitl [H37]; · iapply (leaves_as c arg37 fdacw); iexact H37
  isplitl [H38]; · iapply (leaves_as c arg38 fdbcw); iexact H38
  isplitl [H39]; · iapply (leaves_any c arg39 _); iexact H39
  iapply (leaves_any c arg40 _); iexact H40

/-- What is beside the buffers may be weakened. -/
theorem given_mono {R R' : sProp 𝕄} (h : R ⊢ R') : given c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 R ⊢ given c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 R' := by
  unfold given
  exact sep_mono .rfl <| sep_mono .rfl <| sep_mono .rfl <| sep_mono .rfl <| sep_mono .rfl <| sep_mono .rfl <| sep_mono .rfl <| sep_mono .rfl <|
    sep_mono .rfl <| sep_mono .rfl <| sep_mono .rfl <| sep_mono .rfl <| sep_mono .rfl <| sep_mono .rfl <| sep_mono .rfl <| sep_mono .rfl <|
    sep_mono .rfl <| sep_mono .rfl <| sep_mono .rfl <| sep_mono .rfl <| sep_mono .rfl <| sep_mono .rfl <| sep_mono .rfl <| sep_mono .rfl <|
    sep_mono .rfl <| sep_mono .rfl <| sep_mono .rfl <| sep_mono .rfl <| sep_mono .rfl <| sep_mono .rfl <| sep_mono .rfl <| sep_mono .rfl <|
    sep_mono .rfl <| sep_mono .rfl <| sep_mono .rfl <| sep_mono .rfl <| sep_mono .rfl <| sep_mono .rfl <| sep_mono .rfl <| sep_mono .rfl <| h

@[inherit_doc given_mono]
theorem givenAt_mono (h6 h7 : Vec F S2048x768 .f32) (h8 : Vec F S768x2048 .f32) (hs2 hs3 : Vec F S256x2048 .bf16) (hs6 hs7 hs8 : Vec F S256x768 .bf16)
    {R R' : sProp 𝕄} (h : R ⊢ R') :
    givenAt c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 h6 h7 h8 hs2 hs3 hs6 hs7 hs8 R ⊢ givenAt c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 h6 h7 h8 hs2 hs3 hs6 hs7 hs8 R' := by
  unfold givenAt
  exact sep_mono .rfl <| sep_mono .rfl <| sep_mono .rfl <| sep_mono .rfl <| sep_mono .rfl <| sep_mono .rfl <| sep_mono .rfl <| sep_mono .rfl <|
    sep_mono .rfl <| sep_mono .rfl <| sep_mono .rfl <| sep_mono .rfl <| sep_mono .rfl <| sep_mono .rfl <| sep_mono .rfl <| sep_mono .rfl <|
    sep_mono .rfl <| sep_mono .rfl <| sep_mono .rfl <| sep_mono .rfl <| sep_mono .rfl <| sep_mono .rfl <| sep_mono .rfl <| sep_mono .rfl <|
    sep_mono .rfl <| sep_mono .rfl <| sep_mono .rfl <| sep_mono .rfl <| sep_mono .rfl <| sep_mono .rfl <| sep_mono .rfl <| sep_mono .rfl <|
    sep_mono .rfl <| sep_mono .rfl <| sep_mono .rfl <| sep_mono .rfl <| sep_mono .rfl <| sep_mono .rfl <| sep_mono .rfl <| sep_mono .rfl <| h

/-- A point's buffers as the loop hands them over: the scratch buffers and the generator register `G`, what is owed `O`, the blocks. -/
def before (G O : sProp 𝕄) : sProp 𝕄 :=
  iprop(((anyAt (F := F) c arg30 ∗ anyAt (F := F) c arg31 ∗ anyAt (F := F) c arg32 ∗ anyAt (F := F) c arg33 ∗ anyAt (F := F) c arg34 ∗
    anyAt (F := F) c arg35 ∗ anyAt (F := F) c arg36 ∗ anyAt (F := F) c arg37 ∗ anyAt (F := F) c arg38 ∗ anyAt (F := F) c arg39 ∗
    anyAt (F := F) c arg40) ∗ G) ∗ O ∗
    (∃ d : S256x2048.Idx → Elt F .bf16, holds c arg1 x0) ∗ (∃ d : S256x2048.Idx → Elt F .bf16, holds c arg2 x1) ∗
    (∃ d : S2048x1536.Idx → Elt F .bf16, holds c arg3 x2) ∗ (∃ d : S768x2048.Idx → Elt F .bf16, holds c arg4 x3) ∗ anyAt (F := F) c arg5 ∗
    anyAt (F := F) c arg6 ∗ anyAt (F := F) c arg7 ∗ anyAt (F := F) c arg8 ∗ anyAt (F := F) c arg9 ∗ anyAt (F := F) c arg10 ∗ anyAt (F := F) c arg11 ∗
    anyAt (F := F) c arg12 ∗ anyAt (F := F) c arg13 ∗ anyAt (F := F) c arg14 ∗ anyAt (F := F) c arg15 ∗ anyAt (F := F) c arg16 ∗
    anyAt (F := F) c arg17 ∗ anyAt (F := F) c arg18 ∗ anyAt (F := F) c arg19 ∗ anyAt (F := F) c arg20 ∗ anyAt (F := F) c arg21 ∗
    anyAt (F := F) c arg22 ∗ anyAt (F := F) c arg23 ∗ anyAt (F := F) c arg24 ∗ anyAt (F := F) c arg25 ∗ anyAt (F := F) c arg26 ∗
    anyAt (F := F) c arg27 ∗ anyAt (F := F) c arg28 ∗ anyAt (F := F) c arg29)
/-- The same after the first point, with what is carried named. -/
def beforeAt (h6 h7 : Vec F S2048x768 .f32) (h8 : Vec F S768x2048 .f32) (hs2 hs3 : Vec F S256x2048 .bf16) (hs6 hs7 hs8 : Vec F S256x768 .bf16) (G O : sProp 𝕄) : sProp 𝕄 :=
  iprop(((anyAt (F := F) c arg30 ∗ anyAt (F := F) c arg31 ∗ holds c arg32 hs2 ∗ holds c arg33 hs3 ∗ anyAt (F := F) c arg34 ∗ anyAt (F := F) c arg35 ∗
    holds c arg36 hs6 ∗ holds c arg37 hs7 ∗ holds c arg38 hs8 ∗ anyAt (F := F) c arg39 ∗ anyAt (F := F) c arg40) ∗ G) ∗ O ∗
    (∃ d : S256x2048.Idx → Elt F .bf16, holds c arg1 x0) ∗ (∃ d : S256x2048.Idx → Elt F .bf16, holds c arg2 x1) ∗
    (∃ d : S2048x1536.Idx → Elt F .bf16, holds c arg3 x2) ∗ (∃ d : S768x2048.Idx → Elt F .bf16, holds c arg4 x3) ∗ anyAt (F := F) c arg5 ∗
    anyAt (F := F) c arg6 ∗ holds c arg7 h6 ∗ holds c arg8 h7 ∗ holds c arg9 h8 ∗ anyAt (F := F) c arg10 ∗ anyAt (F := F) c arg11 ∗
    anyAt (F := F) c arg12 ∗ anyAt (F := F) c arg13 ∗ anyAt (F := F) c arg14 ∗ anyAt (F := F) c arg15 ∗ anyAt (F := F) c arg16 ∗
    anyAt (F := F) c arg17 ∗ anyAt (F := F) c arg18 ∗ anyAt (F := F) c arg19 ∗ anyAt (F := F) c arg20 ∗ anyAt (F := F) c arg21 ∗
    anyAt (F := F) c arg22 ∗ anyAt (F := F) c arg23 ∗ anyAt (F := F) c arg24 ∗ anyAt (F := F) c arg25 ∗ anyAt (F := F) c arg26 ∗
    anyAt (F := F) c arg27 ∗ anyAt (F := F) c arg28 ∗ anyAt (F := F) c arg29)
/-- and as it takes them back. -/
def after (o6 o7 : Vec F S2048x768 .f32) (o8 : Vec F S768x2048 .f32) (s2 s3 : Vec F S256x2048 .bf16) (s6 s7 s8 : Vec F S256x768 .bf16) (G O : sProp 𝕄) : sProp 𝕄 :=
  iprop(((anyAt (F := F) c arg30 ∗ anyAt (F := F) c arg31 ∗ holds c arg32 s2 ∗ holds c arg33 s3 ∗ anyAt (F := F) c arg34 ∗ anyAt (F := F) c arg35 ∗
    holds c arg36 s6 ∗ holds c arg37 s7 ∗ holds c arg38 s8 ∗ anyAt (F := F) c arg39 ∗ anyAt (F := F) c arg40) ∗ G) ∗ O ∗
    holds c arg1 x0 ∗ holds c arg2 x1 ∗ holds c arg3 x2 ∗ holds c arg4 x3 ∗
    holds c arg5 (View.canon (yL arg1 harg1 arg3 harg3 arg4 harg4 arg30 arg34 arg39 x0 x2 x3)) ∗
    holds c arg6 (View.canon (dxL arg1 harg1 arg2 harg2 arg3 harg3 arg4 harg4 arg30 arg31 arg35 arg39 arg40 x0 x1 x2 x3)) ∗ holds c arg7 o6 ∗
    holds c arg8 o7 ∗ holds c arg9 o8 ∗ holds c arg10 (View.canon (tiles32 fun r k => rowCodesB e4 (blk arg1 harg1 x0 r k))) ∗
    holds c arg11 (View.canon (scales32 fun r k => rowScaleB e4 (blk arg1 harg1 x0 r k))) ∗
    holds c arg12 (View.canon (tiles12 fun r k => rowCodesF e4 (hBlk arg1 harg1 arg3 harg3 arg30 arg39 x0 x2 r k))) ∗
    holds c arg13 (View.canon (scales12 fun r k => rowScaleF e4 (hBlk arg1 harg1 arg3 harg3 arg30 arg39 x0 x2 r k))) ∗
    holds c arg14 (View.canon (tiles32 fun r k => rowCodesB e5 (blk arg2 harg2 x1 r k))) ∗
    holds c arg15 (View.canon (scales32 fun r k => rowScaleB e5 (blk arg2 harg2 x1 r k))) ∗
    holds c arg16 (View.canon (tiles32 fun r k => colCodesB e5 (blk arg2 harg2 x1 r k))) ∗ anyAt (F := F) c arg17 ∗
    holds c arg18 (View.canon (tiles12 fun r k => colCodesB e4 (rowWideF e4 (hBlk arg1 harg1 arg3 harg3 arg30 arg39 x0 x2 r k)))) ∗
    anyAt (F := F) c arg19 ∗
    holds c arg20 (View.canon (tiles12 fun r k => rowCodesF e5 (daBlk arg1 harg1 arg2 harg2 arg3 harg3 arg4 harg4 arg30 arg31 arg39 arg40 x0 x1 x2 x3 r k))) ∗
    holds c arg21 (View.canon (scales12 fun r k => rowScaleF e5 (daBlk arg1 harg1 arg2 harg2 arg3 harg3 arg4 harg4 arg30 arg31 arg39 arg40 x0 x1 x2 x3 r k))) ∗
    holds c arg22 (View.canon (tiles12 fun r k => rowCodesF e5 (dbBlk arg1 harg1 arg2 harg2 arg3 harg3 arg4 harg4 arg30 arg31 arg39 arg40 x0 x1 x2 x3 r k))) ∗
    holds c arg23 (View.canon (scales12 fun r k => rowScaleF e5 (dbBlk arg1 harg1 arg2 harg2 arg3 harg3 arg4 harg4 arg30 arg31 arg39 arg40 x0 x1 x2 x3 r k))) ∗
    holds c arg24 (View.canon (tiles32 fun r k => colCodesB e4 (rowWideB e4 (blk arg1 harg1 x0 r k)))) ∗ anyAt (F := F) c arg25 ∗
    holds c arg26 (View.canon (tiles12 fun r k => colCodesF e5 (daBlk arg1 harg1 arg2 harg2 arg3 harg3 arg4 harg4 arg30 arg31 arg39 arg40 x0 x1 x2 x3 r k))) ∗
    anyAt (F := F) c arg27 ∗
    holds c arg28 (View.canon (tiles12 fun r k => colCodesF e5 (dbBlk arg1 harg1 arg2 harg2 arg3 harg3 arg4 harg4 arg30 arg31 arg39 arg40 x0 x1 x2 x3 r k))) ∗
    anyAt (F := F) c arg29)

/-- What the body is started with at the first point holds all that its stores need. -/
theorem before_given (G O : sProp 𝕄) : before c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 G O ⊢ given c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 iprop(G ∗ O) := by
  unfold before given
  iintro ⟨⟨⟨H30, H31, H32, H33, H34, H35, H36, H37, H38, H39, H40⟩, HG⟩, HO, ⟨%d1, H1⟩, ⟨%d2, H2⟩, ⟨%d3, H3⟩, ⟨%d4, H4⟩, H5, H6, H7, H8, H9, H10, H11, H12, H13, H14, H15, H16, H17, H18, H19, H20, H21, H22, H23, H24, H25, H26, H27, H28, H29⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [HG]; · iexact HG
  iexact HO

@[inherit_doc before_given]
theorem beforeAt_given (h6 h7 : Vec F S2048x768 .f32) (h8 : Vec F S768x2048 .f32) (hs2 hs3 : Vec F S256x2048 .bf16) (hs6 hs7 hs8 : Vec F S256x768 .bf16) (G O : sProp 𝕄) : beforeAt c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 h6 h7 h8 hs2 hs3 hs6 hs7 hs8 G O ⊢ givenAt c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 h6 h7 h8 hs2 hs3 hs6 hs7 hs8 iprop(G ∗ O) := by
  unfold beforeAt givenAt
  iintro ⟨⟨⟨H30, H31, H32, H33, H34, H35, H36, H37, H38, H39, H40⟩, HG⟩, HO, ⟨%d1, H1⟩, ⟨%d2, H2⟩, ⟨%d3, H3⟩, ⟨%d4, H4⟩, H5, H6, H7, H8, H9, H10, H11, H12, H13, H14, H15, H16, H17, H18, H19, H20, H21, H22, H23, H24, H25, H26, H27, H28, H29⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [HG]; · iexact HG
  iexact HO

/-- What the body leaves in its buffers is what is said of them after it. -/
theorem kept_after (o6 o7 : Vec F S2048x768 .f32) (o8 : Vec F S768x2048 .f32) (s2 s3 : Vec F S256x2048 .bf16) (s6 s7 s8 : Vec F S256x768 .bf16) (G O : sProp 𝕄) : iprop((G ∗ O) ∗ kept c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 o6 o7 o8 s2 s3 s6 s7 s8) ⊢ after c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 o6 o7 o8 s2 s3 s6 s7 s8 G O := by
  unfold kept after
  iintro ⟨⟨HG, HO⟩, H1, H2, H3, H4, H5, H6, H7, H8, H9, H10, H11, H12, H13, H14, H15, H16, H17, H18, H19, H20, H21, H22, H23, H24, H25, H26, H27, H28, H29, H30, H31, H32, H33, H34, H35, H36, H37, H38, H39, H40⟩
  isplitl [H30 H31 H32 H33 H34 H35 H36 H37 H38 H39 H40 HG]
  · isplitl [H30 H31 H32 H33 H34 H35 H36 H37 H38 H39 H40]
    · isplitl [H30]; · iexact H30
      isplitl [H31]; · iexact H31
      isplitl [H32]; · iexact H32
      isplitl [H33]; · iexact H33
      isplitl [H34]; · iexact H34
      isplitl [H35]; · iexact H35
      isplitl [H36]; · iexact H36
      isplitl [H37]; · iexact H37
      isplitl [H38]; · iexact H38
      isplitl [H39]; · iexact H39
      iexact H40
    iexact HG
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- With the stores of a point handed in, the point's buffers go back to the loop. -/
theorem close {Ly : List (View.Piece (Elt F) S256x2048 .bf16)} {Ldx : List (View.Piece (Elt F) S256x2048 .bf16)} {Ldw1 : List (View.Piece (Elt F) S2048x768 .f32)} {Ldw3 : List (View.Piece (Elt F) S2048x768 .f32)} {Ldw2 : List (View.Piece (Elt F) S768x2048 .f32)} {Lxq : List (View.Piece (Elt F) S256x2048 .fp8e4m3)} {Lxs : List (View.Piece (Elt F) S256x16 .f32)} {Lhq : List (View.Piece (Elt F) S256x768 .fp8e4m3)} {Lhs : List (View.Piece (Elt F) S256x6 .f32)} {Ldyq : List (View.Piece (Elt F) S256x2048 .fp8e5m2)} {Ldys : List (View.Piece (Elt F) S256x16 .f32)} {Ldycq : List (View.Piece (Elt F) S256x2048 .fp8e5m2)} {Lhcq : List (View.Piece (Elt F) S256x768 .fp8e4m3)} {Ldaq : List (View.Piece (Elt F) S256x768 .fp8e5m2)} {Ldas : List (View.Piece (Elt F) S256x6 .f32)} {Ldbq : List (View.Piece (Elt F) S256x768 .fp8e5m2)} {Ldbs : List (View.Piece (Elt F) S256x6 .f32)} {Lxcq : List (View.Piece (Elt F) S256x2048 .fp8e4m3)} {Ldacq : List (View.Piece (Elt F) S256x768 .fp8e5m2)} {Ldbcq : List (View.Piece (Elt F) S256x768 .fp8e5m2)} {Lxw : List (View.Piece (Elt F) S256x2048 .bf16)} {Ldyw : List (View.Piece (Elt F) S256x2048 .bf16)} {Lxcw : List (View.Piece (Elt F) S256x2048 .bf16)} {Ldycw : List (View.Piece (Elt F) S256x2048 .bf16)} {Lhw : List (View.Piece (Elt F) S256x768 .bf16)} {Ldabw : List (View.Piece (Elt F) S256x1536 .bf16)} {Lhcw : List (View.Piece (Elt F) S256x768 .bf16)} {Ldacw : List (View.Piece (Elt F) S256x768 .bf16)} {Ldbcw : List (View.Piece (Elt F) S256x768 .bf16)} {Lab : List (View.Piece (Elt F) S256x512 .f32)} {Ldh : List (View.Piece (Elt F) S256x256 .f32)} {o6 o7 : Vec F S2048x768 .f32} {o8 : Vec F S768x2048 .f32} {s2 s3 : Vec F S256x2048 .bf16} {s6 s7 s8 : Vec F S256x768 .bf16} {G O : sProp 𝕄}
    (ey : Ly = yL arg1 harg1 arg3 harg3 arg4 harg4 arg30 arg34 arg39 x0 x2 x3) (edx : Ldx = dxL arg1 harg1 arg2 harg2 arg3 harg3 arg4 harg4 arg30 arg31 arg35 arg39 arg40 x0 x1 x2 x3) (fdw1 : Fills Ldw1 o6) (fdw3 : Fills Ldw3 o7) (fdw2 : Fills Ldw2 o8) (exq : Lxq = tiles32 fun r k => rowCodesB e4 (blk arg1 harg1 x0 r k)) (exs : Lxs = scales32 fun r k => rowScaleB e4 (blk arg1 harg1 x0 r k)) (ehq : Lhq = tiles12 fun r k => rowCodesF e4 (hBlk arg1 harg1 arg3 harg3 arg30 arg39 x0 x2 r k)) (ehs : Lhs = scales12 fun r k => rowScaleF e4 (hBlk arg1 harg1 arg3 harg3 arg30 arg39 x0 x2 r k)) (edyq : Ldyq = tiles32 fun r k => rowCodesB e5 (blk arg2 harg2 x1 r k)) (edys : Ldys = scales32 fun r k => rowScaleB e5 (blk arg2 harg2 x1 r k)) (edycq : Ldycq = tiles32 fun r k => colCodesB e5 (blk arg2 harg2 x1 r k)) (ehcq : Lhcq = tiles12 fun r k => colCodesB e4 (rowWideF e4 (hBlk arg1 harg1 arg3 harg3 arg30 arg39 x0 x2 r k))) (edaq : Ldaq = tiles12 fun r k => rowCodesF e5 (daBlk arg1 harg1 arg2 harg2 arg3 harg3 arg4 harg4 arg30 arg31 arg39 arg40 x0 x1 x2 x3 r k)) (edas : Ldas = scales12 fun r k => rowScaleF e5 (daBlk arg1 harg1 arg2 harg2 arg3 harg3 arg4 harg4 arg30 arg31 arg39 arg40 x0 x1 x2 x3 r k)) (edbq : Ldbq = tiles12 fun r k => rowCodesF e5 (dbBlk arg1 harg1 arg2 harg2 arg3 harg3 arg4 harg4 arg30 arg31 arg39 arg40 x0 x1 x2 x3 r k)) (edbs : Ldbs = scales12 fun r k => rowScaleF e5 (dbBlk arg1 harg1 arg2 harg2 arg3 harg3 arg4 harg4 arg30 arg31 arg39 arg40 x0 x1 x2 x3 r k)) (excq : Lxcq = tiles32 fun r k => colCodesB e4 (rowWideB e4 (blk arg1 harg1 x0 r k))) (edacq : Ldacq = tiles12 fun r k => colCodesF e5 (daBlk arg1 harg1 arg2 harg2 arg3 harg3 arg4 harg4 arg30 arg31 arg39 arg40 x0 x1 x2 x3 r k)) (edbcq : Ldbcq = tiles12 fun r k => colCodesF e5 (dbBlk arg1 harg1 arg2 harg2 arg3 harg3 arg4 harg4 arg30 arg31 arg39 arg40 x0 x1 x2 x3 r k)) (fxcw : Fills Lxcw s2) (fdycw : Fills Ldycw s3) (fhcw : Fills Lhcw s6) (fdacw : Fills Ldacw s7) (fdbcw : Fills Ldbcw s8) :
    iprop(G ∗ O) ⊢ iprop(left c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 Ly Ldx Ldw1 Ldw3 Ldw2 Lxq Lxs Lhq Lhs Ldyq Ldys Ldycq Lhcq Ldaq Ldas Ldbq Ldbs Lxcq Ldacq Ldbcq Lxw Ldyw Lxcw Ldycw Lhw Ldabw Lhcw Ldacw Ldbcw Lab Ldh -∗ after c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 o6 o7 o8 s2 s3 s6 s7 s8 G O) :=
  BIClass.wand_intro ((sep_mono .rfl (settle c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 ey edx fdw1 fdw3 fdw2 exq exs ehq ehs edyq edys edycq ehcq edaq edas edbq edbs excq edacq edbcq fxcw fdycw fhcw fdacw fdbcw)).trans (kept_after c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 o6 o7 o8 s2 s3 s6 s7 s8 G O))

/-- A run that ends with the stores named leaves what is kept. -/
theorem finish {Ly : List (View.Piece (Elt F) S256x2048 .bf16)} {Ldx : List (View.Piece (Elt F) S256x2048 .bf16)} {Ldw1 : List (View.Piece (Elt F) S2048x768 .f32)} {Ldw3 : List (View.Piece (Elt F) S2048x768 .f32)} {Ldw2 : List (View.Piece (Elt F) S768x2048 .f32)} {Lxq : List (View.Piece (Elt F) S256x2048 .fp8e4m3)} {Lxs : List (View.Piece (Elt F) S256x16 .f32)} {Lhq : List (View.Piece (Elt F) S256x768 .fp8e4m3)} {Lhs : List (View.Piece (Elt F) S256x6 .f32)} {Ldyq : List (View.Piece (Elt F) S256x2048 .fp8e5m2)} {Ldys : List (View.Piece (Elt F) S256x16 .f32)} {Ldycq : List (View.Piece (Elt F) S256x2048 .fp8e5m2)} {Lhcq : List (View.Piece (Elt F) S256x768 .fp8e4m3)} {Ldaq : List (View.Piece (Elt F) S256x768 .fp8e5m2)} {Ldas : List (View.Piece (Elt F) S256x6 .f32)} {Ldbq : List (View.Piece (Elt F) S256x768 .fp8e5m2)} {Ldbs : List (View.Piece (Elt F) S256x6 .f32)} {Lxcq : List (View.Piece (Elt F) S256x2048 .fp8e4m3)} {Ldacq : List (View.Piece (Elt F) S256x768 .fp8e5m2)} {Ldbcq : List (View.Piece (Elt F) S256x768 .fp8e5m2)} {Lxw : List (View.Piece (Elt F) S256x2048 .bf16)} {Ldyw : List (View.Piece (Elt F) S256x2048 .bf16)} {Lxcw : List (View.Piece (Elt F) S256x2048 .bf16)} {Ldycw : List (View.Piece (Elt F) S256x2048 .bf16)} {Lhw : List (View.Piece (Elt F) S256x768 .bf16)} {Ldabw : List (View.Piece (Elt F) S256x1536 .bf16)} {Lhcw : List (View.Piece (Elt F) S256x768 .bf16)} {Ldacw : List (View.Piece (Elt F) S256x768 .bf16)} {Ldbcw : List (View.Piece (Elt F) S256x768 .bf16)} {Lab : List (View.Piece (Elt F) S256x512 .f32)} {Ldh : List (View.Piece (Elt F) S256x256 .f32)} {o6 o7 : Vec F S2048x768 .f32} {o8 : Vec F S768x2048 .f32} {s2 s3 : Vec F S256x2048 .bf16} {s6 s7 s8 : Vec F S256x768 .bf16} {G O W : sProp 𝕄}
    (hrun : given c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 iprop(left c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 Ly Ldx Ldw1 Ldw3 Ldw2 Lxq Lxs Lhq Lhs Ldyq Ldys Ldycq Lhcq Ldaq Ldas Ldbq Ldbs Lxcq Ldacq Ldbcq Lxw Ldyw Lxcw Ldycw Lhw Ldabw Lhcw Ldacw Ldbcw Lab Ldh -∗ after c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 o6 o7 o8 s2 s3 s6 s7 s8 G O) ⊢ W)
    (ey : Ly = yL arg1 harg1 arg3 harg3 arg4 harg4 arg30 arg34 arg39 x0 x2 x3) (edx : Ldx = dxL arg1 harg1 arg2 harg2 arg3 harg3 arg4 harg4 arg30 arg31 arg35 arg39 arg40 x0 x1 x2 x3) (fdw1 : Fills Ldw1 o6) (fdw3 : Fills Ldw3 o7) (fdw2 : Fills Ldw2 o8) (exq : Lxq = tiles32 fun r k => rowCodesB e4 (blk arg1 harg1 x0 r k)) (exs : Lxs = scales32 fun r k => rowScaleB e4 (blk arg1 harg1 x0 r k)) (ehq : Lhq = tiles12 fun r k => rowCodesF e4 (hBlk arg1 harg1 arg3 harg3 arg30 arg39 x0 x2 r k)) (ehs : Lhs = scales12 fun r k => rowScaleF e4 (hBlk arg1 harg1 arg3 harg3 arg30 arg39 x0 x2 r k)) (edyq : Ldyq = tiles32 fun r k => rowCodesB e5 (blk arg2 harg2 x1 r k)) (edys : Ldys = scales32 fun r k => rowScaleB e5 (blk arg2 harg2 x1 r k)) (edycq : Ldycq = tiles32 fun r k => colCodesB e5 (blk arg2 harg2 x1 r k)) (ehcq : Lhcq = tiles12 fun r k => colCodesB e4 (rowWideF e4 (hBlk arg1 harg1 arg3 harg3 arg30 arg39 x0 x2 r k))) (edaq : Ldaq = tiles12 fun r k => rowCodesF e5 (daBlk arg1 harg1 arg2 harg2 arg3 harg3 arg4 harg4 arg30 arg31 arg39 arg40 x0 x1 x2 x3 r k)) (edas : Ldas = scales12 fun r k => rowScaleF e5 (daBlk arg1 harg1 arg2 harg2 arg3 harg3 arg4 harg4 arg30 arg31 arg39 arg40 x0 x1 x2 x3 r k)) (edbq : Ldbq = tiles12 fun r k => rowCodesF e5 (dbBlk arg1 harg1 arg2 harg2 arg3 harg3 arg4 harg4 arg30 arg31 arg39 arg40 x0 x1 x2 x3 r k)) (edbs : Ldbs = scales12 fun r k => rowScaleF e5 (dbBlk arg1 harg1 arg2 harg2 arg3 harg3 arg4 harg4 arg30 arg31 arg39 arg40 x0 x1 x2 x3 r k)) (excq : Lxcq = tiles32 fun r k => colCodesB e4 (rowWideB e4 (blk arg1 harg1 x0 r k))) (edacq : Ldacq = tiles12 fun r k => colCodesF e5 (daBlk arg1 harg1 arg2 harg2 arg3 harg3 arg4 harg4 arg30 arg31 arg39 arg40 x0 x1 x2 x3 r k)) (edbcq : Ldbcq = tiles12 fun r k => colCodesF e5 (dbBlk arg1 harg1 arg2 harg2 arg3 harg3 arg4 harg4 arg30 arg31 arg39 arg40 x0 x1 x2 x3 r k)) (fxcw : Fills Lxcw s2) (fdycw : Fills Ldycw s3) (fhcw : Fills Lhcw s6) (fdacw : Fills Ldacw s7) (fdbcw : Fills Ldbcw s8) : before c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 G O ⊢ W :=
  (before_given c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 G O).trans ((given_mono c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 (close c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 ey edx fdw1 fdw3 fdw2 exq exs ehq ehs edyq edys edycq ehcq edaq edas edbq edbs excq edacq edbcq fxcw fdycw fhcw fdacw fdbcw)).trans hrun)

@[inherit_doc finish]
theorem finishAt {h6 h7 : Vec F S2048x768 .f32} {h8 : Vec F S768x2048 .f32} {hs2 hs3 : Vec F S256x2048 .bf16} {hs6 hs7 hs8 : Vec F S256x768 .bf16}
    {Ly : List (View.Piece (Elt F) S256x2048 .bf16)} {Ldx : List (View.Piece (Elt F) S256x2048 .bf16)} {Ldw1 : List (View.Piece (Elt F) S2048x768 .f32)} {Ldw3 : List (View.Piece (Elt F) S2048x768 .f32)} {Ldw2 : List (View.Piece (Elt F) S768x2048 .f32)} {Lxq : List (View.Piece (Elt F) S256x2048 .fp8e4m3)} {Lxs : List (View.Piece (Elt F) S256x16 .f32)} {Lhq : List (View.Piece (Elt F) S256x768 .fp8e4m3)} {Lhs : List (View.Piece (Elt F) S256x6 .f32)} {Ldyq : List (View.Piece (Elt F) S256x2048 .fp8e5m2)} {Ldys : List (View.Piece (Elt F) S256x16 .f32)} {Ldycq : List (View.Piece (Elt F) S256x2048 .fp8e5m2)} {Lhcq : List (View.Piece (Elt F) S256x768 .fp8e4m3)} {Ldaq : List (View.Piece (Elt F) S256x768 .fp8e5m2)} {Ldas : List (View.Piece (Elt F) S256x6 .f32)} {Ldbq : List (View.Piece (Elt F) S256x768 .fp8e5m2)} {Ldbs : List (View.Piece (Elt F) S256x6 .f32)} {Lxcq : List (View.Piece (Elt F) S256x2048 .fp8e4m3)} {Ldacq : List (View.Piece (Elt F) S256x768 .fp8e5m2)} {Ldbcq : List (View.Piece (Elt F) S256x768 .fp8e5m2)} {Lxw : List (View.Piece (Elt F) S256x2048 .bf16)} {Ldyw : List (View.Piece (Elt F) S256x2048 .bf16)} {Lxcw : List (View.Piece (Elt F) S256x2048 .bf16)} {Ldycw : List (View.Piece (Elt F) S256x2048 .bf16)} {Lhw : List (View.Piece (Elt F) S256x768 .bf16)} {Ldabw : List (View.Piece (Elt F) S256x1536 .bf16)} {Lhcw : List (View.Piece (Elt F) S256x768 .bf16)} {Ldacw : List (View.Piece (Elt F) S256x768 .bf16)} {Ldbcw : List (View.Piece (Elt F) S256x768 .bf16)} {Lab : List (View.Piece (Elt F) S256x512 .f32)} {Ldh : List (View.Piece (Elt F) S256x256 .f32)} {o6 o7 : Vec F S2048x768 .f32} {o8 : Vec F S768x2048 .f32} {s2 s3 : Vec F S256x2048 .bf16} {s6 s7 s8 : Vec F S256x768 .bf16} {G O W : sProp 𝕄}
    (hrun : givenAt c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 h6 h7 h8 hs2 hs3 hs6 hs7 hs8 iprop(left c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 Ly Ldx Ldw1 Ldw3 Ldw2 Lxq Lxs Lhq Lhs Ldyq Ldys Ldycq Lhcq Ldaq Ldas Ldbq Ldbs Lxcq Ldacq Ldbcq Lxw Ldyw Lxcw Ldycw Lhw Ldabw Lhcw Ldacw Ldbcw Lab Ldh -∗ after c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 o6 o7 o8 s2 s3 s6 s7 s8 G O) ⊢ W)
    (ey : Ly = yL arg1 harg1 arg3 harg3 arg4 harg4 arg30 arg34 arg39 x0 x2 x3) (edx : Ldx = dxL arg1 harg1 arg2 harg2 arg3 harg3 arg4 harg4 arg30 arg31 arg35 arg39 arg40 x0 x1 x2 x3) (fdw1 : Fills Ldw1 o6) (fdw3 : Fills Ldw3 o7) (fdw2 : Fills Ldw2 o8) (exq : Lxq = tiles32 fun r k => rowCodesB e4 (blk arg1 harg1 x0 r k)) (exs : Lxs = scales32 fun r k => rowScaleB e4 (blk arg1 harg1 x0 r k)) (ehq : Lhq = tiles12 fun r k => rowCodesF e4 (hBlk arg1 harg1 arg3 harg3 arg30 arg39 x0 x2 r k)) (ehs : Lhs = scales12 fun r k => rowScaleF e4 (hBlk arg1 harg1 arg3 harg3 arg30 arg39 x0 x2 r k)) (edyq : Ldyq = tiles32 fun r k => rowCodesB e5 (blk arg2 harg2 x1 r k)) (edys : Ldys = scales32 fun r k => rowScaleB e5 (blk arg2 harg2 x1 r k)) (edycq : Ldycq = tiles32 fun r k => colCodesB e5 (blk arg2 harg2 x1 r k)) (ehcq : Lhcq = tiles12 fun r k => colCodesB e4 (rowWideF e4 (hBlk arg1 harg1 arg3 harg3 arg30 arg39 x0 x2 r k))) (edaq : Ldaq = tiles12 fun r k => rowCodesF e5 (daBlk arg1 harg1 arg2 harg2 arg3 harg3 arg4 harg4 arg30 arg31 arg39 arg40 x0 x1 x2 x3 r k)) (edas : Ldas = scales12 fun r k => rowScaleF e5 (daBlk arg1 harg1 arg2 harg2 arg3 harg3 arg4 harg4 arg30 arg31 arg39 arg40 x0 x1 x2 x3 r k)) (edbq : Ldbq = tiles12 fun r k => rowCodesF e5 (dbBlk arg1 harg1 arg2 harg2 arg3 harg3 arg4 harg4 arg30 arg31 arg39 arg40 x0 x1 x2 x3 r k)) (edbs : Ldbs = scales12 fun r k => rowScaleF e5 (dbBlk arg1 harg1 arg2 harg2 arg3 harg3 arg4 harg4 arg30 arg31 arg39 arg40 x0 x1 x2 x3 r k)) (excq : Lxcq = tiles32 fun r k => colCodesB e4 (rowWideB e4 (blk arg1 harg1 x0 r k))) (edacq : Ldacq = tiles12 fun r k => colCodesF e5 (daBlk arg1 harg1 arg2 harg2 arg3 harg3 arg4 harg4 arg30 arg31 arg39 arg40 x0 x1 x2 x3 r k)) (edbcq : Ldbcq = tiles12 fun r k => colCodesF e5 (dbBlk arg1 harg1 arg2 harg2 arg3 harg3 arg4 harg4 arg30 arg31 arg39 arg40 x0 x1 x2 x3 r k)) (fxcw : Fills Lxcw s2) (fdycw : Fills Ldycw s3) (fhcw : Fills Lhcw s6) (fdacw : Fills Ldacw s7) (fdbcw : Fills Ldbcw s8) : beforeAt c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 h6 h7 h8 hs2 hs3 hs6 hs7 hs8 G O ⊢ W :=
  (beforeAt_given c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 h6 h7 h8 hs2 hs3 hs6 hs7 hs8 G O).trans <| (givenAt_mono c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 h6 h7 h8 hs2 hs3 hs6 hs7 hs8 (close c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 ey edx fdw1 fdw3 fdw2 exq exs ehq ehs edyq edys edycq ehcq edaq edas edbq edbs excq edacq edbcq fxcw fdycw fhcw fdacw fdbcw)).trans hrun

end Cert.KernelIdeal.Step

end
-- ==== Proof.RunB.lean ====
module

public import proofs.«01_k».proof.Proof.Branches

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 9956000 in
/-- The body at a middle point of the grid: started on its inputs' blocks and on the named contents of the three accumulated gradients and of the five scratch buffers the last point left, it
    runs to the end and leaves in each output block and each scratch buffer a list of stores (last first), found by running it. Of the five
    blocks of column scales, stored one row at a time, only that they hold something is kept. -/
noncomputable def runB (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : ¬cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16) :
    Σ' (LH4 : List (View.Piece (Elt F) S256x2048 .bf16)), Σ' (LH5 : List (View.Piece (Elt F) S256x2048 .bf16)), Σ' (LH6 : List (View.Piece (Elt F) S2048x768 .f32)), Σ' (LH7 : List (View.Piece (Elt F) S2048x768 .f32)), Σ' (LH8 : List (View.Piece (Elt F) S768x2048 .f32)), Σ' (LH9 : List (View.Piece (Elt F) S256x2048 .fp8e4m3)), Σ' (LH10 : List (View.Piece (Elt F) S256x16 .f32)), Σ' (LH11 : List (View.Piece (Elt F) S256x768 .fp8e4m3)), Σ' (LH12 : List (View.Piece (Elt F) S256x6 .f32)), Σ' (LH13 : List (View.Piece (Elt F) S256x2048 .fp8e5m2)), Σ' (LH14 : List (View.Piece (Elt F) S256x16 .f32)), Σ' (LH15 : List (View.Piece (Elt F) S256x2048 .fp8e5m2)), Σ' (LH17 : List (View.Piece (Elt F) S256x768 .fp8e4m3)), Σ' (LH19 : List (View.Piece (Elt F) S256x768 .fp8e5m2)), Σ' (LH20 : List (View.Piece (Elt F) S256x6 .f32)), Σ' (LH21 : List (View.Piece (Elt F) S256x768 .fp8e5m2)), Σ' (LH22 : List (View.Piece (Elt F) S256x6 .f32)), Σ' (LH23 : List (View.Piece (Elt F) S256x2048 .fp8e4m3)), Σ' (LH25 : List (View.Piece (Elt F) S256x768 .fp8e5m2)), Σ' (LH27 : List (View.Piece (Elt F) S256x768 .fp8e5m2)), Σ' (LHS0 : List (View.Piece (Elt F) S256x2048 .bf16)), Σ' (LHS1 : List (View.Piece (Elt F) S256x2048 .bf16)), Σ' (LHS2 : List (View.Piece (Elt F) S256x2048 .bf16)), Σ' (LHS3 : List (View.Piece (Elt F) S256x2048 .bf16)), Σ' (LHS4 : List (View.Piece (Elt F) S256x768 .bf16)), Σ' (LHS5 : List (View.Piece (Elt F) S256x1536 .bf16)), Σ' (LHS6 : List (View.Piece (Elt F) S256x768 .bf16)), Σ' (LHS7 : List (View.Piece (Elt F) S256x768 .bf16)), Σ' (LHS8 : List (View.Piece (Elt F) S256x768 .bf16)), Σ' (LHS9 : List (View.Piece (Elt F) S256x512 .f32)), { LHS10 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare h6 ∗ owns (c : Thread nD τ) arg8 fullShare h7 ∗ owns (c : Thread nD τ) arg9 fullShare h8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ owns (c : Thread nD τ) arg32 fullShare hs2 ∗ owns (c : Thread nD τ) arg33 fullShare hs3 ∗ (∃ d, owns (c : Thread nD τ) arg34 fullShare d) ∗ (∃ d, owns (c : Thread nD τ) arg35 fullShare d) ∗ owns (c : Thread nD τ) arg36 fullShare hs6 ∗ owns (c : Thread nD τ) arg37 fullShare hs7 ∗ owns (c : Thread nD τ) arg38 fullShare hs8 ∗ (∃ d, owns (c : Thread nD τ) arg39 fullShare d) ∗ (∃ d, owns (c : Thread nD τ) arg40 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LH4) ∗ (∃ f, arg6.view.loc (c : Thread nD τ) ↦[arg6.view.set]{fullShare} arg6.view.writes (Elt F) f LH5) ∗ (∃ f, arg7.view.loc (c : Thread nD τ) ↦[arg7.view.set]{fullShare} arg7.view.writes (Elt F) f LH6) ∗ (∃ f, arg8.view.loc (c : Thread nD τ) ↦[arg8.view.set]{fullShare} arg8.view.writes (Elt F) f LH7) ∗ (∃ f, arg9.view.loc (c : Thread nD τ) ↦[arg9.view.set]{fullShare} arg9.view.writes (Elt F) f LH8) ∗ (∃ f, arg10.view.loc (c : Thread nD τ) ↦[arg10.view.set]{fullShare} arg10.view.writes (Elt F) f LH9) ∗ (∃ f, arg11.view.loc (c : Thread nD τ) ↦[arg11.view.set]{fullShare} arg11.view.writes (Elt F) f LH10) ∗ (∃ f, arg12.view.loc (c : Thread nD τ) ↦[arg12.view.set]{fullShare} arg12.view.writes (Elt F) f LH11) ∗ (∃ f, arg13.view.loc (c : Thread nD τ) ↦[arg13.view.set]{fullShare} arg13.view.writes (Elt F) f LH12) ∗ (∃ f, arg14.view.loc (c : Thread nD τ) ↦[arg14.view.set]{fullShare} arg14.view.writes (Elt F) f LH13) ∗ (∃ f, arg15.view.loc (c : Thread nD τ) ↦[arg15.view.set]{fullShare} arg15.view.writes (Elt F) f LH14) ∗ (∃ f, arg16.view.loc (c : Thread nD τ) ↦[arg16.view.set]{fullShare} arg16.view.writes (Elt F) f LH15) ∗ (∃ d, owns (c : Thread nD τ) arg17 fullShare d) ∗ (∃ f, arg18.view.loc (c : Thread nD τ) ↦[arg18.view.set]{fullShare} arg18.view.writes (Elt F) f LH17) ∗ (∃ d, owns (c : Thread nD τ) arg19 fullShare d) ∗ (∃ f, arg20.view.loc (c : Thread nD τ) ↦[arg20.view.set]{fullShare} arg20.view.writes (Elt F) f LH19) ∗ (∃ f, arg21.view.loc (c : Thread nD τ) ↦[arg21.view.set]{fullShare} arg21.view.writes (Elt F) f LH20) ∗ (∃ f, arg22.view.loc (c : Thread nD τ) ↦[arg22.view.set]{fullShare} arg22.view.writes (Elt F) f LH21) ∗ (∃ f, arg23.view.loc (c : Thread nD τ) ↦[arg23.view.set]{fullShare} arg23.view.writes (Elt F) f LH22) ∗ (∃ f, arg24.view.loc (c : Thread nD τ) ↦[arg24.view.set]{fullShare} arg24.view.writes (Elt F) f LH23) ∗ (∃ d, owns (c : Thread nD τ) arg25 fullShare d) ∗ (∃ f, arg26.view.loc (c : Thread nD τ) ↦[arg26.view.set]{fullShare} arg26.view.writes (Elt F) f LH25) ∗ (∃ d, owns (c : Thread nD τ) arg27 fullShare d) ∗ (∃ f, arg28.view.loc (c : Thread nD τ) ↦[arg28.view.set]{fullShare} arg28.view.writes (Elt F) f LH27) ∗ (∃ d, owns (c : Thread nD τ) arg29 fullShare d) ∗ (∃ f, arg30.view.loc (c : Thread nD τ) ↦[arg30.view.set]{fullShare} arg30.view.writes (Elt F) f LHS0) ∗ (∃ f, arg31.view.loc (c : Thread nD τ) ↦[arg31.view.set]{fullShare} arg31.view.writes (Elt F) f LHS1) ∗ (∃ f, arg32.view.loc (c : Thread nD τ) ↦[arg32.view.set]{fullShare} arg32.view.writes (Elt F) f LHS2) ∗ (∃ f, arg33.view.loc (c : Thread nD τ) ↦[arg33.view.set]{fullShare} arg33.view.writes (Elt F) f LHS3) ∗ (∃ f, arg34.view.loc (c : Thread nD τ) ↦[arg34.view.set]{fullShare} arg34.view.writes (Elt F) f LHS4) ∗ (∃ f, arg35.view.loc (c : Thread nD τ) ↦[arg35.view.set]{fullShare} arg35.view.writes (Elt F) f LHS5) ∗ (∃ f, arg36.view.loc (c : Thread nD τ) ↦[arg36.view.set]{fullShare} arg36.view.writes (Elt F) f LHS6) ∗ (∃ f, arg37.view.loc (c : Thread nD τ) ↦[arg37.view.set]{fullShare} arg37.view.writes (Elt F) f LHS7) ∗ (∃ f, arg38.view.loc (c : Thread nD τ) ↦[arg38.view.set]{fullShare} arg38.view.writes (Elt F) f LHS8) ∗ (∃ f, arg39.view.loc (c : Thread nD τ) ↦[arg39.view.set]{fullShare} arg39.view.writes (Elt F) f LHS9) ∗ (∃ f, arg40.view.loc (c : Thread nD τ) ↦[arg40.view.set]{fullShare} arg40.view.writes (Elt F) f LHS10)) -∗ K ⟨⟩))
          ⊢ wp frame (wpE (defs₀ (F := F)) Variants.none c none) E (cc0_train_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun E K => ?run⟩
  case run =>
    simp only [cc0_train_step_eq_skeleton]; unfold cc0_train_step_skel
    simp only [k0_part221_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part222_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part223_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%ds0, %fs0, -, HS0⟩, ⟨%ds1, %fs1, -, HS1⟩, ⟨%fs2, %hfs2, HS2⟩, ⟨%fs3, %hfs3, HS3⟩, ⟨%ds4, %fs4, -, HS4⟩, ⟨%ds5, %fs5, -, HS5⟩, ⟨%fs6, %hfs6, HS6⟩, ⟨%fs7, %hfs7, HS7⟩, ⟨%fs8, %hfs8, HS8⟩, ⟨%ds9, %fs9, -, HS9⟩, ⟨%ds10, %fs10, -, HS10⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hf8; obtain rfl := harg32.eq_unread hfs2; obtain rfl := harg33.eq_unread hfs3; obtain rfl := harg36.eq_unread hfs6; obtain rfl := harg37.eq_unread hfs7; obtain rfl := harg38.eq_unread hfs8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _, _; isplitr; swap; · iexact H16
      ipureintro; rfl
    isplitl [H17]
    · iexists _; iexact H17
    isplitl [H18]
    · iexists _, _; isplitr; swap; · iexact H18
      ipureintro; rfl
    isplitl [H19]
    · iexists _; iexact H19
    isplitl [H20]
    · iexists _; iexact H20
    isplitl [H21]
    · iexists _; iexact H21
    isplitl [H22]
    · iexists _; iexact H22
    isplitl [H23]
    · iexists _; iexact H23
    isplitl [H24]
    · iexists _, _; isplitr; swap; · iexact H24
      ipureintro; rfl
    isplitl [H25]
    · iexists _; iexact H25
    isplitl [H26]
    · iexists _, _; isplitr; swap; · iexact H26
      ipureintro; rfl
    isplitl [H27]
    · iexists _; iexact H27
    isplitl [H28]
    · iexists _, _; isplitr; swap; · iexact H28
      ipureintro; rfl
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    isplitl [HS7]
    · iexists _; iexact HS7
    isplitl [HS8]
    · iexists _; iexact HS8
    isplitl [HS9]
    · iexists _; iexact HS9
    iexists _; iexact HS10

end Cert.KernelIdeal.Gen

end
-- ==== Proof.RunA.lean ====
module

public import proofs.«01_k».proof.Proof.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 9956000 in
/-- The body at the first point of the grid: started on its inputs' blocks, it
    runs to the end and leaves in each output block and each scratch buffer a list of stores (last first), found by running it. Of the five
    blocks of column scales, stored one row at a time, only that they hold something is kept. -/
noncomputable def runA (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : cond0_0 i) (hc1 : ¬cond0_1 i)
    (x0 : Vec F S256x2048 .bf16) (x1 : Vec F S256x2048 .bf16) (x2 : Vec F S2048x1536 .bf16) (x3 : Vec F S768x2048 .bf16)  :
    Σ' (LH4 : List (View.Piece (Elt F) S256x2048 .bf16)), Σ' (LH5 : List (View.Piece (Elt F) S256x2048 .bf16)), Σ' (LH6 : List (View.Piece (Elt F) S2048x768 .f32)), Σ' (LH7 : List (View.Piece (Elt F) S2048x768 .f32)), Σ' (LH8 : List (View.Piece (Elt F) S768x2048 .f32)), Σ' (LH9 : List (View.Piece (Elt F) S256x2048 .fp8e4m3)), Σ' (LH10 : List (View.Piece (Elt F) S256x16 .f32)), Σ' (LH11 : List (View.Piece (Elt F) S256x768 .fp8e4m3)), Σ' (LH12 : List (View.Piece (Elt F) S256x6 .f32)), Σ' (LH13 : List (View.Piece (Elt F) S256x2048 .fp8e5m2)), Σ' (LH14 : List (View.Piece (Elt F) S256x16 .f32)), Σ' (LH15 : List (View.Piece (Elt F) S256x2048 .fp8e5m2)), Σ' (LH17 : List (View.Piece (Elt F) S256x768 .fp8e4m3)), Σ' (LH19 : List (View.Piece (Elt F) S256x768 .fp8e5m2)), Σ' (LH20 : List (View.Piece (Elt F) S256x6 .f32)), Σ' (LH21 : List (View.Piece (Elt F) S256x768 .fp8e5m2)), Σ' (LH22 : List (View.Piece (Elt F) S256x6 .f32)), Σ' (LH23 : List (View.Piece (Elt F) S256x2048 .fp8e4m3)), Σ' (LH25 : List (View.Piece (Elt F) S256x768 .fp8e5m2)), Σ' (LH27 : List (View.Piece (Elt F) S256x768 .fp8e5m2)), Σ' (LHS0 : List (View.Piece (Elt F) S256x2048 .bf16)), Σ' (LHS1 : List (View.Piece (Elt F) S256x2048 .bf16)), Σ' (LHS2 : List (View.Piece (Elt F) S256x2048 .bf16)), Σ' (LHS3 : List (View.Piece (Elt F) S256x2048 .bf16)), Σ' (LHS4 : List (View.Piece (Elt F) S256x768 .bf16)), Σ' (LHS5 : List (View.Piece (Elt F) S256x1536 .bf16)), Σ' (LHS6 : List (View.Piece (Elt F) S256x768 .bf16)), Σ' (LHS7 : List (View.Piece (Elt F) S256x768 .bf16)), Σ' (LHS8 : List (View.Piece (Elt F) S256x768 .bf16)), Σ' (LHS9 : List (View.Piece (Elt F) S256x512 .f32)), { LHS10 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LH4) ∗ (∃ f, arg6.view.loc (c : Thread nD τ) ↦[arg6.view.set]{fullShare} arg6.view.writes (Elt F) f LH5) ∗ (∃ f, arg7.view.loc (c : Thread nD τ) ↦[arg7.view.set]{fullShare} arg7.view.writes (Elt F) f LH6) ∗ (∃ f, arg8.view.loc (c : Thread nD τ) ↦[arg8.view.set]{fullShare} arg8.view.writes (Elt F) f LH7) ∗ (∃ f, arg9.view.loc (c : Thread nD τ) ↦[arg9.view.set]{fullShare} arg9.view.writes (Elt F) f LH8) ∗ (∃ f, arg10.view.loc (c : Thread nD τ) ↦[arg10.view.set]{fullShare} arg10.view.writes (Elt F) f LH9) ∗ (∃ f, arg11.view.loc (c : Thread nD τ) ↦[arg11.view.set]{fullShare} arg11.view.writes (Elt F) f LH10) ∗ (∃ f, arg12.view.loc (c : Thread nD τ) ↦[arg12.view.set]{fullShare} arg12.view.writes (Elt F) f LH11) ∗ (∃ f, arg13.view.loc (c : Thread nD τ) ↦[arg13.view.set]{fullShare} arg13.view.writes (Elt F) f LH12) ∗ (∃ f, arg14.view.loc (c : Thread nD τ) ↦[arg14.view.set]{fullShare} arg14.view.writes (Elt F) f LH13) ∗ (∃ f, arg15.view.loc (c : Thread nD τ) ↦[arg15.view.set]{fullShare} arg15.view.writes (Elt F) f LH14) ∗ (∃ f, arg16.view.loc (c : Thread nD τ) ↦[arg16.view.set]{fullShare} arg16.view.writes (Elt F) f LH15) ∗ (∃ d, owns (c : Thread nD τ) arg17 fullShare d) ∗ (∃ f, arg18.view.loc (c : Thread nD τ) ↦[arg18.view.set]{fullShare} arg18.view.writes (Elt F) f LH17) ∗ (∃ d, owns (c : Thread nD τ) arg19 fullShare d) ∗ (∃ f, arg20.view.loc (c : Thread nD τ) ↦[arg20.view.set]{fullShare} arg20.view.writes (Elt F) f LH19) ∗ (∃ f, arg21.view.loc (c : Thread nD τ) ↦[arg21.view.set]{fullShare} arg21.view.writes (Elt F) f LH20) ∗ (∃ f, arg22.view.loc (c : Thread nD τ) ↦[arg22.view.set]{fullShare} arg22.view.writes (Elt F) f LH21) ∗ (∃ f, arg23.view.loc (c : Thread nD τ) ↦[arg23.view.set]{fullShare} arg23.view.writes (Elt F) f LH22) ∗ (∃ f, arg24.view.loc (c : Thread nD τ) ↦[arg24.view.set]{fullShare} arg24.view.writes (Elt F) f LH23) ∗ (∃ d, owns (c : Thread nD τ) arg25 fullShare d) ∗ (∃ f, arg26.view.loc (c : Thread nD τ) ↦[arg26.view.set]{fullShare} arg26.view.writes (Elt F) f LH25) ∗ (∃ d, owns (c : Thread nD τ) arg27 fullShare d) ∗ (∃ f, arg28.view.loc (c : Thread nD τ) ↦[arg28.view.set]{fullShare} arg28.view.writes (Elt F) f LH27) ∗ (∃ d, owns (c : Thread nD τ) arg29 fullShare d) ∗ (∃ f, arg30.view.loc (c : Thread nD τ) ↦[arg30.view.set]{fullShare} arg30.view.writes (Elt F) f LHS0) ∗ (∃ f, arg31.view.loc (c : Thread nD τ) ↦[arg31.view.set]{fullShare} arg31.view.writes (Elt F) f LHS1) ∗ (∃ f, arg32.view.loc (c : Thread nD τ) ↦[arg32.view.set]{fullShare} arg32.view.writes (Elt F) f LHS2) ∗ (∃ f, arg33.view.loc (c : Thread nD τ) ↦[arg33.view.set]{fullShare} arg33.view.writes (Elt F) f LHS3) ∗ (∃ f, arg34.view.loc (c : Thread nD τ) ↦[arg34.view.set]{fullShare} arg34.view.writes (Elt F) f LHS4) ∗ (∃ f, arg35.view.loc (c : Thread nD τ) ↦[arg35.view.set]{fullShare} arg35.view.writes (Elt F) f LHS5) ∗ (∃ f, arg36.view.loc (c : Thread nD τ) ↦[arg36.view.set]{fullShare} arg36.view.writes (Elt F) f LHS6) ∗ (∃ f, arg37.view.loc (c : Thread nD τ) ↦[arg37.view.set]{fullShare} arg37.view.writes (Elt F) f LHS7) ∗ (∃ f, arg38.view.loc (c : Thread nD τ) ↦[arg38.view.set]{fullShare} arg38.view.writes (Elt F) f LHS8) ∗ (∃ f, arg39.view.loc (c : Thread nD τ) ↦[arg39.view.set]{fullShare} arg39.view.writes (Elt F) f LHS9) ∗ (∃ f, arg40.view.loc (c : Thread nD τ) ↦[arg40.view.set]{fullShare} arg40.view.writes (Elt F) f LHS10)) -∗ K ⟨⟩))
          ⊢ wp frame (wpE (defs₀ (F := F)) Variants.none c none) E (cc0_train_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun E K => ?run⟩
  case run =>
    simp only [cc0_train_step_eq_skeleton]; unfold cc0_train_step_skel
    simp only [k0_part221_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part222_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part223_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _, _; isplitr; swap; · iexact H16
      ipureintro; rfl
    isplitl [H17]
    · iexists _; iexact H17
    isplitl [H18]
    · iexists _, _; isplitr; swap; · iexact H18
      ipureintro; rfl
    isplitl [H19]
    · iexists _; iexact H19
    isplitl [H20]
    · iexists _; iexact H20
    isplitl [H21]
    · iexists _; iexact H21
    isplitl [H22]
    · iexists _; iexact H22
    isplitl [H23]
    · iexists _; iexact H23
    isplitl [H24]
    · iexists _, _; isplitr; swap; · iexact H24
      ipureintro; rfl
    isplitl [H25]
    · iexists _; iexact H25
    isplitl [H26]
    · iexists _, _; isplitr; swap; · iexact H26
      ipureintro; rfl
    isplitl [H27]
    · iexists _; iexact H27
    isplitl [H28]
    · iexists _, _; isplitr; swap; · iexact H28
      ipureintro; rfl
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    isplitl [HS7]
    · iexists _; iexact HS7
    isplitl [HS8]
    · iexists _; iexact HS8
    isplitl [HS9]
    · iexists _; iexact HS9
    iexists _; iexact HS10

end Cert.KernelIdeal.Gen

end
-- ==== Proof.RunC.lean ====
module

public import proofs.«01_k».proof.Proof.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 9956000 in
/-- The body at the last point of the grid: started on its inputs' blocks and on the named contents of the three accumulated gradients and of the five scratch buffers the last point left, it
    runs to the end and leaves in each output block and each scratch buffer a list of stores (last first), found by running it. Of the five
    blocks of column scales, stored one row at a time, only that they hold something is kept. -/
noncomputable def runC (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16) :
    Σ' (LH4 : List (View.Piece (Elt F) S256x2048 .bf16)), Σ' (LH5 : List (View.Piece (Elt F) S256x2048 .bf16)), Σ' (LH6 : List (View.Piece (Elt F) S2048x768 .f32)), Σ' (LH7 : List (View.Piece (Elt F) S2048x768 .f32)), Σ' (LH8 : List (View.Piece (Elt F) S768x2048 .f32)), Σ' (LH9 : List (View.Piece (Elt F) S256x2048 .fp8e4m3)), Σ' (LH10 : List (View.Piece (Elt F) S256x16 .f32)), Σ' (LH11 : List (View.Piece (Elt F) S256x768 .fp8e4m3)), Σ' (LH12 : List (View.Piece (Elt F) S256x6 .f32)), Σ' (LH13 : List (View.Piece (Elt F) S256x2048 .fp8e5m2)), Σ' (LH14 : List (View.Piece (Elt F) S256x16 .f32)), Σ' (LH15 : List (View.Piece (Elt F) S256x2048 .fp8e5m2)), Σ' (LH17 : List (View.Piece (Elt F) S256x768 .fp8e4m3)), Σ' (LH19 : List (View.Piece (Elt F) S256x768 .fp8e5m2)), Σ' (LH20 : List (View.Piece (Elt F) S256x6 .f32)), Σ' (LH21 : List (View.Piece (Elt F) S256x768 .fp8e5m2)), Σ' (LH22 : List (View.Piece (Elt F) S256x6 .f32)), Σ' (LH23 : List (View.Piece (Elt F) S256x2048 .fp8e4m3)), Σ' (LH25 : List (View.Piece (Elt F) S256x768 .fp8e5m2)), Σ' (LH27 : List (View.Piece (Elt F) S256x768 .fp8e5m2)), Σ' (LHS0 : List (View.Piece (Elt F) S256x2048 .bf16)), Σ' (LHS1 : List (View.Piece (Elt F) S256x2048 .bf16)), Σ' (LHS2 : List (View.Piece (Elt F) S256x2048 .bf16)), Σ' (LHS3 : List (View.Piece (Elt F) S256x2048 .bf16)), Σ' (LHS4 : List (View.Piece (Elt F) S256x768 .bf16)), Σ' (LHS5 : List (View.Piece (Elt F) S256x1536 .bf16)), Σ' (LHS6 : List (View.Piece (Elt F) S256x768 .bf16)), Σ' (LHS7 : List (View.Piece (Elt F) S256x768 .bf16)), Σ' (LHS8 : List (View.Piece (Elt F) S256x768 .bf16)), Σ' (LHS9 : List (View.Piece (Elt F) S256x512 .f32)), { LHS10 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare h6 ∗ owns (c : Thread nD τ) arg8 fullShare h7 ∗ owns (c : Thread nD τ) arg9 fullShare h8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ owns (c : Thread nD τ) arg32 fullShare hs2 ∗ owns (c : Thread nD τ) arg33 fullShare hs3 ∗ (∃ d, owns (c : Thread nD τ) arg34 fullShare d) ∗ (∃ d, owns (c : Thread nD τ) arg35 fullShare d) ∗ owns (c : Thread nD τ) arg36 fullShare hs6 ∗ owns (c : Thread nD τ) arg37 fullShare hs7 ∗ owns (c : Thread nD τ) arg38 fullShare hs8 ∗ (∃ d, owns (c : Thread nD τ) arg39 fullShare d) ∗ (∃ d, owns (c : Thread nD τ) arg40 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LH4) ∗ (∃ f, arg6.view.loc (c : Thread nD τ) ↦[arg6.view.set]{fullShare} arg6.view.writes (Elt F) f LH5) ∗ (∃ f, arg7.view.loc (c : Thread nD τ) ↦[arg7.view.set]{fullShare} arg7.view.writes (Elt F) f LH6) ∗ (∃ f, arg8.view.loc (c : Thread nD τ) ↦[arg8.view.set]{fullShare} arg8.view.writes (Elt F) f LH7) ∗ (∃ f, arg9.view.loc (c : Thread nD τ) ↦[arg9.view.set]{fullShare} arg9.view.writes (Elt F) f LH8) ∗ (∃ f, arg10.view.loc (c : Thread nD τ) ↦[arg10.view.set]{fullShare} arg10.view.writes (Elt F) f LH9) ∗ (∃ f, arg11.view.loc (c : Thread nD τ) ↦[arg11.view.set]{fullShare} arg11.view.writes (Elt F) f LH10) ∗ (∃ f, arg12.view.loc (c : Thread nD τ) ↦[arg12.view.set]{fullShare} arg12.view.writes (Elt F) f LH11) ∗ (∃ f, arg13.view.loc (c : Thread nD τ) ↦[arg13.view.set]{fullShare} arg13.view.writes (Elt F) f LH12) ∗ (∃ f, arg14.view.loc (c : Thread nD τ) ↦[arg14.view.set]{fullShare} arg14.view.writes (Elt F) f LH13) ∗ (∃ f, arg15.view.loc (c : Thread nD τ) ↦[arg15.view.set]{fullShare} arg15.view.writes (Elt F) f LH14) ∗ (∃ f, arg16.view.loc (c : Thread nD τ) ↦[arg16.view.set]{fullShare} arg16.view.writes (Elt F) f LH15) ∗ (∃ d, owns (c : Thread nD τ) arg17 fullShare d) ∗ (∃ f, arg18.view.loc (c : Thread nD τ) ↦[arg18.view.set]{fullShare} arg18.view.writes (Elt F) f LH17) ∗ (∃ d, owns (c : Thread nD τ) arg19 fullShare d) ∗ (∃ f, arg20.view.loc (c : Thread nD τ) ↦[arg20.view.set]{fullShare} arg20.view.writes (Elt F) f LH19) ∗ (∃ f, arg21.view.loc (c : Thread nD τ) ↦[arg21.view.set]{fullShare} arg21.view.writes (Elt F) f LH20) ∗ (∃ f, arg22.view.loc (c : Thread nD τ) ↦[arg22.view.set]{fullShare} arg22.view.writes (Elt F) f LH21) ∗ (∃ f, arg23.view.loc (c : Thread nD τ) ↦[arg23.view.set]{fullShare} arg23.view.writes (Elt F) f LH22) ∗ (∃ f, arg24.view.loc (c : Thread nD τ) ↦[arg24.view.set]{fullShare} arg24.view.writes (Elt F) f LH23) ∗ (∃ d, owns (c : Thread nD τ) arg25 fullShare d) ∗ (∃ f, arg26.view.loc (c : Thread nD τ) ↦[arg26.view.set]{fullShare} arg26.view.writes (Elt F) f LH25) ∗ (∃ d, owns (c : Thread nD τ) arg27 fullShare d) ∗ (∃ f, arg28.view.loc (c : Thread nD τ) ↦[arg28.view.set]{fullShare} arg28.view.writes (Elt F) f LH27) ∗ (∃ d, owns (c : Thread nD τ) arg29 fullShare d) ∗ (∃ f, arg30.view.loc (c : Thread nD τ) ↦[arg30.view.set]{fullShare} arg30.view.writes (Elt F) f LHS0) ∗ (∃ f, arg31.view.loc (c : Thread nD τ) ↦[arg31.view.set]{fullShare} arg31.view.writes (Elt F) f LHS1) ∗ (∃ f, arg32.view.loc (c : Thread nD τ) ↦[arg32.view.set]{fullShare} arg32.view.writes (Elt F) f LHS2) ∗ (∃ f, arg33.view.loc (c : Thread nD τ) ↦[arg33.view.set]{fullShare} arg33.view.writes (Elt F) f LHS3) ∗ (∃ f, arg34.view.loc (c : Thread nD τ) ↦[arg34.view.set]{fullShare} arg34.view.writes (Elt F) f LHS4) ∗ (∃ f, arg35.view.loc (c : Thread nD τ) ↦[arg35.view.set]{fullShare} arg35.view.writes (Elt F) f LHS5) ∗ (∃ f, arg36.view.loc (c : Thread nD τ) ↦[arg36.view.set]{fullShare} arg36.view.writes (Elt F) f LHS6) ∗ (∃ f, arg37.view.loc (c : Thread nD τ) ↦[arg37.view.set]{fullShare} arg37.view.writes (Elt F) f LHS7) ∗ (∃ f, arg38.view.loc (c : Thread nD τ) ↦[arg38.view.set]{fullShare} arg38.view.writes (Elt F) f LHS8) ∗ (∃ f, arg39.view.loc (c : Thread nD τ) ↦[arg39.view.set]{fullShare} arg39.view.writes (Elt F) f LHS9) ∗ (∃ f, arg40.view.loc (c : Thread nD τ) ↦[arg40.view.set]{fullShare} arg40.view.writes (Elt F) f LHS10)) -∗ K ⟨⟩))
          ⊢ wp frame (wpE (defs₀ (F := F)) Variants.none c none) E (cc0_train_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun E K => ?run⟩
  case run =>
    simp only [cc0_train_step_eq_skeleton]; unfold cc0_train_step_skel
    simp only [k0_part221_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part222_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part223_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%ds0, %fs0, -, HS0⟩, ⟨%ds1, %fs1, -, HS1⟩, ⟨%fs2, %hfs2, HS2⟩, ⟨%fs3, %hfs3, HS3⟩, ⟨%ds4, %fs4, -, HS4⟩, ⟨%ds5, %fs5, -, HS5⟩, ⟨%fs6, %hfs6, HS6⟩, ⟨%fs7, %hfs7, HS7⟩, ⟨%fs8, %hfs8, HS8⟩, ⟨%ds9, %fs9, -, HS9⟩, ⟨%ds10, %fs10, -, HS10⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hf8; obtain rfl := harg32.eq_unread hfs2; obtain rfl := harg33.eq_unread hfs3; obtain rfl := harg36.eq_unread hfs6; obtain rfl := harg37.eq_unread hfs7; obtain rfl := harg38.eq_unread hfs8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _, _; isplitr; swap; · iexact H16
      ipureintro; rfl
    isplitl [H17]
    · iexists _; iexact H17
    isplitl [H18]
    · iexists _, _; isplitr; swap; · iexact H18
      ipureintro; rfl
    isplitl [H19]
    · iexists _; iexact H19
    isplitl [H20]
    · iexists _; iexact H20
    isplitl [H21]
    · iexists _; iexact H21
    isplitl [H22]
    · iexists _; iexact H22
    isplitl [H23]
    · iexists _; iexact H23
    isplitl [H24]
    · iexists _, _; isplitr; swap; · iexact H24
      ipureintro; rfl
    isplitl [H25]
    · iexists _; iexact H25
    isplitl [H26]
    · iexists _, _; isplitr; swap; · iexact H26
      ipureintro; rfl
    isplitl [H27]
    · iexists _; iexact H27
    isplitl [H28]
    · iexists _, _; isplitr; swap; · iexact H28
      ipureintro; rfl
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    isplitl [HS7]
    · iexists _; iexact HS7
    isplitl [HS8]
    · iexists _; iexact HS8
    isplitl [HS9]
    · iexists _; iexact HS9
    iexists _; iexact HS10

end Cert.KernelIdeal.Gen

end
-- ==== Proof.Stores.lean ====
/- The stores a run of the body makes, buffer by buffer, gathered in one record. -/
module

public import proofs.«01_k».proof.Proof.RunA
public import proofs.«01_k».proof.Proof.RunB
public import proofs.«01_k».proof.Proof.RunC

@[expose] public section

set_option maxRecDepth 16384

noncomputable section

namespace Cert.KernelIdeal.Step

open Idealize.ShloMosaic Idealize.ShloMosaic.Tactic Cert.KernelIdeal.Gen

variable {F : FTy → Type} [FloatOps F]

/-- For each buffer a run writes, the stores it makes there in order. -/
structure Stores (F : FTy → Type) [FloatOps F] where
  y : List (View.Piece (Elt F) S256x2048 .bf16)
  dx : List (View.Piece (Elt F) S256x2048 .bf16)
  dw1 : List (View.Piece (Elt F) S2048x768 .f32)
  dw3 : List (View.Piece (Elt F) S2048x768 .f32)
  dw2 : List (View.Piece (Elt F) S768x2048 .f32)
  xq : List (View.Piece (Elt F) S256x2048 .fp8e4m3)
  xs : List (View.Piece (Elt F) S256x16 .f32)
  hq : List (View.Piece (Elt F) S256x768 .fp8e4m3)
  hs : List (View.Piece (Elt F) S256x6 .f32)
  dyq : List (View.Piece (Elt F) S256x2048 .fp8e5m2)
  dys : List (View.Piece (Elt F) S256x16 .f32)
  dycq : List (View.Piece (Elt F) S256x2048 .fp8e5m2)
  hcq : List (View.Piece (Elt F) S256x768 .fp8e4m3)
  daq : List (View.Piece (Elt F) S256x768 .fp8e5m2)
  das : List (View.Piece (Elt F) S256x6 .f32)
  dbq : List (View.Piece (Elt F) S256x768 .fp8e5m2)
  dbs : List (View.Piece (Elt F) S256x6 .f32)
  xcq : List (View.Piece (Elt F) S256x2048 .fp8e4m3)
  dacq : List (View.Piece (Elt F) S256x768 .fp8e5m2)
  dbcq : List (View.Piece (Elt F) S256x768 .fp8e5m2)
  xw : List (View.Piece (Elt F) S256x2048 .bf16)
  dyw : List (View.Piece (Elt F) S256x2048 .bf16)
  xcw : List (View.Piece (Elt F) S256x2048 .bf16)
  dycw : List (View.Piece (Elt F) S256x2048 .bf16)
  hw : List (View.Piece (Elt F) S256x768 .bf16)
  dabw : List (View.Piece (Elt F) S256x1536 .bf16)
  hcw : List (View.Piece (Elt F) S256x768 .bf16)
  dacw : List (View.Piece (Elt F) S256x768 .bf16)
  dbcw : List (View.Piece (Elt F) S256x768 .bf16)
  ab : List (View.Piece (Elt F) S256x512 .f32)
  dh : List (View.Piece (Elt F) S256x256 .f32)

/-- Lists found one after the other, as one record of which the same holds. -/
def gather {P : List (View.Piece (Elt F) S256x2048 .bf16) → List (View.Piece (Elt F) S256x2048 .bf16) → List (View.Piece (Elt F) S2048x768 .f32) → List (View.Piece (Elt F) S2048x768 .f32) → List (View.Piece (Elt F) S768x2048 .f32) → List (View.Piece (Elt F) S256x2048 .fp8e4m3) → List (View.Piece (Elt F) S256x16 .f32) → List (View.Piece (Elt F) S256x768 .fp8e4m3) → List (View.Piece (Elt F) S256x6 .f32) → List (View.Piece (Elt F) S256x2048 .fp8e5m2) → List (View.Piece (Elt F) S256x16 .f32) → List (View.Piece (Elt F) S256x2048 .fp8e5m2) → List (View.Piece (Elt F) S256x768 .fp8e4m3) → List (View.Piece (Elt F) S256x768 .fp8e5m2) → List (View.Piece (Elt F) S256x6 .f32) → List (View.Piece (Elt F) S256x768 .fp8e5m2) → List (View.Piece (Elt F) S256x6 .f32) → List (View.Piece (Elt F) S256x2048 .fp8e4m3) → List (View.Piece (Elt F) S256x768 .fp8e5m2) → List (View.Piece (Elt F) S256x768 .fp8e5m2) → List (View.Piece (Elt F) S256x2048 .bf16) → List (View.Piece (Elt F) S256x2048 .bf16) → List (View.Piece (Elt F) S256x2048 .bf16) → List (View.Piece (Elt F) S256x2048 .bf16) → List (View.Piece (Elt F) S256x768 .bf16) → List (View.Piece (Elt F) S256x1536 .bf16) → List (View.Piece (Elt F) S256x768 .bf16) → List (View.Piece (Elt F) S256x768 .bf16) → List (View.Piece (Elt F) S256x768 .bf16) → List (View.Piece (Elt F) S256x512 .f32) → List (View.Piece (Elt F) S256x256 .f32) → Prop} :
    (Σ' (a0 : List (View.Piece (Elt F) S256x2048 .bf16)), Σ' (a1 : List (View.Piece (Elt F) S256x2048 .bf16)), Σ' (a2 : List (View.Piece (Elt F) S2048x768 .f32)), Σ' (a3 : List (View.Piece (Elt F) S2048x768 .f32)), Σ' (a4 : List (View.Piece (Elt F) S768x2048 .f32)), Σ' (a5 : List (View.Piece (Elt F) S256x2048 .fp8e4m3)), Σ' (a6 : List (View.Piece (Elt F) S256x16 .f32)), Σ' (a7 : List (View.Piece (Elt F) S256x768 .fp8e4m3)), Σ' (a8 : List (View.Piece (Elt F) S256x6 .f32)), Σ' (a9 : List (View.Piece (Elt F) S256x2048 .fp8e5m2)), Σ' (a10 : List (View.Piece (Elt F) S256x16 .f32)), Σ' (a11 : List (View.Piece (Elt F) S256x2048 .fp8e5m2)), Σ' (a12 : List (View.Piece (Elt F) S256x768 .fp8e4m3)), Σ' (a13 : List (View.Piece (Elt F) S256x768 .fp8e5m2)), Σ' (a14 : List (View.Piece (Elt F) S256x6 .f32)), Σ' (a15 : List (View.Piece (Elt F) S256x768 .fp8e5m2)), Σ' (a16 : List (View.Piece (Elt F) S256x6 .f32)), Σ' (a17 : List (View.Piece (Elt F) S256x2048 .fp8e4m3)), Σ' (a18 : List (View.Piece (Elt F) S256x768 .fp8e5m2)), Σ' (a19 : List (View.Piece (Elt F) S256x768 .fp8e5m2)), Σ' (a20 : List (View.Piece (Elt F) S256x2048 .bf16)), Σ' (a21 : List (View.Piece (Elt F) S256x2048 .bf16)), Σ' (a22 : List (View.Piece (Elt F) S256x2048 .bf16)), Σ' (a23 : List (View.Piece (Elt F) S256x2048 .bf16)), Σ' (a24 : List (View.Piece (Elt F) S256x768 .bf16)), Σ' (a25 : List (View.Piece (Elt F) S256x1536 .bf16)), Σ' (a26 : List (View.Piece (Elt F) S256x768 .bf16)), Σ' (a27 : List (View.Piece (Elt F) S256x768 .bf16)), Σ' (a28 : List (View.Piece (Elt F) S256x768 .bf16)), Σ' (a29 : List (View.Piece (Elt F) S256x512 .f32)), { a30 : List (View.Piece (Elt F) S256x256 .f32) // P a0 a1 a2 a3 a4 a5 a6 a7 a8 a9 a10 a11 a12 a13 a14 a15 a16 a17 a18 a19 a20 a21 a22 a23 a24 a25 a26 a27 a28 a29 a30 }) →
      { S : Stores F // P S.y S.dx S.dw1 S.dw3 S.dw2 S.xq S.xs S.hq S.hs S.dyq S.dys S.dycq S.hcq S.daq S.das S.dbq S.dbs S.xcq S.dacq S.dbcq S.xw S.dyw S.xcw S.dycw S.hw S.dabw S.hcw S.dacw S.dbcw S.ab S.dh }
  | ⟨a0, a1, a2, a3, a4, a5, a6, a7, a8, a9, a10, a11, a12, a13, a14, a15, a16, a17, a18, a19, a20, a21, a22, a23, a24, a25, a26, a27, a28, a29, ⟨a30, h⟩⟩ => ⟨⟨a0, a1, a2, a3, a4, a5, a6, a7, a8, a9, a10, a11, a12, a13, a14, a15, a16, a17, a18, a19, a20, a21, a22, a23, a24, a25, a26, a27, a28, a29, a30⟩, h⟩

/-- The stores of the first point, and that the body runs with them. -/
def storesA (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : cond0_0 i) (hc1 : ¬cond0_1 i)
    (x0 : Vec F S256x2048 .bf16) (x1 : Vec F S256x2048 .bf16) (x2 : Vec F S2048x1536 .bf16) (x3 : Vec F S768x2048 .bf16) :=
  gather (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3)

/-- The stores of the middle points, and that the body runs with them. -/
def storesB (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : ¬cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16) :=
  gather (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8)

/-- The stores of the last point, and that the body runs with them. -/
def storesC (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16) :=
  gather (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8)

end Cert.KernelIdeal.Step

end
-- ==== Proof.PiecesAx.lean ====
module

public import proofs.«01_k».proof.Proof.Stores
public import proofs.«01_k».proof.Proof.Blocks

/-! The lists of stores the run of the body at the first point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : cond0_0 i) (hc1 : ¬cond0_1 i)
    (x0 : Vec F S256x2048 .bf16) (x1 : Vec F S256x2048 .bf16) (x2 : Vec F S2048x1536 .bf16) (x3 : Vec F S768x2048 .bf16)

/-- What the first point stores in `xq`. -/
theorem storesA_xq : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.xq = tiles32 fun r k => rowCodesB e4 (blk arg1 harg1 x0 r k) := by sl_kernel_rfl
/-- What the first point stores in `xs`. -/
theorem storesA_xs : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.xs = scales32 fun r k => rowScaleB e4 (blk arg1 harg1 x0 r k) := by sl_kernel_rfl
/-- What the first point stores in `dyq`. -/
theorem storesA_dyq : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dyq = tiles32 fun r k => rowCodesB e5 (blk arg2 harg2 x1 r k) := by sl_kernel_rfl
/-- What the first point stores in `dys`. -/
theorem storesA_dys : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dys = scales32 fun r k => rowScaleB e5 (blk arg2 harg2 x1 r k) := by sl_kernel_rfl
/-- What the first point stores in `dycq`. -/
theorem storesA_dycq : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dycq = tiles32 fun r k => colCodesB e5 (blk arg2 harg2 x1 r k) := by sl_kernel_rfl
/-- What the first point stores in `xcq`. -/
theorem storesA_xcq : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.xcq = tiles32 fun r k => colCodesB e4 (rowWideB e4 (blk arg1 harg1 x0 r k)) := by sl_kernel_rfl

end Cert.KernelIdeal.Step

end
-- ==== Proof.PiecesAh.lean ====
module

public import proofs.«01_k».proof.Proof.Stores
public import proofs.«01_k».proof.Proof.Blocks

/-! The lists of stores the run of the body at the first point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : cond0_0 i) (hc1 : ¬cond0_1 i)
    (x0 : Vec F S256x2048 .bf16) (x1 : Vec F S256x2048 .bf16) (x2 : Vec F S2048x1536 .bf16) (x3 : Vec F S768x2048 .bf16)

/-- What the first point stores in `hq`. -/
theorem storesA_hq : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.hq = tiles12 fun r k => rowCodesF e4 (hBlk arg1 harg1 arg3 harg3 arg30 arg39 x0 x2 r k) := by sl_kernel_rfl
/-- What the first point stores in `hs`. -/
theorem storesA_hs : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.hs = scales12 fun r k => rowScaleF e4 (hBlk arg1 harg1 arg3 harg3 arg30 arg39 x0 x2 r k) := by sl_kernel_rfl
/-- What the first point stores in `hcq`. -/
theorem storesA_hcq : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.hcq = tiles12 fun r k => colCodesB e4 (rowWideF e4 (hBlk arg1 harg1 arg3 harg3 arg30 arg39 x0 x2 r k)) := by sl_kernel_rfl

end Cert.KernelIdeal.Step

end
-- ==== Proof.PiecesAg.lean ====
module

public import proofs.«01_k».proof.Proof.Stores
public import proofs.«01_k».proof.Proof.Blocks

/-! The lists of stores the run of the body at the first point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : cond0_0 i) (hc1 : ¬cond0_1 i)
    (x0 : Vec F S256x2048 .bf16) (x1 : Vec F S256x2048 .bf16) (x2 : Vec F S2048x1536 .bf16) (x3 : Vec F S768x2048 .bf16)

/-- What the first point stores in `daq`. -/
theorem storesA_daq : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.daq = tiles12 fun r k => rowCodesF e5 (daBlk arg1 harg1 arg2 harg2 arg3 harg3 arg4 harg4 arg30 arg31 arg39 arg40 x0 x1 x2 x3 r k) := by sl_kernel_rfl
/-- What the first point stores in `das`. -/
theorem storesA_das : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.das = scales12 fun r k => rowScaleF e5 (daBlk arg1 harg1 arg2 harg2 arg3 harg3 arg4 harg4 arg30 arg31 arg39 arg40 x0 x1 x2 x3 r k) := by sl_kernel_rfl
/-- What the first point stores in `dbq`. -/
theorem storesA_dbq : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dbq = tiles12 fun r k => rowCodesF e5 (dbBlk arg1 harg1 arg2 harg2 arg3 harg3 arg4 harg4 arg30 arg31 arg39 arg40 x0 x1 x2 x3 r k) := by sl_kernel_rfl
/-- What the first point stores in `dbs`. -/
theorem storesA_dbs : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dbs = scales12 fun r k => rowScaleF e5 (dbBlk arg1 harg1 arg2 harg2 arg3 harg3 arg4 harg4 arg30 arg31 arg39 arg40 x0 x1 x2 x3 r k) := by sl_kernel_rfl
/-- What the first point stores in `dacq`. -/
theorem storesA_dacq : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dacq = tiles12 fun r k => colCodesF e5 (daBlk arg1 harg1 arg2 harg2 arg3 harg3 arg4 harg4 arg30 arg31 arg39 arg40 x0 x1 x2 x3 r k) := by sl_kernel_rfl
/-- What the first point stores in `dbcq`. -/
theorem storesA_dbcq : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dbcq = tiles12 fun r k => colCodesF e5 (dbBlk arg1 harg1 arg2 harg2 arg3 harg3 arg4 harg4 arg30 arg31 arg39 arg40 x0 x1 x2 x3 r k) := by sl_kernel_rfl

end Cert.KernelIdeal.Step

end
-- ==== Proof.PiecesAy.lean ====
module

public import proofs.«01_k».proof.Proof.Stores
public import proofs.«01_k».proof.Proof.Blocks

/-! The lists of stores the run of the body at the first point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : cond0_0 i) (hc1 : ¬cond0_1 i)
    (x0 : Vec F S256x2048 .bf16) (x1 : Vec F S256x2048 .bf16) (x2 : Vec F S2048x1536 .bf16) (x3 : Vec F S768x2048 .bf16)

/-- What the first point stores in `y`. -/
theorem storesA_y : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.y = yL arg1 harg1 arg3 harg3 arg4 harg4 arg30 arg34 arg39 x0 x2 x3 := by sl_kernel_rfl
/-- What the first point stores in `dx`. -/
theorem storesA_dx : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dx = dxL arg1 harg1 arg2 harg2 arg3 harg3 arg4 harg4 arg30 arg31 arg35 arg39 arg40 x0 x1 x2 x3 := by sl_kernel_rfl

end Cert.KernelIdeal.Step

end
-- ==== Proof.PiecesAw.lean ====
module

public import proofs.«01_k».proof.Proof.Stores
public import proofs.«01_k».proof.Proof.Blocks
public import proofs.«01_k».proof.Proof.Grads

/-! The lists of stores the run of the body at the first point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : cond0_0 i) (hc1 : ¬cond0_1 i)
    (x0 : Vec F S256x2048 .bf16) (x1 : Vec F S256x2048 .bf16) (x2 : Vec F S2048x1536 .bf16) (x3 : Vec F S768x2048 .bf16)

/-- What the first point stores in `xcw`. -/
theorem storesA_xcw : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.xcw = xcwL arg1 harg1 x0 ++ [zero2048] := by sl_kernel_rfl
/-- What the first point stores in `dycw`. -/
theorem storesA_dycw : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dycw = dycwL arg2 harg2 x1 ++ [zero2048] := by sl_kernel_rfl
/-- What the first point stores in `hcw`. -/
theorem storesA_hcw : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.hcw = hcwL arg1 harg1 arg3 harg3 arg30 arg39 x0 x2 ++ [zero768] := by sl_kernel_rfl
/-- What the first point stores in `dacw`. -/
theorem storesA_dacw : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dacw = dacwL arg1 harg1 arg2 harg2 arg3 harg3 arg4 harg4 arg30 arg31 arg39 arg40 x0 x1 x2 x3 ++ [zero768] := by sl_kernel_rfl
/-- What the first point stores in `dbcw`. -/
theorem storesA_dbcw : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dbcw = dbcwL arg1 harg1 arg2 harg2 arg3 harg3 arg4 harg4 arg30 arg31 arg39 arg40 x0 x1 x2 x3 ++ [zero768] := by sl_kernel_rfl

end Cert.KernelIdeal.Step

end
-- ==== Proof.PiecesAd.lean ====
module

public import proofs.«01_k».proof.Proof.Stores
public import proofs.«01_k».proof.Proof.Blocks
public import proofs.«01_k».proof.Proof.Grads

/-! The lists of stores the run of the body at the first point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : cond0_0 i) (hc1 : ¬cond0_1 i)
    (x0 : Vec F S256x2048 .bf16) (x1 : Vec F S256x2048 .bf16) (x2 : Vec F S2048x1536 .bf16) (x3 : Vec F S768x2048 .bf16)

/-- What the first point stores in `dw1`. -/
theorem storesA_dw1 : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dw1 = dwA arg7 arg32 arg37 (xcwL arg1 harg1 x0) 8 := by sl_kernel_rfl
/-- What the first point stores in `dw3`. -/
theorem storesA_dw3 : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dw3 = dwA arg8 arg32 arg38 (xcwL arg1 harg1 x0) 8 := by sl_kernel_rfl
/-- What the first point stores in `dw2`. -/
theorem storesA_dw2 : (storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).1.dw2 = dw2C arg9 arg33 arg36 [zeroDw2] [zero2048] [zero768] 4 := by sl_kernel_rfl

end Cert.KernelIdeal.Step

end
-- ==== Proof.PiecesBx.lean ====
module

public import proofs.«01_k».proof.Proof.Stores
public import proofs.«01_k».proof.Proof.Blocks

/-! The lists of stores the run of the body at the middle point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : ¬cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the middle point stores in `xq`. -/
theorem storesB_xq : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.xq = tiles32 fun r k => rowCodesB e4 (blk arg1 harg1 x0 r k) := by sl_kernel_rfl
/-- What the middle point stores in `xs`. -/
theorem storesB_xs : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.xs = scales32 fun r k => rowScaleB e4 (blk arg1 harg1 x0 r k) := by sl_kernel_rfl
/-- What the middle point stores in `dyq`. -/
theorem storesB_dyq : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dyq = tiles32 fun r k => rowCodesB e5 (blk arg2 harg2 x1 r k) := by sl_kernel_rfl
/-- What the middle point stores in `dys`. -/
theorem storesB_dys : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dys = scales32 fun r k => rowScaleB e5 (blk arg2 harg2 x1 r k) := by sl_kernel_rfl
/-- What the middle point stores in `dycq`. -/
theorem storesB_dycq : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dycq = tiles32 fun r k => colCodesB e5 (blk arg2 harg2 x1 r k) := by sl_kernel_rfl
/-- What the middle point stores in `xcq`. -/
theorem storesB_xcq : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.xcq = tiles32 fun r k => colCodesB e4 (rowWideB e4 (blk arg1 harg1 x0 r k)) := by sl_kernel_rfl

end Cert.KernelIdeal.Step

end
-- ==== Proof.PiecesBh.lean ====
module

public import proofs.«01_k».proof.Proof.Stores
public import proofs.«01_k».proof.Proof.Blocks

/-! The lists of stores the run of the body at the middle point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : ¬cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the middle point stores in `hq`. -/
theorem storesB_hq : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.hq = tiles12 fun r k => rowCodesF e4 (hBlk arg1 harg1 arg3 harg3 arg30 arg39 x0 x2 r k) := by sl_kernel_rfl
/-- What the middle point stores in `hs`. -/
theorem storesB_hs : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.hs = scales12 fun r k => rowScaleF e4 (hBlk arg1 harg1 arg3 harg3 arg30 arg39 x0 x2 r k) := by sl_kernel_rfl
/-- What the middle point stores in `hcq`. -/
theorem storesB_hcq : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.hcq = tiles12 fun r k => colCodesB e4 (rowWideF e4 (hBlk arg1 harg1 arg3 harg3 arg30 arg39 x0 x2 r k)) := by sl_kernel_rfl

end Cert.KernelIdeal.Step

end
-- ==== Proof.PiecesBg.lean ====
module

public import proofs.«01_k».proof.Proof.Stores
public import proofs.«01_k».proof.Proof.Blocks

/-! The lists of stores the run of the body at the middle point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : ¬cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the middle point stores in `daq`. -/
theorem storesB_daq : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.daq = tiles12 fun r k => rowCodesF e5 (daBlk arg1 harg1 arg2 harg2 arg3 harg3 arg4 harg4 arg30 arg31 arg39 arg40 x0 x1 x2 x3 r k) := by sl_kernel_rfl
/-- What the middle point stores in `das`. -/
theorem storesB_das : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.das = scales12 fun r k => rowScaleF e5 (daBlk arg1 harg1 arg2 harg2 arg3 harg3 arg4 harg4 arg30 arg31 arg39 arg40 x0 x1 x2 x3 r k) := by sl_kernel_rfl
/-- What the middle point stores in `dbq`. -/
theorem storesB_dbq : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dbq = tiles12 fun r k => rowCodesF e5 (dbBlk arg1 harg1 arg2 harg2 arg3 harg3 arg4 harg4 arg30 arg31 arg39 arg40 x0 x1 x2 x3 r k) := by sl_kernel_rfl
/-- What the middle point stores in `dbs`. -/
theorem storesB_dbs : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dbs = scales12 fun r k => rowScaleF e5 (dbBlk arg1 harg1 arg2 harg2 arg3 harg3 arg4 harg4 arg30 arg31 arg39 arg40 x0 x1 x2 x3 r k) := by sl_kernel_rfl
/-- What the middle point stores in `dacq`. -/
theorem storesB_dacq : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dacq = tiles12 fun r k => colCodesF e5 (daBlk arg1 harg1 arg2 harg2 arg3 harg3 arg4 harg4 arg30 arg31 arg39 arg40 x0 x1 x2 x3 r k) := by sl_kernel_rfl
/-- What the middle point stores in `dbcq`. -/
theorem storesB_dbcq : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dbcq = tiles12 fun r k => colCodesF e5 (dbBlk arg1 harg1 arg2 harg2 arg3 harg3 arg4 harg4 arg30 arg31 arg39 arg40 x0 x1 x2 x3 r k) := by sl_kernel_rfl

end Cert.KernelIdeal.Step

end
-- ==== Proof.PiecesBy.lean ====
module

public import proofs.«01_k».proof.Proof.Stores
public import proofs.«01_k».proof.Proof.Blocks

/-! The lists of stores the run of the body at the middle point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : ¬cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the middle point stores in `y`. -/
theorem storesB_y : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.y = yL arg1 harg1 arg3 harg3 arg4 harg4 arg30 arg34 arg39 x0 x2 x3 := by sl_kernel_rfl
/-- What the middle point stores in `dx`. -/
theorem storesB_dx : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dx = dxL arg1 harg1 arg2 harg2 arg3 harg3 arg4 harg4 arg30 arg31 arg35 arg39 arg40 x0 x1 x2 x3 := by sl_kernel_rfl

end Cert.KernelIdeal.Step

end
-- ==== Proof.PiecesBw.lean ====
module

public import proofs.«01_k».proof.Proof.Stores
public import proofs.«01_k».proof.Proof.Blocks
public import proofs.«01_k».proof.Proof.Grads

/-! The lists of stores the run of the body at the middle point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : ¬cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the middle point stores in `xcw`. -/
theorem storesB_xcw : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.xcw = xcwL arg1 harg1 x0 := by sl_kernel_rfl
/-- What the middle point stores in `dycw`. -/
theorem storesB_dycw : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dycw = dycwL arg2 harg2 x1 := by sl_kernel_rfl
/-- What the middle point stores in `hcw`. -/
theorem storesB_hcw : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.hcw = hcwL arg1 harg1 arg3 harg3 arg30 arg39 x0 x2 := by sl_kernel_rfl
/-- What the middle point stores in `dacw`. -/
theorem storesB_dacw : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dacw = dacwL arg1 harg1 arg2 harg2 arg3 harg3 arg4 harg4 arg30 arg31 arg39 arg40 x0 x1 x2 x3 := by sl_kernel_rfl
/-- What the middle point stores in `dbcw`. -/
theorem storesB_dbcw : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dbcw = dbcwL arg1 harg1 arg2 harg2 arg3 harg3 arg4 harg4 arg30 arg31 arg39 arg40 x0 x1 x2 x3 := by sl_kernel_rfl

end Cert.KernelIdeal.Step

end
-- ==== Proof.PiecesBd.lean ====
module

public import proofs.«01_k».proof.Proof.Stores
public import proofs.«01_k».proof.Proof.Blocks
public import proofs.«01_k».proof.Proof.Grads

/-! The lists of stores the run of the body at the middle point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : ¬cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the middle point stores in `dw1`. -/
theorem storesB_dw1 : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dw1 = dwL arg7 harg7 arg32 harg32 arg37 harg37 h6 hs2 hs7 := by sl_kernel_rfl
/-- What the middle point stores in `dw3`. -/
theorem storesB_dw3 : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dw3 = dwL arg8 harg8 arg32 harg32 arg38 harg38 h7 hs2 hs8 := by sl_kernel_rfl
/-- What the middle point stores in `dw2`. -/
theorem storesB_dw2 : (storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dw2 = dw2L arg9 harg9 arg33 harg33 arg36 harg36 h8 hs3 hs6 := by sl_kernel_rfl

end Cert.KernelIdeal.Step

end
-- ==== Proof.PiecesCx.lean ====
module

public import proofs.«01_k».proof.Proof.Stores
public import proofs.«01_k».proof.Proof.Blocks

/-! The lists of stores the run of the body at the last point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the last point stores in `xq`. -/
theorem storesC_xq : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.xq = tiles32 fun r k => rowCodesB e4 (blk arg1 harg1 x0 r k) := by sl_kernel_rfl
/-- What the last point stores in `xs`. -/
theorem storesC_xs : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.xs = scales32 fun r k => rowScaleB e4 (blk arg1 harg1 x0 r k) := by sl_kernel_rfl
/-- What the last point stores in `dyq`. -/
theorem storesC_dyq : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dyq = tiles32 fun r k => rowCodesB e5 (blk arg2 harg2 x1 r k) := by sl_kernel_rfl
/-- What the last point stores in `dys`. -/
theorem storesC_dys : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dys = scales32 fun r k => rowScaleB e5 (blk arg2 harg2 x1 r k) := by sl_kernel_rfl
/-- What the last point stores in `dycq`. -/
theorem storesC_dycq : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dycq = tiles32 fun r k => colCodesB e5 (blk arg2 harg2 x1 r k) := by sl_kernel_rfl
/-- What the last point stores in `xcq`. -/
theorem storesC_xcq : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.xcq = tiles32 fun r k => colCodesB e4 (rowWideB e4 (blk arg1 harg1 x0 r k)) := by sl_kernel_rfl

end Cert.KernelIdeal.Step

end
-- ==== Proof.PiecesCh.lean ====
module

public import proofs.«01_k».proof.Proof.Stores
public import proofs.«01_k».proof.Proof.Blocks

/-! The lists of stores the run of the body at the last point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the last point stores in `hq`. -/
theorem storesC_hq : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.hq = tiles12 fun r k => rowCodesF e4 (hBlk arg1 harg1 arg3 harg3 arg30 arg39 x0 x2 r k) := by sl_kernel_rfl
/-- What the last point stores in `hs`. -/
theorem storesC_hs : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.hs = scales12 fun r k => rowScaleF e4 (hBlk arg1 harg1 arg3 harg3 arg30 arg39 x0 x2 r k) := by sl_kernel_rfl
/-- What the last point stores in `hcq`. -/
theorem storesC_hcq : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.hcq = tiles12 fun r k => colCodesB e4 (rowWideF e4 (hBlk arg1 harg1 arg3 harg3 arg30 arg39 x0 x2 r k)) := by sl_kernel_rfl

end Cert.KernelIdeal.Step

end
-- ==== Proof.PiecesCg.lean ====
module

public import proofs.«01_k».proof.Proof.Stores
public import proofs.«01_k».proof.Proof.Blocks

/-! The lists of stores the run of the body at the last point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the last point stores in `daq`. -/
theorem storesC_daq : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.daq = tiles12 fun r k => rowCodesF e5 (daBlk arg1 harg1 arg2 harg2 arg3 harg3 arg4 harg4 arg30 arg31 arg39 arg40 x0 x1 x2 x3 r k) := by sl_kernel_rfl
/-- What the last point stores in `das`. -/
theorem storesC_das : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.das = scales12 fun r k => rowScaleF e5 (daBlk arg1 harg1 arg2 harg2 arg3 harg3 arg4 harg4 arg30 arg31 arg39 arg40 x0 x1 x2 x3 r k) := by sl_kernel_rfl
/-- What the last point stores in `dbq`. -/
theorem storesC_dbq : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dbq = tiles12 fun r k => rowCodesF e5 (dbBlk arg1 harg1 arg2 harg2 arg3 harg3 arg4 harg4 arg30 arg31 arg39 arg40 x0 x1 x2 x3 r k) := by sl_kernel_rfl
/-- What the last point stores in `dbs`. -/
theorem storesC_dbs : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dbs = scales12 fun r k => rowScaleF e5 (dbBlk arg1 harg1 arg2 harg2 arg3 harg3 arg4 harg4 arg30 arg31 arg39 arg40 x0 x1 x2 x3 r k) := by sl_kernel_rfl
/-- What the last point stores in `dacq`. -/
theorem storesC_dacq : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dacq = tiles12 fun r k => colCodesF e5 (daBlk arg1 harg1 arg2 harg2 arg3 harg3 arg4 harg4 arg30 arg31 arg39 arg40 x0 x1 x2 x3 r k) := by sl_kernel_rfl
/-- What the last point stores in `dbcq`. -/
theorem storesC_dbcq : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dbcq = tiles12 fun r k => colCodesF e5 (dbBlk arg1 harg1 arg2 harg2 arg3 harg3 arg4 harg4 arg30 arg31 arg39 arg40 x0 x1 x2 x3 r k) := by sl_kernel_rfl

end Cert.KernelIdeal.Step

end
-- ==== Proof.PiecesCy.lean ====
module

public import proofs.«01_k».proof.Proof.Stores
public import proofs.«01_k».proof.Proof.Blocks

/-! The lists of stores the run of the body at the last point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the last point stores in `y`. -/
theorem storesC_y : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.y = yL arg1 harg1 arg3 harg3 arg4 harg4 arg30 arg34 arg39 x0 x2 x3 := by sl_kernel_rfl
/-- What the last point stores in `dx`. -/
theorem storesC_dx : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dx = dxL arg1 harg1 arg2 harg2 arg3 harg3 arg4 harg4 arg30 arg31 arg35 arg39 arg40 x0 x1 x2 x3 := by sl_kernel_rfl

end Cert.KernelIdeal.Step

end
-- ==== Proof.PiecesCw.lean ====
module

public import proofs.«01_k».proof.Proof.Stores
public import proofs.«01_k».proof.Proof.Blocks
public import proofs.«01_k».proof.Proof.Grads

/-! The lists of stores the run of the body at the last point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the last point stores in `xcw`. -/
theorem storesC_xcw : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.xcw = xcwL arg1 harg1 x0 := by sl_kernel_rfl
/-- What the last point stores in `dycw`. -/
theorem storesC_dycw : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dycw = dycwL arg2 harg2 x1 := by sl_kernel_rfl
/-- What the last point stores in `hcw`. -/
theorem storesC_hcw : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.hcw = hcwL arg1 harg1 arg3 harg3 arg30 arg39 x0 x2 := by sl_kernel_rfl
/-- What the last point stores in `dacw`. -/
theorem storesC_dacw : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dacw = dacwL arg1 harg1 arg2 harg2 arg3 harg3 arg4 harg4 arg30 arg31 arg39 arg40 x0 x1 x2 x3 := by sl_kernel_rfl
/-- What the last point stores in `dbcw`. -/
theorem storesC_dbcw : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dbcw = dbcwL arg1 harg1 arg2 harg2 arg3 harg3 arg4 harg4 arg30 arg31 arg39 arg40 x0 x1 x2 x3 := by sl_kernel_rfl

end Cert.KernelIdeal.Step

end
-- ==== Proof.PiecesCd.lean ====
module

public import proofs.«01_k».proof.Proof.Stores
public import proofs.«01_k».proof.Proof.Blocks
public import proofs.«01_k».proof.Proof.Grads

/-! The lists of stores the run of the body at the last point leaves, named. Each equality is checked by evaluation. -/

@[expose] public section

noncomputable section

namespace Cert.KernelIdeal.Step

open Idealize.ShloMosaic Idealize.ShloMosaic.Tactic Cert.KernelIdeal.Gen

variable {F : FTy → Type} [FloatOps F]

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole) (hc0 : ¬cond0_0 i) (hc1 : cond0_1 i)
    (x0 : Vec F S256x2048 .bf16) (x1 : Vec F S256x2048 .bf16) (x2 : Vec F S2048x1536 .bf16) (x3 : Vec F S768x2048 .bf16) (h6 : Vec F S2048x768 .f32) (h7 : Vec F S2048x768 .f32) (h8 : Vec F S768x2048 .f32) (hs2 : Vec F S256x2048 .bf16) (hs3 : Vec F S256x2048 .bf16) (hs6 : Vec F S256x768 .bf16) (hs7 : Vec F S256x768 .bf16) (hs8 : Vec F S256x768 .bf16)

/-- What the last point stores in `dw1`. -/
theorem storesC_dw1 : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dw1 = dwC arg7 arg32 arg37 (dwL arg7 harg7 arg32 harg32 arg37 harg37 h6 hs2 hs7) (xcwL arg1 harg1 x0) (dacwL arg1 harg1 arg2 harg2 arg3 harg3 arg4 harg4 arg30 arg31 arg39 arg40 x0 x1 x2 x3) 8 := by sl_kernel_rfl
/-- What the last point stores in `dw3`. -/
theorem storesC_dw3 : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dw3 = dwC arg8 arg32 arg38 (dwL arg8 harg8 arg32 harg32 arg38 harg38 h7 hs2 hs8) (xcwL arg1 harg1 x0) (dbcwL arg1 harg1 arg2 harg2 arg3 harg3 arg4 harg4 arg30 arg31 arg39 arg40 x0 x1 x2 x3) 8 := by sl_kernel_rfl
/-- What the last point stores in `dw2`. -/
theorem storesC_dw2 : (storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).1.dw2 = dw2C arg9 arg33 arg36 (dw2L arg9 harg9 arg33 harg33 arg36 harg36 h8 hs3 hs6) (dycwL arg2 harg2 x1) (hcwL arg1 harg1 arg3 harg3 arg30 arg39 x0 x2) 4 := by sl_kernel_rfl

end Cert.KernelIdeal.Step

end
-- ==== Proof.Body.lean ====
/- The body at one point: started on the point's blocks, it leaves the outputs' arrays (`Step.after`). -/
module

public import proofs.«01_k».proof.Proof.Buffers
public import proofs.«01_k».proof.Proof.PiecesAx
public import proofs.«01_k».proof.Proof.PiecesAh
public import proofs.«01_k».proof.Proof.PiecesAg
public import proofs.«01_k».proof.Proof.PiecesAy
public import proofs.«01_k».proof.Proof.PiecesAw
public import proofs.«01_k».proof.Proof.PiecesAd
public import proofs.«01_k».proof.Proof.PiecesBx
public import proofs.«01_k».proof.Proof.PiecesBh
public import proofs.«01_k».proof.Proof.PiecesBg
public import proofs.«01_k».proof.Proof.PiecesBy
public import proofs.«01_k».proof.Proof.PiecesBw
public import proofs.«01_k».proof.Proof.PiecesBd
public import proofs.«01_k».proof.Proof.PiecesCx
public import proofs.«01_k».proof.Proof.PiecesCh
public import proofs.«01_k».proof.Proof.PiecesCg
public import proofs.«01_k».proof.Proof.PiecesCy
public import proofs.«01_k».proof.Proof.PiecesCw
public import proofs.«01_k».proof.Proof.PiecesCd

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S2048x1536 .bf16) (harg3 : arg3.IsWhole) (arg4 : Memref sig .tc .vmem S768x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S2048x768 .f32) (harg7 : arg7.IsWhole) (arg8 : Memref sig .tc .vmem S2048x768 .f32) (harg8 : arg8.IsWhole) (arg9 : Memref sig .tc .vmem S768x2048 .f32) (harg9 : arg9.IsWhole) (arg10 : Memref sig .tc .vmem S256x2048 .fp8e4m3) (harg10 : arg10.IsWhole) (arg11 : Memref sig .tc .vmem S256x16 .f32) (harg11 : arg11.IsWhole) (arg12 : Memref sig .tc .vmem S256x768 .fp8e4m3) (harg12 : arg12.IsWhole) (arg13 : Memref sig .tc .vmem S256x6 .f32) (harg13 : arg13.IsWhole) (arg14 : Memref sig .tc .vmem S256x2048 .fp8e5m2) (harg14 : arg14.IsWhole) (arg15 : Memref sig .tc .vmem S256x16 .f32) (harg15 : arg15.IsWhole) (arg16 : Memref sig .tc .vmem S256x2048 .fp8e5m2) (harg16 : arg16.IsWhole) (arg17 : Memref sig .tc .vmem S8x2048 .f32) (harg17 : arg17.IsWhole) (arg18 : Memref sig .tc .vmem S256x768 .fp8e4m3) (harg18 : arg18.IsWhole) (arg19 : Memref sig .tc .vmem S8x768 .f32) (harg19 : arg19.IsWhole) (arg20 : Memref sig .tc .vmem S256x768 .fp8e5m2) (harg20 : arg20.IsWhole) (arg21 : Memref sig .tc .vmem S256x6 .f32) (harg21 : arg21.IsWhole) (arg22 : Memref sig .tc .vmem S256x768 .fp8e5m2) (harg22 : arg22.IsWhole) (arg23 : Memref sig .tc .vmem S256x6 .f32) (harg23 : arg23.IsWhole) (arg24 : Memref sig .tc .vmem S256x2048 .fp8e4m3) (harg24 : arg24.IsWhole) (arg25 : Memref sig .tc .vmem S8x2048 .f32) (harg25 : arg25.IsWhole) (arg26 : Memref sig .tc .vmem S256x768 .fp8e5m2) (harg26 : arg26.IsWhole) (arg27 : Memref sig .tc .vmem S8x768 .f32) (harg27 : arg27.IsWhole) (arg28 : Memref sig .tc .vmem S256x768 .fp8e5m2) (harg28 : arg28.IsWhole) (arg29 : Memref sig .tc .vmem S8x768 .f32) (harg29 : arg29.IsWhole) (arg30 : Memref sig .tc .vmem S256x2048 .bf16) (harg30 : arg30.IsWhole) (arg31 : Memref sig .tc .vmem S256x2048 .bf16) (harg31 : arg31.IsWhole) (arg32 : Memref sig .tc .vmem S256x2048 .bf16) (harg32 : arg32.IsWhole) (arg33 : Memref sig .tc .vmem S256x2048 .bf16) (harg33 : arg33.IsWhole) (arg34 : Memref sig .tc .vmem S256x768 .bf16) (harg34 : arg34.IsWhole) (arg35 : Memref sig .tc .vmem S256x1536 .bf16) (harg35 : arg35.IsWhole) (arg36 : Memref sig .tc .vmem S256x768 .bf16) (harg36 : arg36.IsWhole) (arg37 : Memref sig .tc .vmem S256x768 .bf16) (harg37 : arg37.IsWhole) (arg38 : Memref sig .tc .vmem S256x768 .bf16) (harg38 : arg38.IsWhole) (arg39 : Memref sig .tc .vmem S256x512 .f32) (harg39 : arg39.IsWhole) (arg40 : Memref sig .tc .vmem S256x256 .f32) (harg40 : arg40.IsWhole)
    (x0 x1 : Vec F S256x2048 .bf16) (x2 : Vec F S2048x1536 .bf16) (x3 : Vec F S768x2048 .bf16)

attribute [local irreducible] storesA storesB storesC

set_option maxHeartbeats 1000000 in
/-- The body at the first point. -/
theorem body_first (G O : sProp 𝕄) (hc0 : cond0_0 i) (hc1 : ¬cond0_1 i) :
    before c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 G O ⊢ wp frame (wpE (defs₀ (F := F)) Variants.none c none) Set.univ (cc0_train_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) (fun _ => after c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 (View.canon (dwA arg7 arg32 arg37 (xcwL arg1 harg1 x0) 8)) (View.canon (dwA arg8 arg32 arg38 (xcwL arg1 harg1 x0) 8)) (View.canon (dw2C arg9 arg33 arg36 [zeroDw2] [zero2048] [zero768] 4)) (View.canon (xcwL arg1 harg1 x0)) (View.canon (dycwL arg2 harg2 x1)) (View.canon (hcwL arg1 harg1 arg3 harg3 arg30 arg39 x0 x2)) (View.canon (dacwL arg1 harg1 arg2 harg2 arg3 harg3 arg4 harg4 arg30 arg31 arg39 arg40 x0 x1 x2 x3)) (View.canon (dbcwL arg1 harg1 arg2 harg2 arg3 harg3 arg4 harg4 arg30 arg31 arg39 arg40 x0 x1 x2 x3)) G O) :=
  finish c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 ((storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3).2 Set.univ fun _ => after c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 (View.canon (dwA arg7 arg32 arg37 (xcwL arg1 harg1 x0) 8)) (View.canon (dwA arg8 arg32 arg38 (xcwL arg1 harg1 x0) 8)) (View.canon (dw2C arg9 arg33 arg36 [zeroDw2] [zero2048] [zero768] 4)) (View.canon (xcwL arg1 harg1 x0)) (View.canon (dycwL arg2 harg2 x1)) (View.canon (hcwL arg1 harg1 arg3 harg3 arg30 arg39 x0 x2)) (View.canon (dacwL arg1 harg1 arg2 harg2 arg3 harg3 arg4 harg4 arg30 arg31 arg39 arg40 x0 x1 x2 x3)) (View.canon (dbcwL arg1 harg1 arg2 harg2 arg3 harg3 arg4 harg4 arg30 arg31 arg39 arg40 x0 x1 x2 x3)) G O)
      (storesA_y ..)
      (storesA_dx ..)
      (fills (storesA_dw1 ..) (cover_dwA _ _ _ _ _))
      (fills (storesA_dw3 ..) (cover_dwA _ _ _ _ _))
      (fills (storesA_dw2 ..) (cover_dw2C _ _ _ _ _ cover_zeroDw2 _))
      (storesA_xq ..)
      (storesA_xs ..)
      (storesA_hq ..)
      (storesA_hs ..)
      (storesA_dyq ..)
      (storesA_dys ..)
      (storesA_dycq ..)
      (storesA_hcq ..)
      (storesA_daq ..)
      (storesA_das ..)
      (storesA_dbq ..)
      (storesA_dbs ..)
      (storesA_xcq ..)
      (storesA_dacq ..)
      (storesA_dbcq ..)
      (fills_over (storesA_xcw ..) (cover_tiles32 _))
      (fills_over (storesA_dycw ..) (cover_tiles32 _))
      (fills_over (storesA_hcw ..) (cover_tiles12 _))
      (fills_over (storesA_dacw ..) (cover_tiles12 _))
      (fills_over (storesA_dbcw ..) (cover_tiles12 _))

set_option maxHeartbeats 1000000 in
/-- The body at the middle points. -/
theorem body_middle (h6 h7 : Vec F S2048x768 .f32) (h8 : Vec F S768x2048 .f32) (hs2 hs3 : Vec F S256x2048 .bf16) (hs6 hs7 hs8 : Vec F S256x768 .bf16) (G O : sProp 𝕄) (hc0 : ¬cond0_0 i) (hc1 : ¬cond0_1 i) :
    beforeAt c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 h6 h7 h8 hs2 hs3 hs6 hs7 hs8 G O ⊢ wp frame (wpE (defs₀ (F := F)) Variants.none c none) Set.univ (cc0_train_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) (fun _ => after c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 (View.canon (dwL arg7 harg7 arg32 harg32 arg37 harg37 h6 hs2 hs7)) (View.canon (dwL arg8 harg8 arg32 harg32 arg38 harg38 h7 hs2 hs8)) (View.canon (dw2L arg9 harg9 arg33 harg33 arg36 harg36 h8 hs3 hs6)) (View.canon (xcwL arg1 harg1 x0)) (View.canon (dycwL arg2 harg2 x1)) (View.canon (hcwL arg1 harg1 arg3 harg3 arg30 arg39 x0 x2)) (View.canon (dacwL arg1 harg1 arg2 harg2 arg3 harg3 arg4 harg4 arg30 arg31 arg39 arg40 x0 x1 x2 x3)) (View.canon (dbcwL arg1 harg1 arg2 harg2 arg3 harg3 arg4 harg4 arg30 arg31 arg39 arg40 x0 x1 x2 x3)) G O) :=
  finishAt c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 ((storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).2 Set.univ fun _ => after c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 (View.canon (dwL arg7 harg7 arg32 harg32 arg37 harg37 h6 hs2 hs7)) (View.canon (dwL arg8 harg8 arg32 harg32 arg38 harg38 h7 hs2 hs8)) (View.canon (dw2L arg9 harg9 arg33 harg33 arg36 harg36 h8 hs3 hs6)) (View.canon (xcwL arg1 harg1 x0)) (View.canon (dycwL arg2 harg2 x1)) (View.canon (hcwL arg1 harg1 arg3 harg3 arg30 arg39 x0 x2)) (View.canon (dacwL arg1 harg1 arg2 harg2 arg3 harg3 arg4 harg4 arg30 arg31 arg39 arg40 x0 x1 x2 x3)) (View.canon (dbcwL arg1 harg1 arg2 harg2 arg3 harg3 arg4 harg4 arg30 arg31 arg39 arg40 x0 x1 x2 x3)) G O)
      (storesB_y ..)
      (storesB_dx ..)
      (fills (storesB_dw1 ..) (cover_dwL _ _ _ _ _ _ _ _ _))
      (fills (storesB_dw3 ..) (cover_dwL _ _ _ _ _ _ _ _ _))
      (fills (storesB_dw2 ..) (cover_dw2L _ _ _ _ _ _ _ _ _))
      (storesB_xq ..)
      (storesB_xs ..)
      (storesB_hq ..)
      (storesB_hs ..)
      (storesB_dyq ..)
      (storesB_dys ..)
      (storesB_dycq ..)
      (storesB_hcq ..)
      (storesB_daq ..)
      (storesB_das ..)
      (storesB_dbq ..)
      (storesB_dbs ..)
      (storesB_xcq ..)
      (storesB_dacq ..)
      (storesB_dbcq ..)
      (fills (storesB_xcw ..) (cover_tiles32 _))
      (fills (storesB_dycw ..) (cover_tiles32 _))
      (fills (storesB_hcw ..) (cover_tiles12 _))
      (fills (storesB_dacw ..) (cover_tiles12 _))
      (fills (storesB_dbcw ..) (cover_tiles12 _))

set_option maxHeartbeats 1000000 in
/-- The body at the last point. -/
theorem body_last (h6 h7 : Vec F S2048x768 .f32) (h8 : Vec F S768x2048 .f32) (hs2 hs3 : Vec F S256x2048 .bf16) (hs6 hs7 hs8 : Vec F S256x768 .bf16) (G O : sProp 𝕄) (hc0 : ¬cond0_0 i) (hc1 : cond0_1 i) :
    beforeAt c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 x0 x1 x2 x3 h6 h7 h8 hs2 hs3 hs6 hs7 hs8 G O ⊢ wp frame (wpE (defs₀ (F := F)) Variants.none c none) Set.univ (cc0_train_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) (fun _ => after c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 (View.canon (dwC arg7 arg32 arg37 (dwL arg7 harg7 arg32 harg32 arg37 harg37 h6 hs2 hs7) (xcwL arg1 harg1 x0) (dacwL arg1 harg1 arg2 harg2 arg3 harg3 arg4 harg4 arg30 arg31 arg39 arg40 x0 x1 x2 x3) 8)) (View.canon (dwC arg8 arg32 arg38 (dwL arg8 harg8 arg32 harg32 arg38 harg38 h7 hs2 hs8) (xcwL arg1 harg1 x0) (dbcwL arg1 harg1 arg2 harg2 arg3 harg3 arg4 harg4 arg30 arg31 arg39 arg40 x0 x1 x2 x3) 8)) (View.canon (dw2C arg9 arg33 arg36 (dw2L arg9 harg9 arg33 harg33 arg36 harg36 h8 hs3 hs6) (dycwL arg2 harg2 x1) (hcwL arg1 harg1 arg3 harg3 arg30 arg39 x0 x2) 4)) (View.canon (xcwL arg1 harg1 x0)) (View.canon (dycwL arg2 harg2 x1)) (View.canon (hcwL arg1 harg1 arg3 harg3 arg30 arg39 x0 x2)) (View.canon (dacwL arg1 harg1 arg2 harg2 arg3 harg3 arg4 harg4 arg30 arg31 arg39 arg40 x0 x1 x2 x3)) (View.canon (dbcwL arg1 harg1 arg2 harg2 arg3 harg3 arg4 harg4 arg30 arg31 arg39 arg40 x0 x1 x2 x3)) G O) :=
  finishAt c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 ((storesC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 h6 h7 h8 hs2 hs3 hs6 hs7 hs8).2 Set.univ fun _ => after c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 harg1 harg2 harg3 harg4 x0 x1 x2 x3 (View.canon (dwC arg7 arg32 arg37 (dwL arg7 harg7 arg32 harg32 arg37 harg37 h6 hs2 hs7) (xcwL arg1 harg1 x0) (dacwL arg1 harg1 arg2 harg2 arg3 harg3 arg4 harg4 arg30 arg31 arg39 arg40 x0 x1 x2 x3) 8)) (View.canon (dwC arg8 arg32 arg38 (dwL arg8 harg8 arg32 harg32 arg38 harg38 h7 hs2 hs8) (xcwL arg1 harg1 x0) (dbcwL arg1 harg1 arg2 harg2 arg3 harg3 arg4 harg4 arg30 arg31 arg39 arg40 x0 x1 x2 x3) 8)) (View.canon (dw2C arg9 arg33 arg36 (dw2L arg9 harg9 arg33 harg33 arg36 harg36 h8 hs3 hs6) (dycwL arg2 harg2 x1) (hcwL arg1 harg1 arg3 harg3 arg30 arg39 x0 x2) 4)) (View.canon (xcwL arg1 harg1 x0)) (View.canon (dycwL arg2 harg2 x1)) (View.canon (hcwL arg1 harg1 arg3 harg3 arg30 arg39 x0 x2)) (View.canon (dacwL arg1 harg1 arg2 harg2 arg3 harg3 arg4 harg4 arg30 arg31 arg39 arg40 x0 x1 x2 x3)) (View.canon (dbcwL arg1 harg1 arg2 harg2 arg3 harg3 arg4 harg4 arg30 arg31 arg39 arg40 x0 x1 x2 x3)) G O)
      (storesC_y ..)
      (storesC_dx ..)
      (fills (storesC_dw1 ..) (cover_dwC _ _ _ _ _ (cover_dwL _ _ _ _ _ _ _ _ _) _))
      (fills (storesC_dw3 ..) (cover_dwC _ _ _ _ _ (cover_dwL _ _ _ _ _ _ _ _ _) _))
      (fills (storesC_dw2 ..) (cover_dw2C _ _ _ _ _ (cover_dw2L _ _ _ _ _ _ _ _ _) _))
      (storesC_xq ..)
      (storesC_xs ..)
      (storesC_hq ..)
      (storesC_hs ..)
      (storesC_dyq ..)
      (storesC_dys ..)
      (storesC_dycq ..)
      (storesC_hcq ..)
      (storesC_daq ..)
      (storesC_das ..)
      (storesC_dbq ..)
      (storesC_dbs ..)
      (storesC_xcq ..)
      (storesC_dacq ..)
      (storesC_dbcq ..)
      (fills (storesC_xcw ..) (cover_tiles32 _))
      (fills (storesC_dycw ..) (cover_tiles32 _))
      (fills (storesC_hcw ..) (cover_tiles12 _))
      (fills (storesC_dacw ..) (cover_tiles12 _))
      (fills (storesC_dbcw ..) (cover_tiles12 _))

end Cert.KernelIdeal.Step

end
-- ==== Proof.KernelRun.lean ====
/- The run of the pipeline: what each point leaves, the run from any start, and that the operands are kept. -/
module

public import proofs.«01_k».proof.Proof.Body

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves in each output -/

/-- `y` of point `t`. -/
def at_y (c : Dev nD) (t : Fin cfg0.N) : Vec F S256x2048 .bf16 :=
  View.canon (yL (ms0_0 t) (hs0_0 t) (ms0_2 t) (hs0_2 t) (ms0_3 t) (hs0_3 t) scM0_0 scM0_4 scM0_9 (iblk m c 0 t) (iblk m c 2 t) (iblk m c 3 t))
/-- `dx` of point `t`. -/
def at_dx (c : Dev nD) (t : Fin cfg0.N) : Vec F S256x2048 .bf16 :=
  View.canon (dxL (ms0_0 t) (hs0_0 t) (ms0_1 t) (hs0_1 t) (ms0_2 t) (hs0_2 t) (ms0_3 t) (hs0_3 t) scM0_0 scM0_1 scM0_5 scM0_9 scM0_10 (iblk m c 0 t) (iblk m c 1 t) (iblk m c 2 t) (iblk m c 3 t))
/-- `xq` of point `t`. -/
def at_xq (c : Dev nD) (t : Fin cfg0.N) : Vec F S256x2048 .fp8e4m3 :=
  View.canon (tiles32 fun r k => rowCodesB e4 (blk (ms0_0 t) (hs0_0 t) (iblk m c 0 t) r k))
/-- `xs` of point `t`. -/
def at_xs (c : Dev nD) (t : Fin cfg0.N) : Vec F S256x16 .f32 :=
  View.canon (scales32 fun r k => rowScaleB e4 (blk (ms0_0 t) (hs0_0 t) (iblk m c 0 t) r k))
/-- `hq` of point `t`. -/
def at_hq (c : Dev nD) (t : Fin cfg0.N) : Vec F S256x768 .fp8e4m3 :=
  View.canon (tiles12 fun r k => rowCodesF e4 (hBlk (ms0_0 t) (hs0_0 t) (ms0_2 t) (hs0_2 t) scM0_0 scM0_9 (iblk m c 0 t) (iblk m c 2 t) r k))
/-- `hs` of point `t`. -/
def at_hs (c : Dev nD) (t : Fin cfg0.N) : Vec F S256x6 .f32 :=
  View.canon (scales12 fun r k => rowScaleF e4 (hBlk (ms0_0 t) (hs0_0 t) (ms0_2 t) (hs0_2 t) scM0_0 scM0_9 (iblk m c 0 t) (iblk m c 2 t) r k))
/-- `dyq` of point `t`. -/
def at_dyq (c : Dev nD) (t : Fin cfg0.N) : Vec F S256x2048 .fp8e5m2 :=
  View.canon (tiles32 fun r k => rowCodesB e5 (blk (ms0_1 t) (hs0_1 t) (iblk m c 1 t) r k))
/-- `dys` of point `t`. -/
def at_dys (c : Dev nD) (t : Fin cfg0.N) : Vec F S256x16 .f32 :=
  View.canon (scales32 fun r k => rowScaleB e5 (blk (ms0_1 t) (hs0_1 t) (iblk m c 1 t) r k))
/-- `dycq` of point `t`. -/
def at_dycq (c : Dev nD) (t : Fin cfg0.N) : Vec F S256x2048 .fp8e5m2 :=
  View.canon (tiles32 fun r k => colCodesB e5 (blk (ms0_1 t) (hs0_1 t) (iblk m c 1 t) r k))
/-- `hcq` of point `t`. -/
def at_hcq (c : Dev nD) (t : Fin cfg0.N) : Vec F S256x768 .fp8e4m3 :=
  View.canon (tiles12 fun r k => colCodesB e4 (rowWideF e4 (hBlk (ms0_0 t) (hs0_0 t) (ms0_2 t) (hs0_2 t) scM0_0 scM0_9 (iblk m c 0 t) (iblk m c 2 t) r k)))
/-- `daq` of point `t`. -/
def at_daq (c : Dev nD) (t : Fin cfg0.N) : Vec F S256x768 .fp8e5m2 :=
  View.canon (tiles12 fun r k => rowCodesF e5 (daBlk (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t) r k))
/-- `das` of point `t`. -/
def at_das (c : Dev nD) (t : Fin cfg0.N) : Vec F S256x6 .f32 :=
  View.canon (scales12 fun r k => rowScaleF e5 (daBlk (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t) r k))
/-- `dbq` of point `t`. -/
def at_dbq (c : Dev nD) (t : Fin cfg0.N) : Vec F S256x768 .fp8e5m2 :=
  View.canon (tiles12 fun r k => rowCodesF e5 (dbBlk (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t) r k))
/-- `dbs` of point `t`. -/
def at_dbs (c : Dev nD) (t : Fin cfg0.N) : Vec F S256x6 .f32 :=
  View.canon (scales12 fun r k => rowScaleF e5 (dbBlk (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t) r k))
/-- `xcq` of point `t`. -/
def at_xcq (c : Dev nD) (t : Fin cfg0.N) : Vec F S256x2048 .fp8e4m3 :=
  View.canon (tiles32 fun r k => colCodesB e4 (rowWideB e4 (blk (ms0_0 t) (hs0_0 t) (iblk m c 0 t) r k)))
/-- `dacq` of point `t`. -/
def at_dacq (c : Dev nD) (t : Fin cfg0.N) : Vec F S256x768 .fp8e5m2 :=
  View.canon (tiles12 fun r k => colCodesF e5 (daBlk (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t) r k))
/-- `dbcq` of point `t`. -/
def at_dbcq (c : Dev nD) (t : Fin cfg0.N) : Vec F S256x768 .fp8e5m2 :=
  View.canon (tiles12 fun r k => colCodesF e5 (dbBlk (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t) r k))

/-! ## What is carried from point to point -/

/-- The wide column-quantised values of the widened `x`, at point `t`. -/
def at_xcw (c : Dev nD) (t : Fin cfg0.N) : Vec F S256x2048 .bf16 :=
  View.canon (xcwL (ms0_0 t) (hs0_0 t) (iblk m c 0 t))
/-- The wide column-quantised values of `dy`, at point `t`. -/
def at_dycw (c : Dev nD) (t : Fin cfg0.N) : Vec F S256x2048 .bf16 :=
  View.canon (dycwL (ms0_1 t) (hs0_1 t) (iblk m c 1 t))
/-- The wide column-quantised values of the widened `h`, at point `t`. -/
def at_hcw (c : Dev nD) (t : Fin cfg0.N) : Vec F S256x768 .bf16 :=
  View.canon (hcwL (ms0_0 t) (hs0_0 t) (ms0_2 t) (hs0_2 t) scM0_0 scM0_9 (iblk m c 0 t) (iblk m c 2 t))
/-- The wide column-quantised values of `da`, at point `t`. -/
def at_dacw (c : Dev nD) (t : Fin cfg0.N) : Vec F S256x768 .bf16 :=
  View.canon (dacwL (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t))
/-- The wide column-quantised values of `db`, at point `t`. -/
def at_dbcw (c : Dev nD) (t : Fin cfg0.N) : Vec F S256x768 .bf16 :=
  View.canon (dbcwL (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t))

/-- The point before. -/
abbrev prev (t : Fin cfg0.N) : Fin cfg0.N := ⟨t.val - 1, Nat.lt_of_le_of_lt (Nat.sub_le _ _) t.isLt⟩

/-- `dw1` after point `t`, if it was `W` before and `u` is the point before. -/
def next_dw1 (c : Dev nD) (t u : Fin cfg0.N) (W : Vec F S2048x768 .f32) : Vec F S2048x768 .f32 :=
  if t.val % 48 = 47 then View.canon (dwC (ms0_6 t) scM0_2 scM0_7 (dwL (ms0_6 t) (hs0_6 t) scM0_2 (Memref.isWhole_whole _) scM0_7 (Memref.isWhole_whole _) W (at_xcw m c u) (at_dacw m c u)) (xcwL (ms0_0 t) (hs0_0 t) (iblk m c 0 t)) (dacwL (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t)) 8)
  else View.canon (dwL (ms0_6 t) (hs0_6 t) scM0_2 (Memref.isWhole_whole _) scM0_7 (Memref.isWhole_whole _) W (at_xcw m c u) (at_dacw m c u))
/-- `dw1` after a point. -/
def sum_dw1 (c : Dev nD) : (k : ℕ) → k < cfg0.N → Vec F S2048x768 .f32
  | 0, hk => View.canon (dwA (ms0_6 ⟨0, hk⟩) scM0_2 scM0_7 (xcwL (ms0_0 ⟨0, hk⟩) (hs0_0 ⟨0, hk⟩) (iblk m c 0 ⟨0, hk⟩)) 8)
  | k + 1, hk => next_dw1 m c ⟨k + 1, hk⟩ ⟨k, Nat.lt_of_succ_lt hk⟩ (sum_dw1 c k (Nat.lt_of_succ_lt hk))
/-- `dw1` after point `t`. -/
def at_dw1 (c : Dev nD) (t : Fin cfg0.N) : Vec F S2048x768 .f32 := sum_dw1 m c t.val t.isLt

/-- At the first point. -/
theorem at_dw1_first (c : Dev nD) (t : Fin cfg0.N) (h : t.val % 48 = 0) :
    at_dw1 m c t = View.canon (dwA (ms0_6 t) scM0_2 scM0_7 (xcwL (ms0_0 t) (hs0_0 t) (iblk m c 0 t)) 8) := by
  have hN : t.val < 48 := lt_of_lt_of_eq t.isLt (show cfg0.N = 48 from N_0)
  obtain ⟨_ | k, hk⟩ := t
  · rfl
  · change (k + 1) % 48 = 0 at h; change k + 1 < 48 at hN; omega
/-- At a later one. -/
theorem at_dw1_next (c : Dev nD) (t : Fin cfg0.N) (h : ¬t.val % 48 = 0) : at_dw1 m c t = next_dw1 m c t (prev t) (at_dw1 m c (prev t)) := by
  obtain ⟨_ | k, hk⟩ := t
  · exact absurd rfl h
  · rfl
/-- At one between the first and the last. -/
theorem at_dw1_middle (c : Dev nD) (t : Fin cfg0.N) (h : ¬t.val % 48 = 0) (h1 : ¬t.val % 48 = 47) :
    at_dw1 m c t = View.canon (dwL (ms0_6 t) (hs0_6 t) scM0_2 (Memref.isWhole_whole _) scM0_7 (Memref.isWhole_whole _) (at_dw1 m c (prev t)) (at_xcw m c (prev t)) (at_dacw m c (prev t))) :=
  (at_dw1_next m c t h).trans (if_neg h1)
/-- At the last. -/
theorem at_dw1_last (c : Dev nD) (t : Fin cfg0.N) (h : ¬t.val % 48 = 0) (h1 : t.val % 48 = 47) :
    at_dw1 m c t = View.canon (dwC (ms0_6 t) scM0_2 scM0_7 (dwL (ms0_6 t) (hs0_6 t) scM0_2 (Memref.isWhole_whole _) scM0_7 (Memref.isWhole_whole _) (at_dw1 m c (prev t)) (at_xcw m c (prev t)) (at_dacw m c (prev t))) (xcwL (ms0_0 t) (hs0_0 t) (iblk m c 0 t)) (dacwL (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t)) 8) :=
  (at_dw1_next m c t h).trans (if_pos h1)

/-- `dw3` after point `t`, if it was `W` before and `u` is the point before. -/
def next_dw3 (c : Dev nD) (t u : Fin cfg0.N) (W : Vec F S2048x768 .f32) : Vec F S2048x768 .f32 :=
  if t.val % 48 = 47 then View.canon (dwC (ms0_7 t) scM0_2 scM0_8 (dwL (ms0_7 t) (hs0_7 t) scM0_2 (Memref.isWhole_whole _) scM0_8 (Memref.isWhole_whole _) W (at_xcw m c u) (at_dbcw m c u)) (xcwL (ms0_0 t) (hs0_0 t) (iblk m c 0 t)) (dbcwL (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t)) 8)
  else View.canon (dwL (ms0_7 t) (hs0_7 t) scM0_2 (Memref.isWhole_whole _) scM0_8 (Memref.isWhole_whole _) W (at_xcw m c u) (at_dbcw m c u))
/-- `dw3` after a point. -/
def sum_dw3 (c : Dev nD) : (k : ℕ) → k < cfg0.N → Vec F S2048x768 .f32
  | 0, hk => View.canon (dwA (ms0_7 ⟨0, hk⟩) scM0_2 scM0_8 (xcwL (ms0_0 ⟨0, hk⟩) (hs0_0 ⟨0, hk⟩) (iblk m c 0 ⟨0, hk⟩)) 8)
  | k + 1, hk => next_dw3 m c ⟨k + 1, hk⟩ ⟨k, Nat.lt_of_succ_lt hk⟩ (sum_dw3 c k (Nat.lt_of_succ_lt hk))
/-- `dw3` after point `t`. -/
def at_dw3 (c : Dev nD) (t : Fin cfg0.N) : Vec F S2048x768 .f32 := sum_dw3 m c t.val t.isLt

/-- At the first point. -/
theorem at_dw3_first (c : Dev nD) (t : Fin cfg0.N) (h : t.val % 48 = 0) :
    at_dw3 m c t = View.canon (dwA (ms0_7 t) scM0_2 scM0_8 (xcwL (ms0_0 t) (hs0_0 t) (iblk m c 0 t)) 8) := by
  have hN : t.val < 48 := lt_of_lt_of_eq t.isLt (show cfg0.N = 48 from N_0)
  obtain ⟨_ | k, hk⟩ := t
  · rfl
  · change (k + 1) % 48 = 0 at h; change k + 1 < 48 at hN; omega
/-- At a later one. -/
theorem at_dw3_next (c : Dev nD) (t : Fin cfg0.N) (h : ¬t.val % 48 = 0) : at_dw3 m c t = next_dw3 m c t (prev t) (at_dw3 m c (prev t)) := by
  obtain ⟨_ | k, hk⟩ := t
  · exact absurd rfl h
  · rfl
/-- At one between the first and the last. -/
theorem at_dw3_middle (c : Dev nD) (t : Fin cfg0.N) (h : ¬t.val % 48 = 0) (h1 : ¬t.val % 48 = 47) :
    at_dw3 m c t = View.canon (dwL (ms0_7 t) (hs0_7 t) scM0_2 (Memref.isWhole_whole _) scM0_8 (Memref.isWhole_whole _) (at_dw3 m c (prev t)) (at_xcw m c (prev t)) (at_dbcw m c (prev t))) :=
  (at_dw3_next m c t h).trans (if_neg h1)
/-- At the last. -/
theorem at_dw3_last (c : Dev nD) (t : Fin cfg0.N) (h : ¬t.val % 48 = 0) (h1 : t.val % 48 = 47) :
    at_dw3 m c t = View.canon (dwC (ms0_7 t) scM0_2 scM0_8 (dwL (ms0_7 t) (hs0_7 t) scM0_2 (Memref.isWhole_whole _) scM0_8 (Memref.isWhole_whole _) (at_dw3 m c (prev t)) (at_xcw m c (prev t)) (at_dbcw m c (prev t))) (xcwL (ms0_0 t) (hs0_0 t) (iblk m c 0 t)) (dbcwL (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t)) 8) :=
  (at_dw3_next m c t h).trans (if_pos h1)

/-- `dw2` after point `t`, if it was `W` before and `u` is the point before. -/
def next_dw2 (c : Dev nD) (t u : Fin cfg0.N) (W : Vec F S768x2048 .f32) : Vec F S768x2048 .f32 :=
  if t.val % 48 = 47 then View.canon (dw2C (ms0_8 t) scM0_3 scM0_6 (dw2L (ms0_8 t) (hs0_8 t) scM0_3 (Memref.isWhole_whole _) scM0_6 (Memref.isWhole_whole _) W (at_dycw m c u) (at_hcw m c u)) (dycwL (ms0_1 t) (hs0_1 t) (iblk m c 1 t)) (hcwL (ms0_0 t) (hs0_0 t) (ms0_2 t) (hs0_2 t) scM0_0 scM0_9 (iblk m c 0 t) (iblk m c 2 t)) 4)
  else View.canon (dw2L (ms0_8 t) (hs0_8 t) scM0_3 (Memref.isWhole_whole _) scM0_6 (Memref.isWhole_whole _) W (at_dycw m c u) (at_hcw m c u))
/-- `dw2` after a point. -/
def sum_dw2 (c : Dev nD) : (k : ℕ) → k < cfg0.N → Vec F S768x2048 .f32
  | 0, hk => View.canon (dw2C (ms0_8 ⟨0, hk⟩) scM0_3 scM0_6 [zeroDw2] [zero2048] [zero768] 4)
  | k + 1, hk => next_dw2 m c ⟨k + 1, hk⟩ ⟨k, Nat.lt_of_succ_lt hk⟩ (sum_dw2 c k (Nat.lt_of_succ_lt hk))
/-- `dw2` after point `t`. -/
def at_dw2 (c : Dev nD) (t : Fin cfg0.N) : Vec F S768x2048 .f32 := sum_dw2 m c t.val t.isLt

/-- At the first point. -/
theorem at_dw2_first (c : Dev nD) (t : Fin cfg0.N) (h : t.val % 48 = 0) :
    at_dw2 m c t = View.canon (dw2C (ms0_8 t) scM0_3 scM0_6 [zeroDw2] [zero2048] [zero768] 4) := by
  have hN : t.val < 48 := lt_of_lt_of_eq t.isLt (show cfg0.N = 48 from N_0)
  obtain ⟨_ | k, hk⟩ := t
  · rfl
  · change (k + 1) % 48 = 0 at h; change k + 1 < 48 at hN; omega
/-- At a later one. -/
theorem at_dw2_next (c : Dev nD) (t : Fin cfg0.N) (h : ¬t.val % 48 = 0) : at_dw2 m c t = next_dw2 m c t (prev t) (at_dw2 m c (prev t)) := by
  obtain ⟨_ | k, hk⟩ := t
  · exact absurd rfl h
  · rfl
/-- At one between the first and the last. -/
theorem at_dw2_middle (c : Dev nD) (t : Fin cfg0.N) (h : ¬t.val % 48 = 0) (h1 : ¬t.val % 48 = 47) :
    at_dw2 m c t = View.canon (dw2L (ms0_8 t) (hs0_8 t) scM0_3 (Memref.isWhole_whole _) scM0_6 (Memref.isWhole_whole _) (at_dw2 m c (prev t)) (at_dycw m c (prev t)) (at_hcw m c (prev t))) :=
  (at_dw2_next m c t h).trans (if_neg h1)
/-- At the last. -/
theorem at_dw2_last (c : Dev nD) (t : Fin cfg0.N) (h : ¬t.val % 48 = 0) (h1 : t.val % 48 = 47) :
    at_dw2 m c t = View.canon (dw2C (ms0_8 t) scM0_3 scM0_6 (dw2L (ms0_8 t) (hs0_8 t) scM0_3 (Memref.isWhole_whole _) scM0_6 (Memref.isWhole_whole _) (at_dw2 m c (prev t)) (at_dycw m c (prev t)) (at_hcw m c (prev t))) (dycwL (ms0_1 t) (hs0_1 t) (iblk m c 1 t)) (hcwL (ms0_0 t) (hs0_0 t) (ms0_2 t) (hs0_2 t) scM0_0 scM0_9 (iblk m c 0 t) (iblk m c 2 t)) 4) :=
  (at_dw2_next m c t h).trans (if_pos h1)

/-- The scratch buffers after point `t`. -/
def carried (c : Dev nD) (t : Fin cfg0.N) : sProp 𝕄 :=
  iprop(((∃ d, owns (c : Thread nD τ) scM0_0 fullShare d) ∗ (∃ d, owns (c : Thread nD τ) scM0_1 fullShare d) ∗
    owns (c : Thread nD τ) scM0_2 fullShare (at_xcw m c t) ∗ owns (c : Thread nD τ) scM0_3 fullShare (at_dycw m c t) ∗
    (∃ d, owns (c : Thread nD τ) scM0_4 fullShare d) ∗ (∃ d, owns (c : Thread nD τ) scM0_5 fullShare d) ∗
    owns (c : Thread nD τ) scM0_6 fullShare (at_hcw m c t) ∗ owns (c : Thread nD τ) scM0_7 fullShare (at_dacw m c t) ∗
    owns (c : Thread nD τ) scM0_8 fullShare (at_dbcw m c t) ∗ (∃ d, owns (c : Thread nD τ) scM0_9 fullShare d) ∗
    (∃ d, owns (c : Thread nD τ) scM0_10 fullShare d)) ∗ (∃ r, prngReg c r))

/-- The scratch buffers before point `k`: anything at the first, then what the point before left. -/
def scratch (c : Dev nD) (k : ℕ) (hk : k < cfg0.N + 1) : sProp 𝕄 :=
  if h : k = 0 then Pipeline.ΦA spec0 c else carried m c ⟨k - 1, by omega⟩

/-- What a point leaves in them may be forgotten. -/
theorem carried_forget (c : Dev nD) (t : Fin cfg0.N) : carried m c t ⊢ Pipeline.ΦA spec0 c := by
  rw [PhiA0_eq]; unfold carried
  iintro ⟨⟨H30, H31, H32, H33, H34, H35, H36, H37, H38, H39, H40⟩, HG⟩
  isplitl [H30 H31 H32 H33 H34 H35 H36 H37 H38 H39 H40]
  · isplitl [H30]; · iexact H30
    isplitl [H31]; · iexact H31
    isplitl [H32]; · iexists _; iexact H32
    isplitl [H33]; · iexists _; iexact H33
    isplitl [H34]; · iexact H34
    isplitl [H35]; · iexact H35
    isplitl [H36]; · iexists _; iexact H36
    isplitl [H37]; · iexists _; iexact H37
    isplitl [H38]; · iexists _; iexact H38
    isplitl [H39]; · iexact H39
    iexact H40
  iexact HG

/-- The outputs nothing is said of: the five arrays of column scales. -/
def unsaid : Fin 29 → Bool := fun w => w.val == 16 || w.val == 18 || w.val == 24 || w.val == 26 || w.val == 28

/-- The proof data: the arrays as launched; after the body at point `t` each input's buffer at its block, each output of which
    something is said at its array; the scratch buffers at what the point before left; nothing owed; full shares. -/
def dats (_ : Fin 1) (c : Dev nD) : Dat τ (Elt F) Unit ℕ (UR sig nD τ) ℕ cfg0 c where
  A w := V m c (Pipeline.arrRef spec0 w)
  after w t := match w with
    | ⟨0, h⟩ => iblk m c 0 t
    | ⟨1, h⟩ => iblk m c 1 t
    | ⟨2, h⟩ => iblk m c 2 t
    | ⟨3, h⟩ => iblk m c 3 t
    | ⟨4, h⟩ => at_y m c t
    | ⟨5, h⟩ => at_dx m c t
    | ⟨6, h⟩ => at_dw1 m c t
    | ⟨7, h⟩ => at_dw3 m c t
    | ⟨8, h⟩ => at_dw2 m c t
    | ⟨9, h⟩ => at_xq m c t
    | ⟨10, h⟩ => at_xs m c t
    | ⟨11, h⟩ => at_hq m c t
    | ⟨12, h⟩ => at_hs m c t
    | ⟨13, h⟩ => at_dyq m c t
    | ⟨14, h⟩ => at_dys m c t
    | ⟨15, h⟩ => at_dycq m c t
    | ⟨16, h⟩ => Pipeline.Dat.unnamed (cfg := cfg0) ⟨16, h⟩ t
    | ⟨17, h⟩ => at_hcq m c t
    | ⟨18, h⟩ => Pipeline.Dat.unnamed (cfg := cfg0) ⟨18, h⟩ t
    | ⟨19, h⟩ => at_daq m c t
    | ⟨20, h⟩ => at_das m c t
    | ⟨21, h⟩ => at_dbq m c t
    | ⟨22, h⟩ => at_dbs m c t
    | ⟨23, h⟩ => at_xcq m c t
    | ⟨24, h⟩ => Pipeline.Dat.unnamed (cfg := cfg0) ⟨24, h⟩ t
    | ⟨25, h⟩ => at_dacq m c t
    | ⟨26, h⟩ => Pipeline.Dat.unnamed (cfg := cfg0) ⟨26, h⟩ t
    | ⟨27, h⟩ => at_dbcq m c t
    | ⟨28, h⟩ => Pipeline.Dat.unnamed (cfg := cfg0) ⟨28, h⟩ t
    | ⟨_ + 29, h⟩ => absurd h (Nat.not_lt.2 (Nat.le_add_left _ _))
  Φ k := scratch m c k.val k.isLt
  q _ := fullShare
  owed _ := 0

/-- The array a window reads or writes is the one memory holds there. -/
theorem A_eq (c : Dev nD) (w : Fin cfg0.W) : (dats m 0 c).A w = V m c (Pipeline.arrRef spec0 w) := by
  dsimp only [dats]

/-- A point leaves the block of `x` as it was. -/
theorem after_0 (c : Dev nD) (t : Fin cfg0.N) : (dats m 0 c).after 0 t = iblk m c 0 t := by dsimp only [dats]
/-- A point leaves the block of `dy` as it was. -/
theorem after_1 (c : Dev nD) (t : Fin cfg0.N) : (dats m 0 c).after 1 t = iblk m c 1 t := by dsimp only [dats]
/-- A point leaves the block of `w13` as it was. -/
theorem after_2 (c : Dev nD) (t : Fin cfg0.N) : (dats m 0 c).after 2 t = iblk m c 2 t := by dsimp only [dats]
/-- A point leaves the block of `w2` as it was. -/
theorem after_3 (c : Dev nD) (t : Fin cfg0.N) : (dats m 0 c).after 3 t = iblk m c 3 t := by dsimp only [dats]
/-- What a point leaves in the block of `y`. -/
theorem after_y (c : Dev nD) (t : Fin cfg0.N) : (dats m 0 c).after 4 t = at_y m c t := by dsimp only [dats]
/-- What a point leaves in the block of `dx`. -/
theorem after_dx (c : Dev nD) (t : Fin cfg0.N) : (dats m 0 c).after 5 t = at_dx m c t := by dsimp only [dats]
/-- What a point leaves in the block of `dw1`. -/
theorem after_dw1 (c : Dev nD) (t : Fin cfg0.N) : (dats m 0 c).after 6 t = at_dw1 m c t := by dsimp only [dats]
/-- What a point leaves in the block of `dw3`. -/
theorem after_dw3 (c : Dev nD) (t : Fin cfg0.N) : (dats m 0 c).after 7 t = at_dw3 m c t := by dsimp only [dats]
/-- What a point leaves in the block of `dw2`. -/
theorem after_dw2 (c : Dev nD) (t : Fin cfg0.N) : (dats m 0 c).after 8 t = at_dw2 m c t := by dsimp only [dats]
/-- What a point leaves in the block of `xq`. -/
theorem after_xq (c : Dev nD) (t : Fin cfg0.N) : (dats m 0 c).after 9 t = at_xq m c t := by dsimp only [dats]
/-- What a point leaves in the block of `xs`. -/
theorem after_xs (c : Dev nD) (t : Fin cfg0.N) : (dats m 0 c).after 10 t = at_xs m c t := by dsimp only [dats]
/-- What a point leaves in the block of `hq`. -/
theorem after_hq (c : Dev nD) (t : Fin cfg0.N) : (dats m 0 c).after 11 t = at_hq m c t := by dsimp only [dats]
/-- What a point leaves in the block of `hs`. -/
theorem after_hs (c : Dev nD) (t : Fin cfg0.N) : (dats m 0 c).after 12 t = at_hs m c t := by dsimp only [dats]
/-- What a point leaves in the block of `dyq`. -/
theorem after_dyq (c : Dev nD) (t : Fin cfg0.N) : (dats m 0 c).after 13 t = at_dyq m c t := by dsimp only [dats]
/-- What a point leaves in the block of `dys`. -/
theorem after_dys (c : Dev nD) (t : Fin cfg0.N) : (dats m 0 c).after 14 t = at_dys m c t := by dsimp only [dats]
/-- What a point leaves in the block of `dycq`. -/
theorem after_dycq (c : Dev nD) (t : Fin cfg0.N) : (dats m 0 c).after 15 t = at_dycq m c t := by dsimp only [dats]
/-- What a point leaves in the block of `hcq`. -/
theorem after_hcq (c : Dev nD) (t : Fin cfg0.N) : (dats m 0 c).after 17 t = at_hcq m c t := by dsimp only [dats]
/-- What a point leaves in the block of `daq`. -/
theorem after_daq (c : Dev nD) (t : Fin cfg0.N) : (dats m 0 c).after 19 t = at_daq m c t := by dsimp only [dats]
/-- What a point leaves in the block of `das`. -/
theorem after_das (c : Dev nD) (t : Fin cfg0.N) : (dats m 0 c).after 20 t = at_das m c t := by dsimp only [dats]
/-- What a point leaves in the block of `dbq`. -/
theorem after_dbq (c : Dev nD) (t : Fin cfg0.N) : (dats m 0 c).after 21 t = at_dbq m c t := by dsimp only [dats]
/-- What a point leaves in the block of `dbs`. -/
theorem after_dbs (c : Dev nD) (t : Fin cfg0.N) : (dats m 0 c).after 22 t = at_dbs m c t := by dsimp only [dats]
/-- What a point leaves in the block of `xcq`. -/
theorem after_xcq (c : Dev nD) (t : Fin cfg0.N) : (dats m 0 c).after 23 t = at_xcq m c t := by dsimp only [dats]
/-- What a point leaves in the block of `dacq`. -/
theorem after_dacq (c : Dev nD) (t : Fin cfg0.N) : (dats m 0 c).after 25 t = at_dacq m c t := by dsimp only [dats]
/-- What a point leaves in the block of `dbcq`. -/
theorem after_dbcq (c : Dev nD) (t : Fin cfg0.N) : (dats m 0 c).after 27 t = at_dbcq m c t := by dsimp only [dats]

/-! Each input's buffer holds its block at every point. -/

/-- A point finds in the block of `x` the array's block. -/
theorem before_0 (c : Dev nD) (t : Fin cfg0.N) (d) : (dats m 0 c).before 0 t d = iblk m c 0 t :=
  before0_0_of m (dats m 0 c) (A_eq m c 0) (after_0 m c) t d
/-- A point finds in the block of `dy` the array's block. -/
theorem before_1 (c : Dev nD) (t : Fin cfg0.N) (d) : (dats m 0 c).before 1 t d = iblk m c 1 t :=
  before0_1_of m (dats m 0 c) (A_eq m c 1) (after_1 m c) t d
/-- A point finds in the block of `w13` the array's block. -/
theorem before_2 (c : Dev nD) (t : Fin cfg0.N) (d) : (dats m 0 c).before 2 t d = iblk m c 2 t :=
  before0_2_of m (dats m 0 c) (A_eq m c 2) (after_2 m c) t d
/-- A point finds in the block of `w2` the array's block. -/
theorem before_3 (c : Dev nD) (t : Fin cfg0.N) (d) : (dats m 0 c).before 3 t d = iblk m c 3 t :=
  before0_3_of m (dats m 0 c) (A_eq m c 3) (after_3 m c) t d

/-! A gradient's buffer holds after the first point what the point before left. -/

/-- At a later point the block of `dw1` holds what the point before left. -/
theorem before_dw1 (c : Dev nD) (t : Fin cfg0.N) (h : ¬t.val % 48 = 0) (d) : (dats m 0 c).before 6 t d = at_dw1 m c (prev t) := by
  have hN : t.val < 48 := lt_of_lt_of_eq t.isLt (show cfg0.N = 48 from N_0)
  rw [Dat.before_of_pos (dats m 0 c) 6 t (fun e => h (by rw [e])) rfl,
    if_neg (fun hf => by have hf := (flush0_6 (prev t)).mp hf; change (t.val - 1) % 48 = 47 at hf; omega)]
  exact after_dw1 m c (prev t)
/-- At a later point the block of `dw3` holds what the point before left. -/
theorem before_dw3 (c : Dev nD) (t : Fin cfg0.N) (h : ¬t.val % 48 = 0) (d) : (dats m 0 c).before 7 t d = at_dw3 m c (prev t) := by
  have hN : t.val < 48 := lt_of_lt_of_eq t.isLt (show cfg0.N = 48 from N_0)
  rw [Dat.before_of_pos (dats m 0 c) 7 t (fun e => h (by rw [e])) rfl,
    if_neg (fun hf => by have hf := (flush0_7 (prev t)).mp hf; change (t.val - 1) % 48 = 47 at hf; omega)]
  exact after_dw3 m c (prev t)
/-- At a later point the block of `dw2` holds what the point before left. -/
theorem before_dw2 (c : Dev nD) (t : Fin cfg0.N) (h : ¬t.val % 48 = 0) (d) : (dats m 0 c).before 8 t d = at_dw2 m c (prev t) := by
  have hN : t.val < 48 := lt_of_lt_of_eq t.isLt (show cfg0.N = 48 from N_0)
  rw [Dat.before_of_pos (dats m 0 c) 8 t (fun e => h (by rw [e])) rfl,
    if_neg (fun hf => by have hf := (flush0_8 (prev t)).mp hf; change (t.val - 1) % 48 = 47 at hf; omega)]
  exact after_dw2 m c (prev t)

/-! ## The body obligation -/

/-- What the body is called with at point `t`, -/
def bodyPre (c : Dev nD) (t : Fin cfg0.N) : sProp 𝕄 :=
  iprop((dats m 0 c).Φ t.castSucc ∗ (dats m 0 c).owesAt () t.castSucc ∗
    (∃ d, owns (c : Thread nD τ) (ms0_0 t) fullShare ((dats m 0 c).before 0 t d)) ∗
    (∃ d, owns (c : Thread nD τ) (ms0_1 t) fullShare ((dats m 0 c).before 1 t d)) ∗
    (∃ d, owns (c : Thread nD τ) (ms0_2 t) fullShare ((dats m 0 c).before 2 t d)) ∗
    (∃ d, owns (c : Thread nD τ) (ms0_3 t) fullShare ((dats m 0 c).before 3 t d)) ∗
    (∃ d, owns (c : Thread nD τ) (ms0_4 t) fullShare ((dats m 0 c).before 4 t d)) ∗
    (∃ d, owns (c : Thread nD τ) (ms0_5 t) fullShare ((dats m 0 c).before 5 t d)) ∗
    (∃ d, owns (c : Thread nD τ) (ms0_6 t) fullShare ((dats m 0 c).before 6 t d)) ∗
    (∃ d, owns (c : Thread nD τ) (ms0_7 t) fullShare ((dats m 0 c).before 7 t d)) ∗
    (∃ d, owns (c : Thread nD τ) (ms0_8 t) fullShare ((dats m 0 c).before 8 t d)) ∗
    (∃ d, owns (c : Thread nD τ) (ms0_9 t) fullShare ((dats m 0 c).before 9 t d)) ∗
    (∃ d, owns (c : Thread nD τ) (ms0_10 t) fullShare ((dats m 0 c).before 10 t d)) ∗
    (∃ d, owns (c : Thread nD τ) (ms0_11 t) fullShare ((dats m 0 c).before 11 t d)) ∗
    (∃ d, owns (c : Thread nD τ) (ms0_12 t) fullShare ((dats m 0 c).before 12 t d)) ∗
    (∃ d, owns (c : Thread nD τ) (ms0_13 t) fullShare ((dats m 0 c).before 13 t d)) ∗
    (∃ d, owns (c : Thread nD τ) (ms0_14 t) fullShare ((dats m 0 c).before 14 t d)) ∗
    (∃ d, owns (c : Thread nD τ) (ms0_15 t) fullShare ((dats m 0 c).before 15 t d)) ∗ (∃ d, owns (c : Thread nD τ) (ms0_16 t) fullShare d) ∗
    (∃ d, owns (c : Thread nD τ) (ms0_17 t) fullShare ((dats m 0 c).before 17 t d)) ∗ (∃ d, owns (c : Thread nD τ) (ms0_18 t) fullShare d) ∗
    (∃ d, owns (c : Thread nD τ) (ms0_19 t) fullShare ((dats m 0 c).before 19 t d)) ∗
    (∃ d, owns (c : Thread nD τ) (ms0_20 t) fullShare ((dats m 0 c).before 20 t d)) ∗
    (∃ d, owns (c : Thread nD τ) (ms0_21 t) fullShare ((dats m 0 c).before 21 t d)) ∗
    (∃ d, owns (c : Thread nD τ) (ms0_22 t) fullShare ((dats m 0 c).before 22 t d)) ∗
    (∃ d, owns (c : Thread nD τ) (ms0_23 t) fullShare ((dats m 0 c).before 23 t d)) ∗ (∃ d, owns (c : Thread nD τ) (ms0_24 t) fullShare d) ∗
    (∃ d, owns (c : Thread nD τ) (ms0_25 t) fullShare ((dats m 0 c).before 25 t d)) ∗ (∃ d, owns (c : Thread nD τ) (ms0_26 t) fullShare d) ∗
    (∃ d, owns (c : Thread nD τ) (ms0_27 t) fullShare ((dats m 0 c).before 27 t d)) ∗ (∃ d, owns (c : Thread nD τ) (ms0_28 t) fullShare d))

/-- the same with nothing said of what the output blocks and the scratch buffers hold, -/
def bodyHas (c : Dev nD) (t : Fin cfg0.N) : sProp 𝕄 :=
  iprop(Pipeline.ΦA spec0 c ∗ (dats m 0 c).owesAt () t.castSucc ∗
    (∃ d, owns (c : Thread nD τ) (ms0_0 t) fullShare ((dats m 0 c).before 0 t d)) ∗
    (∃ d, owns (c : Thread nD τ) (ms0_1 t) fullShare ((dats m 0 c).before 1 t d)) ∗
    (∃ d, owns (c : Thread nD τ) (ms0_2 t) fullShare ((dats m 0 c).before 2 t d)) ∗
    (∃ d, owns (c : Thread nD τ) (ms0_3 t) fullShare ((dats m 0 c).before 3 t d)) ∗ (∃ d, owns (c : Thread nD τ) (ms0_4 t) fullShare d) ∗
    (∃ d, owns (c : Thread nD τ) (ms0_5 t) fullShare d) ∗ (∃ d, owns (c : Thread nD τ) (ms0_6 t) fullShare d) ∗
    (∃ d, owns (c : Thread nD τ) (ms0_7 t) fullShare d) ∗ (∃ d, owns (c : Thread nD τ) (ms0_8 t) fullShare d) ∗
    (∃ d, owns (c : Thread nD τ) (ms0_9 t) fullShare d) ∗ (∃ d, owns (c : Thread nD τ) (ms0_10 t) fullShare d) ∗
    (∃ d, owns (c : Thread nD τ) (ms0_11 t) fullShare d) ∗ (∃ d, owns (c : Thread nD τ) (ms0_12 t) fullShare d) ∗
    (∃ d, owns (c : Thread nD τ) (ms0_13 t) fullShare d) ∗ (∃ d, owns (c : Thread nD τ) (ms0_14 t) fullShare d) ∗
    (∃ d, owns (c : Thread nD τ) (ms0_15 t) fullShare d) ∗ (∃ d, owns (c : Thread nD τ) (ms0_16 t) fullShare d) ∗
    (∃ d, owns (c : Thread nD τ) (ms0_17 t) fullShare d) ∗ (∃ d, owns (c : Thread nD τ) (ms0_18 t) fullShare d) ∗
    (∃ d, owns (c : Thread nD τ) (ms0_19 t) fullShare d) ∗ (∃ d, owns (c : Thread nD τ) (ms0_20 t) fullShare d) ∗
    (∃ d, owns (c : Thread nD τ) (ms0_21 t) fullShare d) ∗ (∃ d, owns (c : Thread nD τ) (ms0_22 t) fullShare d) ∗
    (∃ d, owns (c : Thread nD τ) (ms0_23 t) fullShare d) ∗ (∃ d, owns (c : Thread nD τ) (ms0_24 t) fullShare d) ∗
    (∃ d, owns (c : Thread nD τ) (ms0_25 t) fullShare d) ∗ (∃ d, owns (c : Thread nD τ) (ms0_26 t) fullShare d) ∗
    (∃ d, owns (c : Thread nD τ) (ms0_27 t) fullShare d) ∗ (∃ d, owns (c : Thread nD τ) (ms0_28 t) fullShare d))

/-- or, after the first point, with the gradients and what is carried, -/
def bodyHasAt (c : Dev nD) (t : Fin cfg0.N) : sProp 𝕄 :=
  iprop(carried m c (prev t) ∗ (dats m 0 c).owesAt () t.castSucc ∗
    (∃ d, owns (c : Thread nD τ) (ms0_0 t) fullShare ((dats m 0 c).before 0 t d)) ∗
    (∃ d, owns (c : Thread nD τ) (ms0_1 t) fullShare ((dats m 0 c).before 1 t d)) ∗
    (∃ d, owns (c : Thread nD τ) (ms0_2 t) fullShare ((dats m 0 c).before 2 t d)) ∗
    (∃ d, owns (c : Thread nD τ) (ms0_3 t) fullShare ((dats m 0 c).before 3 t d)) ∗ (∃ d, owns (c : Thread nD τ) (ms0_4 t) fullShare d) ∗
    (∃ d, owns (c : Thread nD τ) (ms0_5 t) fullShare d) ∗ owns (c : Thread nD τ) (ms0_6 t) fullShare (at_dw1 m c (prev t)) ∗
    owns (c : Thread nD τ) (ms0_7 t) fullShare (at_dw3 m c (prev t)) ∗ owns (c : Thread nD τ) (ms0_8 t) fullShare (at_dw2 m c (prev t)) ∗
    (∃ d, owns (c : Thread nD τ) (ms0_9 t) fullShare d) ∗ (∃ d, owns (c : Thread nD τ) (ms0_10 t) fullShare d) ∗
    (∃ d, owns (c : Thread nD τ) (ms0_11 t) fullShare d) ∗ (∃ d, owns (c : Thread nD τ) (ms0_12 t) fullShare d) ∗
    (∃ d, owns (c : Thread nD τ) (ms0_13 t) fullShare d) ∗ (∃ d, owns (c : Thread nD τ) (ms0_14 t) fullShare d) ∗
    (∃ d, owns (c : Thread nD τ) (ms0_15 t) fullShare d) ∗ (∃ d, owns (c : Thread nD τ) (ms0_16 t) fullShare d) ∗
    (∃ d, owns (c : Thread nD τ) (ms0_17 t) fullShare d) ∗ (∃ d, owns (c : Thread nD τ) (ms0_18 t) fullShare d) ∗
    (∃ d, owns (c : Thread nD τ) (ms0_19 t) fullShare d) ∗ (∃ d, owns (c : Thread nD τ) (ms0_20 t) fullShare d) ∗
    (∃ d, owns (c : Thread nD τ) (ms0_21 t) fullShare d) ∗ (∃ d, owns (c : Thread nD τ) (ms0_22 t) fullShare d) ∗
    (∃ d, owns (c : Thread nD τ) (ms0_23 t) fullShare d) ∗ (∃ d, owns (c : Thread nD τ) (ms0_24 t) fullShare d) ∗
    (∃ d, owns (c : Thread nD τ) (ms0_25 t) fullShare d) ∗ (∃ d, owns (c : Thread nD τ) (ms0_26 t) fullShare d) ∗
    (∃ d, owns (c : Thread nD τ) (ms0_27 t) fullShare d) ∗ (∃ d, owns (c : Thread nD τ) (ms0_28 t) fullShare d))

/-- and what it returns. -/
def bodyPost (c : Dev nD) (t : Fin cfg0.N) : sProp 𝕄 :=
  iprop((dats m 0 c).Φ t.succ ∗ (dats m 0 c).owesAt () t.succ ∗
    owns (c : Thread nD τ) (ms0_0 t) fullShare ((dats m 0 c).after 0 t) ∗ owns (c : Thread nD τ) (ms0_1 t) fullShare ((dats m 0 c).after 1 t) ∗
    owns (c : Thread nD τ) (ms0_2 t) fullShare ((dats m 0 c).after 2 t) ∗ owns (c : Thread nD τ) (ms0_3 t) fullShare ((dats m 0 c).after 3 t) ∗
    owns (c : Thread nD τ) (ms0_4 t) fullShare ((dats m 0 c).after 4 t) ∗ owns (c : Thread nD τ) (ms0_5 t) fullShare ((dats m 0 c).after 5 t) ∗
    owns (c : Thread nD τ) (ms0_6 t) fullShare ((dats m 0 c).after 6 t) ∗ owns (c : Thread nD τ) (ms0_7 t) fullShare ((dats m 0 c).after 7 t) ∗
    owns (c : Thread nD τ) (ms0_8 t) fullShare ((dats m 0 c).after 8 t) ∗ owns (c : Thread nD τ) (ms0_9 t) fullShare ((dats m 0 c).after 9 t) ∗
    owns (c : Thread nD τ) (ms0_10 t) fullShare ((dats m 0 c).after 10 t) ∗ owns (c : Thread nD τ) (ms0_11 t) fullShare ((dats m 0 c).after 11 t) ∗
    owns (c : Thread nD τ) (ms0_12 t) fullShare ((dats m 0 c).after 12 t) ∗ owns (c : Thread nD τ) (ms0_13 t) fullShare ((dats m 0 c).after 13 t) ∗
    owns (c : Thread nD τ) (ms0_14 t) fullShare ((dats m 0 c).after 14 t) ∗ owns (c : Thread nD τ) (ms0_15 t) fullShare ((dats m 0 c).after 15 t) ∗
    (∃ d, owns (c : Thread nD τ) (ms0_16 t) fullShare d) ∗ owns (c : Thread nD τ) (ms0_17 t) fullShare ((dats m 0 c).after 17 t) ∗
    (∃ d, owns (c : Thread nD τ) (ms0_18 t) fullShare d) ∗ owns (c : Thread nD τ) (ms0_19 t) fullShare ((dats m 0 c).after 19 t) ∗
    owns (c : Thread nD τ) (ms0_20 t) fullShare ((dats m 0 c).after 20 t) ∗ owns (c : Thread nD τ) (ms0_21 t) fullShare ((dats m 0 c).after 21 t) ∗
    owns (c : Thread nD τ) (ms0_22 t) fullShare ((dats m 0 c).after 22 t) ∗ owns (c : Thread nD τ) (ms0_23 t) fullShare ((dats m 0 c).after 23 t) ∗
    (∃ d, owns (c : Thread nD τ) (ms0_24 t) fullShare d) ∗ owns (c : Thread nD τ) (ms0_25 t) fullShare ((dats m 0 c).after 25 t) ∗
    (∃ d, owns (c : Thread nD τ) (ms0_26 t) fullShare d) ∗ owns (c : Thread nD τ) (ms0_27 t) fullShare ((dats m 0 c).after 27 t) ∗
    (∃ d, owns (c : Thread nD τ) (ms0_28 t) fullShare d))

/-- Before the first point the scratch buffers hold anything, -/
theorem scratch_first (c : Dev nD) (t : Fin cfg0.N) (h : t.val % 48 = 0) : (dats m 0 c).Φ t.castSucc = Pipeline.ΦA spec0 c := by
  have hN : t.val < 48 := lt_of_lt_of_eq t.isLt (show cfg0.N = 48 from N_0)
  show scratch m c t.val t.castSucc.isLt = _
  unfold scratch; exact dif_pos (by omega)
/-- before a later one what the point before left, -/
theorem scratch_next (c : Dev nD) (t : Fin cfg0.N) (h : ¬t.val % 48 = 0) : (dats m 0 c).Φ t.castSucc = carried m c (prev t) := by
  show scratch m c t.val t.castSucc.isLt = _
  unfold scratch; exact dif_neg (fun e => h (by rw [e]))
/-- and after a point what it left. -/
theorem scratch_after (c : Dev nD) (t : Fin cfg0.N) : (dats m 0 c).Φ t.succ = carried m c t := by
  show scratch m c (t.val + 1) t.succ.isLt = _
  unfold scratch; exact dif_neg (Nat.succ_ne_zero _)

/-- What the first point is started with is what the body asks for. -/
theorem pre_has (c : Dev nD) (t : Fin cfg0.N) (h : t.val % 48 = 0) : bodyPre m c t ⊢ bodyHas m c t := by
  unfold bodyPre bodyHas
  rw [scratch_first m c t h]
  iintro ⟨HG, HO, H0, H1, H2, H3, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, ⟨%d17, H17⟩, H18, ⟨%d19, H19⟩, ⟨%d20, H20⟩, ⟨%d21, H21⟩, ⟨%d22, H22⟩, ⟨%d23, H23⟩, H24, ⟨%d25, H25⟩, H26, ⟨%d27, H27⟩, H28⟩
  isplitl [HG]; · iexact HG
  isplitl [HO]; · iexact HO
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexact H16
  isplitl [H17]; · iexists _; iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexact H24
  isplitl [H25]; · iexists _; iexact H25
  isplitl [H26]; · iexact H26
  isplitl [H27]; · iexists _; iexact H27
  iexact H28

/-- What a later point is started with is what the body asks for. -/
theorem pre_hasAt (c : Dev nD) (t : Fin cfg0.N) (h : ¬t.val % 48 = 0) : bodyPre m c t ⊢ bodyHasAt m c t := by
  unfold bodyPre bodyHasAt
  rw [scratch_next m c t h]
  simp only [before_dw1 m c t h, before_dw3 m c t h, before_dw2 m c t h]
  iintro ⟨HG, HO, H0, H1, H2, H3, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, ⟨%d17, H17⟩, H18, ⟨%d19, H19⟩, ⟨%d20, H20⟩, ⟨%d21, H21⟩, ⟨%d22, H22⟩, ⟨%d23, H23⟩, H24, ⟨%d25, H25⟩, H26, ⟨%d27, H27⟩, H28⟩
  isplitl [HG]; · iexact HG
  isplitl [HO]; · iexact HO
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexact H16
  isplitl [H17]; · iexists _; iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexact H24
  isplitl [H25]; · iexists _; iexact H25
  isplitl [H26]; · iexact H26
  isplitl [H27]; · iexists _; iexact H27
  iexact H28

/-- The body at the first point, -/
theorem sound_first (c : Dev nD) (t : Fin cfg0.N) (h0 : t.val % 48 = 0) :
    bodyHas m c t ⊢ wp frame (wpE (defs₀ (F := F)) Variants.none c none) Set.univ (bodyAt0 t) (fun _ => bodyPost m c t) := by
  have h1 : ¬t.val % 48 = 47 := by omega
  unfold bodyHas bodyPost bodyAt0
  simp only [before_0, before_1, before_2, before_3]
  rw [scratch_after, show (dats m 0 c).owesAt () t.succ = (dats m 0 c).owesAt () t.castSucc from rfl,
    after_0, after_1, after_2, after_3, after_y, after_dx, after_dw1, after_dw3, after_dw2, after_xq, after_xs, after_hq, after_hs, after_dyq, after_dys, after_dycq, after_hcq, after_daq, after_das, after_dbq, after_dbs, after_xcq, after_dacq, after_dbcq, at_dw1_first m c t h0, at_dw3_first m c t h0, at_dw2_first m c t h0, PhiA0_eq]
  unfold carried
  exact (body_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) _ _ ((hcond0_0 t).mpr h0) (fun h => h1 ((hcond0_1 t).mp h)))
/-- at one between, -/
theorem sound_middle (c : Dev nD) (t : Fin cfg0.N) (h0 : ¬t.val % 48 = 0) (h1 : ¬t.val % 48 = 47) :
    bodyHasAt m c t ⊢ wp frame (wpE (defs₀ (F := F)) Variants.none c none) Set.univ (bodyAt0 t) (fun _ => bodyPost m c t) := by
  unfold bodyHasAt bodyPost bodyAt0
  simp only [before_0, before_1, before_2, before_3]
  rw [scratch_after, show (dats m 0 c).owesAt () t.succ = (dats m 0 c).owesAt () t.castSucc from rfl,
    after_0, after_1, after_2, after_3, after_y, after_dx, after_dw1, after_dw3, after_dw2, after_xq, after_xs, after_hq, after_hs, after_dyq, after_dys, after_dycq, after_hcq, after_daq, after_das, after_dbq, after_dbs, after_xcq, after_dacq, after_dbcq, at_dw1_middle m c t h0 h1, at_dw3_middle m c t h0 h1, at_dw2_middle m c t h0 h1]
  unfold carried
  exact (body_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (at_dw1 m c (prev t)) (at_dw3 m c (prev t)) (at_dw2 m c (prev t)) (at_xcw m c (prev t)) (at_dycw m c (prev t)) (at_hcw m c (prev t)) (at_dacw m c (prev t)) (at_dbcw m c (prev t)) _ _ (fun h => h0 ((hcond0_0 t).mp h)) (fun h => h1 ((hcond0_1 t).mp h)))
/-- and at the last. -/
theorem sound_last (c : Dev nD) (t : Fin cfg0.N) (h0 : ¬t.val % 48 = 0) (h1 : t.val % 48 = 47) :
    bodyHasAt m c t ⊢ wp frame (wpE (defs₀ (F := F)) Variants.none c none) Set.univ (bodyAt0 t) (fun _ => bodyPost m c t) := by
  unfold bodyHasAt bodyPost bodyAt0
  simp only [before_0, before_1, before_2, before_3]
  rw [scratch_after, show (dats m 0 c).owesAt () t.succ = (dats m 0 c).owesAt () t.castSucc from rfl,
    after_0, after_1, after_2, after_3, after_y, after_dx, after_dw1, after_dw3, after_dw2, after_xq, after_xs, after_hq, after_hs, after_dyq, after_dys, after_dycq, after_hcq, after_daq, after_das, after_dbq, after_dbs, after_xcq, after_dacq, after_dbcq, at_dw1_last m c t h0 h1, at_dw3_last m c t h0 h1, at_dw2_last m c t h0 h1]
  unfold carried
  exact (body_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (at_dw1 m c (prev t)) (at_dw3 m c (prev t)) (at_dw2 m c (prev t)) (at_xcw m c (prev t)) (at_dycw m c (prev t)) (at_hcw m c (prev t)) (at_dacw m c (prev t)) (at_dbcw m c (prev t)) _ _ (fun h => h0 ((hcond0_0 t).mp h)) ((hcond0_1 t).mpr h1))
/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 48 = 0
  · exact (pre_has m c t h0).trans (sound_first m c t h0)
  · by_cases h1 : t.val % 48 = 47
    · exact (pre_hasAt m c t h0).trans (sound_last m c t h0 h1)
    · exact (pre_hasAt m c t h0).trans (sound_middle m c t h0 h1)

/-- The body called at a point is the kernel's body on the point's buffers. -/
theorem defs₀_row (t : Fin cfg0.N) : defs₀ (F := F) .tc cfg0.body (cfg0.bodyArgs t (cfg0.slots t)) = bodyAt0 t := by
  unfold defs₀; rw [Defs.onTc_tc]

/-- The body at every point: from what the point is started with to what is said of it after. -/
theorem body_obligation (c : Dev nD) : BodyObligation (dats (F := F) m 0 c) (defs₀ (F := F)) Variants.none () Set.univ unsaid := fun t => by
  rw [bigSep_W0, bigSep_W0, defs₀_row]
  exact cast (by sl_kernel_rfl) (sound_body m c t)

/-! ## The run and the frame -/

/-- After the last point the scratch buffers hold what it left. -/
theorem scratch_last (c : Dev nD) : (dats m 0 c).Φ (Fin.last cfg0.N) ⊢ carried m c ⟨47, by rw [show cfg0.N = 48 from N_0]; decide⟩ := by
  have h := scratch_after m c ⟨47, by rw [show cfg0.N = 48 from N_0]; decide⟩
  rw [← h]
  exact (congrArg (dats m 0 c).Φ (Fin.ext (show cfg0.N = 47 + 1 from N_0))).le

set_option backward.isDefEq.respectTransparency.types false in
/-- Every run ends with the arrays of which something is said as the proof data have them, and every counter at zero. -/
theorem run_main_quiescent : θ_run defs (onTc (τ := τ) (main (F := F))) (s₀ m ρ) (fun r => (Pipeline.RDat.FramePost (cfgs 0) (fun c => (dats m 0 c).toRForget unsaid) (V m)) r ∧ r.2.sem = fun _ => 0) :=
  Pipeline.θ_run_frame_track_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = Pipeline.ΦA spec0 c from rfl]) (hout := fun c => (scratch_last m c).trans (carried_forget m c ⟨47, by rw [show cfg0.N = 48 from N_0]; decide⟩))

@[inherit_doc run_main_quiescent]
theorem run_main : θ_run defs (onTc (τ := τ) (main (F := F))) (s₀ m ρ) (Pipeline.RDat.FramePost (cfgs 0) (fun c => (dats m 0 c).toRForget unsaid) (V m)) :=
  (θ_run defs _ _).mono (fun _ h => h.1) (run_main_quiescent m ρ)

/-- The operands end as they were. -/
theorem operands_kept (r : PUnit × MemSt nD τ sig (Elt F)) (h : Pipeline.RDat.FramePost (cfgs 0) (fun c => (dats m 0 c).toRForget unsaid) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c)),
    (Pipeline.RDat.FramePost.arr_in h c 3 rfl).trans ((A_eq m c 3).trans (V_main_arg3 m c))⟩

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨operands_kept m r h.1, h.2⟩) (run_main_quiescent m ρ)

/-- An output of which something is said ends as the proof data have it. -/
theorem output (r : PUnit × MemSt nD τ sig (Elt F)) (h : Pipeline.RDat.FramePost (cfgs 0) (fun c => (dats m 0 c).toRForget unsaid) (V m) r) (c : Dev nD)
    (w : Fin cfg0.W) (hw : unsaid w = false) : r.2.mem ((cfg0.spec w).arr.view.loc (c.tc : Thread nD τ)) = (dats m 0 c).arrAt w cfg0.N :=
  ((dats m 0 c).toRForget_arrAt_iff hw _ _).mp ((h c).1 w)

end Cert.KernelIdeal.Step

end
-- ==== Proof.KernelTiles.lean ====
/- What a point leaves in each output's block: one array of the step's mathematics on the point's 256 rows. -/
module

public import proofs.«01_k».proof.Proof.TileRead

@[expose] public section

set_option maxRecDepth 16384

noncomputable section

namespace Cert.KernelIdeal.Step

open Idealize.ShloMosaic Idealize.ShloMosaic.ValueIdx Cert.Spec Cert.KernelIdeal.Gen

/-! ## The outputs of a point -/

section
variable (arg1 : Memref sig .tc .vmem S256x2048 .bf16) (harg1 : arg1.IsWhole) (arg2 : Memref sig .tc .vmem S256x2048 .bf16) (harg2 : arg2.IsWhole)
  (arg3 : Memref sig .tc .vmem S2048x1536 .bf16) (harg3 : arg3.IsWhole) (arg4 : Memref sig .tc .vmem S768x2048 .bf16) (harg4 : arg4.IsWhole)
  (arg30 arg31 : Memref sig .tc .vmem S256x2048 .bf16) (arg39 : Memref sig .tc .vmem S256x512 .f32) (arg40 : Memref sig .tc .vmem S256x256 .f32)
  (x0 x1 : Vec Ideal S256x2048 .bf16) (x2 : Vec Ideal S2048x1536 .bf16) (x3 : Vec Ideal S768x2048 .bf16)

/-- Each output quantised by blocks holds the codes, or the scales, of one array of the step. -/
theorem xq_canon : View.canon (tiles32 (F := Ideal) (e := .fp8e4m3) fun r k => rowCodesB e4 (blk arg1 harg1 x0 r k))
    = arr 256 2048 .fp8e4m3 (rowCode n4 (ops x0 x1 x2 x3).x) :=
  tiles32_canon (F := Ideal) (e := .fp8e4m3) _ (rowCode n4 (ops x0 x1 x2 x3).x) fun r k p q => rowCodesB_is e4 (blk_is arg1 harg1 x0 r k) (mul_mod128 _) p q
/-- The stores make up the row scales of `x` of the tile. -/
theorem xs_canon : View.canon (scales32 (F := Ideal) fun r k => rowScaleB e4 (blk arg1 harg1 x0 r k)) = arr 256 16 .f32 (rowScale n4 (ops x0 x1 x2 x3).x) :=
  scales32_canon (F := Ideal) _ (rowScale n4 (ops x0 x1 x2 x3).x) fun r k p z => rowScaleB_at e4 (blk_is arg1 harg1 x0 r k) p z
/-- The stores make up the column codes of `xw` of the tile. -/
theorem xcq_canon : View.canon (tiles32 (F := Ideal) (e := .fp8e4m3) fun r k => colCodesB e4 (rowWideB e4 (blk arg1 harg1 x0 r k)))
    = arr 256 2048 .fp8e4m3 (colCode n4 (ops x0 x1 x2 x3).xw) :=
  tiles32_canon (F := Ideal) (e := .fp8e4m3) _ (colCode n4 (ops x0 x1 x2 x3).xw) fun r k p q => colCodesB_is e4 (rowWideB_is e4 (blk_is arg1 harg1 x0 r k) (mul_mod128 _)) (mul_mod128 _) p q
/-- The stores make up the row codes of `dy` of the tile. -/
theorem dyq_canon : View.canon (tiles32 (F := Ideal) (e := .fp8e5m2) fun r k => rowCodesB e5 (blk arg2 harg2 x1 r k))
    = arr 256 2048 .fp8e5m2 (rowCode n5 (ops x0 x1 x2 x3).dy) :=
  tiles32_canon (F := Ideal) (e := .fp8e5m2) _ (rowCode n5 (ops x0 x1 x2 x3).dy) fun r k p q => rowCodesB_is e5 (blk_is arg2 harg2 x1 r k) (mul_mod128 _) p q
/-- The stores make up the row scales of `dy` of the tile. -/
theorem dys_canon : View.canon (scales32 (F := Ideal) fun r k => rowScaleB e5 (blk arg2 harg2 x1 r k)) = arr 256 16 .f32 (rowScale n5 (ops x0 x1 x2 x3).dy) :=
  scales32_canon (F := Ideal) _ (rowScale n5 (ops x0 x1 x2 x3).dy) fun r k p z => rowScaleB_at e5 (blk_is arg2 harg2 x1 r k) p z
/-- The stores make up the column codes of `dy` of the tile. -/
theorem dycq_canon : View.canon (tiles32 (F := Ideal) (e := .fp8e5m2) fun r k => colCodesB e5 (blk arg2 harg2 x1 r k))
    = arr 256 2048 .fp8e5m2 (colCode n5 (ops x0 x1 x2 x3).dy) :=
  tiles32_canon (F := Ideal) (e := .fp8e5m2) _ (colCode n5 (ops x0 x1 x2 x3).dy) fun r k p q => colCodesB_is e5 (blk_is arg2 harg2 x1 r k) (mul_mod128 _) p q
/-- The stores make up the row codes of `h` of the tile. -/
theorem hq_canon : View.canon (tiles12 (F := Ideal) (e := .fp8e4m3) fun r k => rowCodesF e4 (hBlk arg1 harg1 arg3 harg3 arg30 arg39 x0 x2 r k))
    = arr 256 768 .fp8e4m3 (rowCode n4 (ops x0 x1 x2 x3).h) :=
  tiles12_canon (F := Ideal) (e := .fp8e4m3) _ (rowCode n4 (ops x0 x1 x2 x3).h) fun r k p q => rowCodesF_is e4 (hBlk_is arg1 harg1 arg3 harg3 arg30 arg39 x0 x1 x2 x3 r k) (mul_mod128 _) p q
/-- The stores make up the row scales of `h` of the tile. -/
theorem hs_canon : View.canon (scales12 (F := Ideal) fun r k => rowScaleF e4 (hBlk arg1 harg1 arg3 harg3 arg30 arg39 x0 x2 r k)) = arr 256 6 .f32 (rowScale n4 (ops x0 x1 x2 x3).h) :=
  scales12_canon (F := Ideal) _ (rowScale n4 (ops x0 x1 x2 x3).h) fun r k p z => rowScaleF_at e4 (hBlk_is arg1 harg1 arg3 harg3 arg30 arg39 x0 x1 x2 x3 r k) p z
/-- The stores make up the column codes of `hw` of the tile. -/
theorem hcq_canon : View.canon (tiles12 (F := Ideal) (e := .fp8e4m3) fun r k => colCodesB e4 (rowWideF e4 (hBlk arg1 harg1 arg3 harg3 arg30 arg39 x0 x2 r k)))
    = arr 256 768 .fp8e4m3 (colCode n4 (ops x0 x1 x2 x3).hw) :=
  tiles12_canon (F := Ideal) (e := .fp8e4m3) _ (colCode n4 (ops x0 x1 x2 x3).hw) fun r k p q => colCodesB_is e4 (rowWideF_is e4 (hBlk_is arg1 harg1 arg3 harg3 arg30 arg39 x0 x1 x2 x3 r k) (mul_mod128 _)) (mul_mod128 _) p q
/-- The stores make up the row codes of `da` of the tile. -/
theorem daq_canon : View.canon (tiles12 (F := Ideal) (e := .fp8e5m2) fun r k => rowCodesF e5 (daBlk arg1 harg1 arg2 harg2 arg3 harg3 arg4 harg4 arg30 arg31 arg39 arg40 x0 x1 x2 x3 r k))
    = arr 256 768 .fp8e5m2 (rowCode n5 (ops x0 x1 x2 x3).da) :=
  tiles12_canon (F := Ideal) (e := .fp8e5m2) _ (rowCode n5 (ops x0 x1 x2 x3).da) fun r k p q => rowCodesF_is e5 (daBlk_is arg1 harg1 arg2 harg2 arg3 harg3 arg4 harg4 arg30 arg31 arg39 arg40 x0 x1 x2 x3 r k) (mul_mod128 _) p q
/-- The stores make up the row scales of `da` of the tile. -/
theorem das_canon : View.canon (scales12 (F := Ideal) fun r k => rowScaleF e5 (daBlk arg1 harg1 arg2 harg2 arg3 harg3 arg4 harg4 arg30 arg31 arg39 arg40 x0 x1 x2 x3 r k)) = arr 256 6 .f32 (rowScale n5 (ops x0 x1 x2 x3).da) :=
  scales12_canon (F := Ideal) _ (rowScale n5 (ops x0 x1 x2 x3).da) fun r k p z => rowScaleF_at e5 (daBlk_is arg1 harg1 arg2 harg2 arg3 harg3 arg4 harg4 arg30 arg31 arg39 arg40 x0 x1 x2 x3 r k) p z
/-- The stores make up the row codes of `db` of the tile. -/
theorem dbq_canon : View.canon (tiles12 (F := Ideal) (e := .fp8e5m2) fun r k => rowCodesF e5 (dbBlk arg1 harg1 arg2 harg2 arg3 harg3 arg4 harg4 arg30 arg31 arg39 arg40 x0 x1 x2 x3 r k))
    = arr 256 768 .fp8e5m2 (rowCode n5 (ops x0 x1 x2 x3).db) :=
  tiles12_canon (F := Ideal) (e := .fp8e5m2) _ (rowCode n5 (ops x0 x1 x2 x3).db) fun r k p q => rowCodesF_is e5 (dbBlk_is arg1 harg1 arg2 harg2 arg3 harg3 arg4 harg4 arg30 arg31 arg39 arg40 x0 x1 x2 x3 r k) (mul_mod128 _) p q
/-- The stores make up the row scales of `db` of the tile. -/
theorem dbs_canon : View.canon (scales12 (F := Ideal) fun r k => rowScaleF e5 (dbBlk arg1 harg1 arg2 harg2 arg3 harg3 arg4 harg4 arg30 arg31 arg39 arg40 x0 x1 x2 x3 r k)) = arr 256 6 .f32 (rowScale n5 (ops x0 x1 x2 x3).db) :=
  scales12_canon (F := Ideal) _ (rowScale n5 (ops x0 x1 x2 x3).db) fun r k p z => rowScaleF_at e5 (dbBlk_is arg1 harg1 arg2 harg2 arg3 harg3 arg4 harg4 arg30 arg31 arg39 arg40 x0 x1 x2 x3 r k) p z
/-- The stores make up the column codes of `da` of the tile. -/
theorem dacq_canon : View.canon (tiles12 (F := Ideal) (e := .fp8e5m2) fun r k => colCodesF e5 (daBlk arg1 harg1 arg2 harg2 arg3 harg3 arg4 harg4 arg30 arg31 arg39 arg40 x0 x1 x2 x3 r k))
    = arr 256 768 .fp8e5m2 (colCode n5 (ops x0 x1 x2 x3).da) :=
  tiles12_canon (F := Ideal) (e := .fp8e5m2) _ (colCode n5 (ops x0 x1 x2 x3).da) fun r k p q => colCodesF_is e5 (daBlk_is arg1 harg1 arg2 harg2 arg3 harg3 arg4 harg4 arg30 arg31 arg39 arg40 x0 x1 x2 x3 r k) (mul_mod128 _) p q
/-- The stores make up the column codes of `db` of the tile. -/
theorem dbcq_canon : View.canon (tiles12 (F := Ideal) (e := .fp8e5m2) fun r k => colCodesF e5 (dbBlk arg1 harg1 arg2 harg2 arg3 harg3 arg4 harg4 arg30 arg31 arg39 arg40 x0 x1 x2 x3 r k))
    = arr 256 768 .fp8e5m2 (colCode n5 (ops x0 x1 x2 x3).db) :=
  tiles12_canon (F := Ideal) (e := .fp8e5m2) _ (colCode n5 (ops x0 x1 x2 x3).db) fun r k p q => colCodesF_is e5 (dbBlk_is arg1 harg1 arg2 harg2 arg3 harg3 arg4 harg4 arg30 arg31 arg39 arg40 x0 x1 x2 x3 r k) (mul_mod128 _) p q
end

/-! ## The rows of a tile are rows of the whole

A row of any of these arrays is computed from that row of `x` and `dy`. -/

/-- The widened row codes of a row depend on that row only. -/
theorem rowWide_row (f : Num) {M N : Mat} {i k : ℕ} (h : M i = N k) : rowWide f M i = rowWide f N k := by
  unfold rowWide rowCode rowMax; rw [h]

/-- `I`'s first 256 rows are `J`'s from row `n`; the weights are the same. -/
structure TileOf (I J : Ops) (n : ℕ) : Prop where
  x : ∀ i, i < 256 → I.x i = J.x (n + i)
  dy : ∀ i, i < 256 → I.dy i = J.dy (n + i)
  w13 : I.w13 = J.w13
  w2 : I.w2 = J.w2

namespace TileOf
variable {I J : Ops} {n : ℕ} (T : TileOf I J n) {i : ℕ} (hi : i < 256)
include T hi

/-- A row of the tile's `x` quantised along rows and widened is that row of the array's. -/
theorem xw : I.xw i = J.xw (n + i) := rowWide_row n4 (T.x i hi)
/-- A row of the tile's `dy` quantised along rows and widened is that row of the array's. -/
theorem dyw : I.dyw i = J.dyw (n + i) := rowWide_row n5 (T.dy i hi)
/-- A row of the tile's `a` is that row of the array's. -/
theorem a : I.a i = J.a (n + i) := by unfold Ops.a Ops.w1; rw [T.xw hi, T.w13]
/-- A row of the tile's `b` is that row of the array's. -/
theorem b : I.b i = J.b (n + i) := by unfold Ops.b Ops.w3; rw [T.xw hi, T.w13]
/-- A row of the tile's `dh` is that row of the array's. -/
theorem dh : I.dh i = J.dh (n + i) := by unfold Ops.dh; rw [T.dyw hi, T.w2]
/-- A row of the tile's `h` is that row of the array's. -/
theorem h : I.h i = J.h (n + i) := by unfold Ops.h; rw [T.a hi, T.b hi]
/-- A row of the tile's `da` is that row of the array's. -/
theorem da : I.da i = J.da (n + i) := by unfold Ops.da; rw [T.a hi, T.b hi, T.dh hi]
/-- A row of the tile's `db` is that row of the array's. -/
theorem db : I.db i = J.db (n + i) := by unfold Ops.db; rw [T.a hi, T.dh hi]
/-- A row of the tile's `h` quantised along rows and widened is that row of the array's. -/
theorem hw : I.hw i = J.hw (n + i) := rowWide_row n4 (T.h hi)
/-- A row of the tile's `da` quantised along rows and widened is that row of the array's. -/
theorem daw : I.daw i = J.daw (n + i) := rowWide_row n5 (T.da hi)
/-- A row of the tile's `db` quantised along rows and widened is that row of the array's. -/
theorem dbw : I.dbw i = J.dbw (n + i) := rowWide_row n5 (T.db hi)
/-- A row of the tile's `y` is that row of the array's. -/
theorem y : I.y i = J.y (n + i) := by unfold Ops.y; rw [T.hw hi, T.w2]
/-- A row of the tile's `dx` is that row of the array's. -/
theorem dx : I.dx i = J.dx (n + i) := by unfold Ops.dx Ops.w1 Ops.w3; rw [T.daw hi, T.dbw hi, T.w13]
end TileOf

section
variable {M N : Mat} {n : ℕ} (f : Num)
/-- Row codes of a tile are those of the array. -/
theorem rowCode_tile (h : ∀ i, i < 256 → M i = N (n + i)) {i : ℕ} (hi : i < 256) : rowCode f M i = rowCode f N (n + i) := by
  unfold rowCode rowMax; rw [h i hi]
/-- Row scales of a tile are those of the array. -/
theorem rowScale_tile (h : ∀ i, i < 256 → M i = N (n + i)) {i : ℕ} (hi : i < 256) : rowScale f M i = rowScale f N (n + i) := by
  unfold rowScale rowMax; rw [h i hi]
/-- A tile's 256 rows are two whole groups of the columns. -/
theorem colCode_tile (t : ℕ) (h : ∀ i, i < 256 → M i = N (256 * t + i)) {i : ℕ} (hi : i < 256) : colCode f M i = colCode f N (256 * t + i) := by
  have e : ∀ p : Fin 128, M (128 * (i / 128) + p.val) = N (128 * ((256 * t + i) / 128) + p.val) := fun p => by
    have := p.isLt
    rw [h _ (by omega)]; exact congrArg N (by omega)
  unfold colCode colMax; funext j; rw [h i hi]; simp only [e]
end

end Cert.KernelIdeal.Step

end
-- ==== Proof.GradTiles.lean ====
/- What a point leaves in the weight gradients and carries to the next, over the reals. -/
module

public import proofs.«01_k».proof.Proof.Carried
public import proofs.«01_k».proof.Proof.KernelTiles
public import Idealize.ShloMosaic.Lib.IdealHost

@[expose] public section

set_option maxRecDepth 16384

noncomputable section

namespace Cert.KernelIdeal.Step

open Idealize.ShloMosaic Idealize.ShloMosaic.ValueIdx Cert.Spec Cert.KernelIdeal.Gen

/-! ## What is carried -/

section
variable (arg1 : Memref sig .tc .vmem S256x2048 .bf16) (harg1 : arg1.IsWhole) (arg2 : Memref sig .tc .vmem S256x2048 .bf16) (harg2 : arg2.IsWhole)
  (arg3 : Memref sig .tc .vmem S2048x1536 .bf16) (harg3 : arg3.IsWhole) (arg4 : Memref sig .tc .vmem S768x2048 .bf16) (harg4 : arg4.IsWhole)
  (arg30 arg31 : Memref sig .tc .vmem S256x2048 .bf16) (arg39 : Memref sig .tc .vmem S256x512 .f32) (arg40 : Memref sig .tc .vmem S256x256 .f32)
  (x0 x1 : Vec Ideal S256x2048 .bf16) (x2 : Vec Ideal S2048x1536 .bf16) (x3 : Vec Ideal S768x2048 .bf16)

/-- The buffers carried hold the wide column-quantised values of the tile: of `xw`, -/
theorem xcw_canon : View.canon (xcwL arg1 harg1 x0) = arr 256 2048 .bf16 (ops x0 x1 x2 x3).xcw :=
  tiles32_canon (F := Ideal) (e := .bf16) _ (ops x0 x1 x2 x3).xcw fun r k p q =>
    stored_is (colWideB_is e4 (rowWideB_is e4 (blk_is arg1 harg1 x0 r k) (mul_mod128 _)) (mul_mod128 _)) p q
/-- of `dy`, -/
theorem dycw_canon : View.canon (dycwL arg2 harg2 x1) = arr 256 2048 .bf16 (ops x0 x1 x2 x3).dycw :=
  tiles32_canon (F := Ideal) (e := .bf16) _ (ops x0 x1 x2 x3).dycw fun r k p q =>
    stored_is (colWideB_is e5 (blk_is arg2 harg2 x1 r k) (mul_mod128 _)) p q
/-- of `hw`, -/
theorem hcw_canon : View.canon (hcwL arg1 harg1 arg3 harg3 arg30 arg39 x0 x2) = arr 256 768 .bf16 (ops x0 x1 x2 x3).hcw :=
  tiles12_canon (F := Ideal) (e := .bf16) _ (ops x0 x1 x2 x3).hcw fun r k p q =>
    stored_is (colWideB_is e4 (rowWideF_is e4 (hBlk_is arg1 harg1 arg3 harg3 arg30 arg39 x0 x1 x2 x3 r k) (mul_mod128 _)) (mul_mod128 _)) p q
/-- of `da` -/
theorem dacw_canon : View.canon (dacwL arg1 harg1 arg2 harg2 arg3 harg3 arg4 harg4 arg30 arg31 arg39 arg40 x0 x1 x2 x3) = arr 256 768 .bf16 (ops x0 x1 x2 x3).dacw :=
  tiles12_canon (F := Ideal) (e := .bf16) _ (ops x0 x1 x2 x3).dacw fun r k p q =>
    stored_is (colWideF_is e5 (daBlk_is arg1 harg1 arg2 harg2 arg3 harg3 arg4 harg4 arg30 arg31 arg39 arg40 x0 x1 x2 x3 r k) (mul_mod128 _)) p q
/-- and of `db`. -/
theorem dbcw_canon : View.canon (dbcwL arg1 harg1 arg2 harg2 arg3 harg3 arg4 harg4 arg30 arg31 arg39 arg40 x0 x1 x2 x3) = arr 256 768 .bf16 (ops x0 x1 x2 x3).dbcw :=
  tiles12_canon (F := Ideal) (e := .bf16) _ (ops x0 x1 x2 x3).dbcw fun r k p q =>
    stored_is (colWideF_is e5 (dbBlk_is arg1 harg1 arg2 harg2 arg3 harg3 arg4 harg4 arg30 arg31 arg39 arg40 x0 x1 x2 x3 r k) (mul_mod128 _)) p q
end

/-! ## One group of a gradient with a product added -/

/-- The entries of 256 rows with a product added. -/
theorem addProd_at (w : FVec Ideal S256x768 .f32) (u : FVec Ideal S256x256 .bf16) (v : FVec Ideal S256x768 .bf16) (i : Fin 256) (j : Fin 768) :
    addProd w u v (ix2 i j) = (w (ix2 i j) : EReal) + ∑ l : Fin 256, (u (ix2 l i) : EReal) * v (ix2 l j) := by
  unfold addProd
  refine congrArg₂ (fun s t : EReal => s + t) (shapeCast_apply _ _ (ix2 i j) (ix2 i j) rfl) ?_
  refine (matmul_rows_apply (M := 256) (K := 256) (N := 768) dot_S256x256_S256x768_S256x768_0_0_1_1_n_n.wf none u v _ i j).trans ?_
  refine (congrArg (· + _) (show (constant (F := Ideal) S256x768 .f32 0x00000000#32 (ix2 i j) : EReal) = 0 from Ideal.ofBits_zero_f32)).trans ?_
  exact zero_add _
/-- The entries of 512 columns with a product added. -/
theorem addProd2_at (w : FVec Ideal S768x512 .f32) (u : FVec Ideal S256x768 .bf16) (v : FVec Ideal S256x512 .bf16) (i : Fin 768) (j : Fin 512) :
    addProd2 w u v (ix2 i j) = (w (ix2 i j) : EReal) + ∑ l : Fin 256, (u (ix2 l i) : EReal) * v (ix2 l j) := by
  unfold addProd2
  refine congrArg₂ (fun s t : EReal => s + t) (shapeCast_apply _ _ (ix2 i j) (ix2 i j) rfl) ?_
  refine (matmul_rows_apply (M := 768) (K := 256) (N := 512) dot_S256x768_S256x512_S768x512_0_0_1_1_n_n.wf none u v _ i j).trans ?_
  refine (congrArg (· + _) (show (constant (F := Ideal) S768x512 .f32 0x00000000#32 (ix2 i j) : EReal) = 0 from Ideal.ofBits_zero_f32)).trans ?_
  exact zero_add _

/-! ## A load at an offset -/

section
variable {m n a b : ℕ} {e : EltTy} (o0 o1 : ℕ) (inb : ∀ c, (![o0, o1] : Fin 2 → ℕ) c + (⟨2, ![a, b]⟩ : Shape).size c ≤ (⟨2, ![m, n]⟩ : Shape).size c)
  (arg : Memref sig .tc .vmem ⟨2, ![m, n]⟩ e) (p : Fin a) (q : Fin b) (i : Fin m) (j : Fin n)

/-- The entry of the buffer an entry of the load is. -/
theorem load_idx (hi : i.val = o0 + p.val) (hj : j.val = o1 + q.val) :
    (Rect.unit (s := ⟨2, ![m, n]⟩) ![o0, o1] (⟨2, ![a, b]⟩ : Shape).size inb).emb (ix2 p q) = ix2 i j := by
  refine funext fun c => Fin.ext ?_
  match c with
  | ⟨0, _⟩ => show o0 + 1 * p.val = i.val; omega
  | ⟨1, _⟩ => show o1 + 1 * q.val = j.val; omega
/-- A load of a buffer some stores were made in. -/
theorem readCov_at (L : List (View.Piece (Elt Ideal) ⟨2, ![m, n]⟩ e)) (hi : i.val = o0 + p.val) (hj : j.val = o1 + q.val) :
    arg.view.readCov L (Rect.unit (s := ⟨2, ![m, n]⟩) ![o0, o1] (⟨2, ![a, b]⟩ : Shape).size inb).toLoadRect (ix2 p q) = View.canon L (ix2 i j) := by
  rw [View.readCov_eq_canon']
  exact congrArg (View.canon L) (load_idx o0 o1 inb p q i j hi hj)
/-- A load of a buffer that holds `X`. -/
theorem readAt_at (harg : arg.IsWhole) (X : (⟨2, ![m, n]⟩ : Shape).Idx → Elt Ideal e) (hi : i.val = o0 + p.val) (hj : j.val = o1 + q.val) :
    View.readAt (Elt Ideal) arg.view (Rect.unit (s := ⟨2, ![m, n]⟩) ![o0, o1] (⟨2, ![a, b]⟩ : Shape).size inb).toLoadRect (harg.unread X) (ix2 p q) = X (ix2 i j) := by
  rw [View.readAt_apply, harg.read_unread]
  exact congrArg X (load_idx o0 o1 inb p q i j hi hj)
/-- A store at an offset, where it stores, -/
theorem store_in (v : (⟨2, ![a, b]⟩ : Shape).Idx → Elt Ideal e) (L : List (View.Piece (Elt Ideal) ⟨2, ![m, n]⟩ e)) (hi : i.val = o0 + p.val) (hj : j.val = o1 + q.val) :
    View.canon ((⟨Rect.unit (s := ⟨2, ![m, n]⟩) ![o0, o1] (⟨2, ![a, b]⟩ : Shape).size inb, v⟩ : View.Piece (Elt Ideal) ⟨2, ![m, n]⟩ e) :: L) (ix2 i j) = v (ix2 p q) := by
  rw [← load_idx o0 o1 inb p q i j hi hj]
  exact View.canon_cons_emb _ _ _ _
/-- and elsewhere. -/
theorem store_out (v : (⟨2, ![a, b]⟩ : Shape).Idx → Elt Ideal e) (L : List (View.Piece (Elt Ideal) ⟨2, ![m, n]⟩ e))
    (h : ¬(o0 ≤ i.val ∧ i.val < o0 + a ∧ o1 ≤ j.val ∧ j.val < o1 + b)) :
    View.canon ((⟨Rect.unit (s := ⟨2, ![m, n]⟩) ![o0, o1] (⟨2, ![a, b]⟩ : Shape).size inb, v⟩ : View.Piece (Elt Ideal) ⟨2, ![m, n]⟩ e) :: L) (ix2 i j) = View.canon L (ix2 i j) := by
  refine View.canon_cons_of_not_mem _ _ fun hy => h ?_
  obtain ⟨x, hx⟩ := (Rect.unit (s := ⟨2, ![m, n]⟩) ![o0, o1] (⟨2, ![a, b]⟩ : Shape).size inb).exists_idx_of_mem hy
  have h0 : o0 + 1 * (x 0).val = i.val := congrArg (fun y : (⟨2, ![m, n]⟩ : Shape).Idx => (y 0).val) hx
  have h1 : o1 + 1 * (x 1).val = j.val := congrArg (fun y : (⟨2, ![m, n]⟩ : Shape).Idx => (y 1).val) hx
  have k0 : (x 0).val < a := (x 0).isLt
  have k1 : (x 1).val < b := (x 1).isLt
  omega
end

/-! ## The gradients after a point -/

section
variable (a : Memref sig .tc .vmem S2048x768 .f32) (ha : a.IsWhole) (a2 : Memref sig .tc .vmem S768x2048 .f32) (ha2 : a2.IsWhole)
  (p : Memref sig .tc .vmem S256x2048 .bf16) (hp : p.IsWhole) (q : Memref sig .tc .vmem S256x768 .bf16) (hq : q.IsWhole) (M X Y : Mat)

/-- A middle point adds to `dw1` (or `dw3`) the product of what was carried. -/
theorem dwL_canon : View.canon (dwL (F := Ideal) a ha p hp q hq (arr 2048 768 .f32 M) (arr 256 2048 .bf16 X) (arr 256 768 .bf16 Y))
    = arr 2048 768 .f32 fun i j => M i j + rowsProd 256 X Y i j := by
  funext y
  refine View.canon_apply_of_pieces (Val := Elt Ideal) (e := .f32) (fun y => M (y 0).val (y 1).val + rowsProd 256 X Y (y 0).val (y 1).val) _ (fun z hz x => ?_) y (cover_dwL a ha p hp q hq _ _ _ y)
  obtain ⟨c, -, rfl⟩ := List.mem_map.mp hz
  obtain ⟨i, j, rfl⟩ : ∃ (i : Fin 256) (j : Fin 768), x = ix2 i j := ⟨x 0, x 1, eq_ix2 x⟩
  have hc := c.isLt; have hi := i.isLt
  rw [load_idx (256 * c.val) 0 (inbDw c) i j ⟨256 * c.val + i.val, by omega⟩ j rfl (Nat.zero_add _).symm]
  refine (addProd_at _ _ _ i j).trans ?_
  rw [readAt_at (256 * c.val) 0 (inbDw c) a i j ⟨256 * c.val + i.val, by omega⟩ j ha _ rfl (Nat.zero_add _).symm]
  refine congrArg (M (256 * c.val + i.val) j.val + ·) (Finset.sum_congr rfl fun l _ => ?_)
  rw [readAt_at 0 (256 * c.val) (inbXc c) p l i l ⟨256 * c.val + i.val, by omega⟩ hp _ (Nat.zero_add _).symm rfl,
    readAt_at 0 0 inb_S256x768_S256x768_0_0 q l j l j hq _ (Nat.zero_add _).symm (Nat.zero_add _).symm]
  rfl
/-- It adds to `dw2` likewise. -/
theorem dw2L_canon : View.canon (dw2L (F := Ideal) a2 ha2 p hp q hq (arr 768 2048 .f32 M) (arr 256 2048 .bf16 X) (arr 256 768 .bf16 Y))
    = arr 768 2048 .f32 fun i j => M i j + rowsProd 256 Y X i j := by
  funext y
  refine View.canon_apply_of_pieces (Val := Elt Ideal) (e := .f32) (fun y => M (y 0).val (y 1).val + rowsProd 256 Y X (y 0).val (y 1).val) _ (fun z hz x => ?_) y (cover_dw2L a2 ha2 p hp q hq _ _ _ y)
  obtain ⟨c, -, rfl⟩ := List.mem_map.mp hz
  obtain ⟨i, j, rfl⟩ : ∃ (i : Fin 768) (j : Fin 512), x = ix2 i j := ⟨x 0, x 1, eq_ix2 x⟩
  have hc := c.isLt; have hj := j.isLt
  rw [load_idx 0 (512 * c.val) (inbW2c c) i j i ⟨512 * c.val + j.val, by omega⟩ (Nat.zero_add _).symm rfl]
  refine (addProd2_at _ _ _ i j).trans ?_
  rw [readAt_at 0 (512 * c.val) (inbW2c c) a2 i j i ⟨512 * c.val + j.val, by omega⟩ ha2 _ (Nat.zero_add _).symm rfl]
  refine congrArg (M i.val (512 * c.val + j.val) + ·) (Finset.sum_congr rfl fun l _ => ?_)
  rw [readAt_at 0 (512 * c.val) (inbY c) p l j l ⟨512 * c.val + j.val, by omega⟩ hp _ (Nat.zero_add _).symm rfl,
    readAt_at 0 0 inb_S256x768_S256x768_0_0 q l i l i hq _ (Nat.zero_add _).symm (Nat.zero_add _).symm]
  rfl

variable {L : List (View.Piece (Elt Ideal) S2048x768 .f32)} {L2 : List (View.Piece (Elt Ideal) S768x2048 .f32)}
  {P : List (View.Piece (Elt Ideal) S256x2048 .bf16)} {Q : List (View.Piece (Elt Ideal) S256x768 .bf16)} {M X Y : Mat}

/-- The last point's stores into `dw1` (or `dw3`), group by group. -/
theorem dwC_at (hL : View.canon L = arr 2048 768 .f32 M) (hP : View.canon P = arr 256 2048 .bf16 X) (hQ : View.canon Q = arr 256 768 .bf16 Y) :
    ∀ n, n ≤ 8 → ∀ (i : Fin 2048) (j : Fin 768), (View.canon (dwC a p q L P Q n) (ix2 i j) : EReal)
      = if i.val < 256 * n then M i.val j.val + rowsProd 256 X Y i.val j.val else M i.val j.val
  | 0, _, i, j => by rw [if_neg (by omega)]; unfold dwC; rw [hL]; rfl
  | n + 1, hn, i, j => by
    have ih := dwC_at hL hP hQ n (by omega) i j
    have hi := i.isLt
    unfold dwC; rw [dif_pos (show n < 8 by omega)]
    by_cases hm : 256 * n ≤ i.val ∧ i.val < 256 * n + 256
    · rw [if_neg (by omega)] at ih
      rw [if_pos (by omega)]
      refine (store_in (256 * n) 0 (inbDw ⟨n, by omega⟩) ⟨i.val - 256 * n, by omega⟩ j i j _ _ (show i.val = 256 * n + (i.val - 256 * n) by omega) (Nat.zero_add _).symm).trans ?_
      refine (addProd_at _ _ _ _ j).trans ?_
      rw [readCov_at (256 * n) 0 (inbDw ⟨n, by omega⟩) a ⟨i.val - 256 * n, by omega⟩ j i j _ (show i.val = 256 * n + (i.val - 256 * n) by omega) (Nat.zero_add _).symm]
      refine congrArg₂ (fun s t : EReal => s + t) ih (Finset.sum_congr rfl fun l _ => ?_)
      rw [readCov_at 0 (256 * n) (inbXc ⟨n, by omega⟩) p l ⟨i.val - 256 * n, by omega⟩ l i _ (Nat.zero_add _).symm (show i.val = 256 * n + (i.val - 256 * n) by omega),
        readCov_at 0 0 inb_S256x768_S256x768_0_0 q l j l j _ (Nat.zero_add _).symm (Nat.zero_add _).symm, hP, hQ]
      rfl
    · refine (store_out (256 * n) 0 (inbDw ⟨n, by omega⟩) i j _ _ (by omega)).trans (ih.trans ?_)
      by_cases h : i.val < 256 * n
      · rw [if_pos h, if_pos (by omega)]
      · rw [if_neg h, if_neg (by omega)]
/-- The last point adds its own product to `dw1` (or `dw3`). -/
theorem dwC_canon (hL : View.canon L = arr 2048 768 .f32 M) (hP : View.canon P = arr 256 2048 .bf16 X) (hQ : View.canon Q = arr 256 768 .bf16 Y) :
    View.canon (dwC a p q L P Q 8) = arr 2048 768 .f32 fun i j => M i j + rowsProd 256 X Y i j := by
  funext y
  obtain ⟨i, j, rfl⟩ : ∃ (i : Fin 2048) (j : Fin 768), y = ix2 i j := ⟨y 0, y 1, eq_ix2 y⟩
  exact (dwC_at a p q hL hP hQ 8 le_rfl i j).trans (if_pos (by have := i.isLt; omega))

/-- The stores of the first or the last point into `dw2`, group by group. -/
theorem dw2C_at (hL : View.canon L2 = arr 768 2048 .f32 M) (hP : View.canon P = arr 256 2048 .bf16 X) (hQ : View.canon Q = arr 256 768 .bf16 Y) :
    ∀ n, n ≤ 4 → ∀ (i : Fin 768) (j : Fin 2048), (View.canon (dw2C a2 p q L2 P Q n) (ix2 i j) : EReal)
      = if j.val < 512 * n then M i.val j.val + rowsProd 256 Y X i.val j.val else M i.val j.val
  | 0, _, i, j => by rw [if_neg (by omega)]; unfold dw2C; rw [hL]; rfl
  | n + 1, hn, i, j => by
    have ih := dw2C_at hL hP hQ n (by omega) i j
    have hj := j.isLt
    unfold dw2C; rw [dif_pos (show n < 4 by omega)]
    by_cases hm : 512 * n ≤ j.val ∧ j.val < 512 * n + 512
    · rw [if_neg (by omega)] at ih
      rw [if_pos (by omega)]
      refine (store_in 0 (512 * n) (inbW2c ⟨n, by omega⟩) i ⟨j.val - 512 * n, by omega⟩ i j _ _ (Nat.zero_add _).symm (show j.val = 512 * n + (j.val - 512 * n) by omega)).trans ?_
      refine (addProd2_at _ _ _ i _).trans ?_
      rw [readCov_at 0 (512 * n) (inbW2c ⟨n, by omega⟩) a2 i ⟨j.val - 512 * n, by omega⟩ i j _ (Nat.zero_add _).symm (show j.val = 512 * n + (j.val - 512 * n) by omega)]
      refine congrArg₂ (fun s t : EReal => s + t) ih (Finset.sum_congr rfl fun l _ => ?_)
      rw [readCov_at 0 (512 * n) (inbY ⟨n, by omega⟩) p l ⟨j.val - 512 * n, by omega⟩ l j _ (Nat.zero_add _).symm (show j.val = 512 * n + (j.val - 512 * n) by omega),
        readCov_at 0 0 inb_S256x768_S256x768_0_0 q l i l i _ (Nat.zero_add _).symm (Nat.zero_add _).symm, hP, hQ]
      rfl
    · refine (store_out 0 (512 * n) (inbW2c ⟨n, by omega⟩) i j _ _ (by omega)).trans (ih.trans ?_)
      by_cases h : j.val < 512 * n
      · rw [if_pos h, if_pos (by omega)]
      · rw [if_neg h, if_neg (by omega)]
/-- Such a point adds its product to `dw2`. -/
theorem dw2C_canon (hL : View.canon L2 = arr 768 2048 .f32 M) (hP : View.canon P = arr 256 2048 .bf16 X) (hQ : View.canon Q = arr 256 768 .bf16 Y) :
    View.canon (dw2C a2 p q L2 P Q 4) = arr 768 2048 .f32 fun i j => M i j + rowsProd 256 Y X i j := by
  funext y
  obtain ⟨i, j, rfl⟩ : ∃ (i : Fin 768) (j : Fin 2048), y = ix2 i j := ⟨y 0, y 1, eq_ix2 y⟩
  exact (dw2C_at a2 p q hL hP hQ 4 le_rfl i j).trans (if_pos (by have := j.isLt; omega))

/-! At the first point everything carried is zero. -/

theorem zero2048_canon : View.canon (Val := Elt Ideal) [zero2048] = arr 256 2048 .bf16 fun _ _ => 0 :=
  funext fun y => (canon_whole _ _ _ y).trans Ideal.ofBits_zero_bf16
/-- The store of zeros in a scratch tile of 768 columns. -/
theorem zero768_canon : View.canon (Val := Elt Ideal) [zero768] = arr 256 768 .bf16 fun _ _ => 0 :=
  funext fun y => (canon_whole _ _ _ y).trans Ideal.ofBits_zero_bf16
/-- The store of zeros in `dw1` or `dw3`. -/
theorem zeroDw_canon : View.canon (Val := Elt Ideal) [zeroDw] = arr 2048 768 .f32 fun _ _ => 0 :=
  funext fun y => (canon_whole _ _ _ y).trans Ideal.ofBits_zero_f32
/-- The store of zeros in `dw2`. -/
theorem zeroDw2_canon : View.canon (Val := Elt Ideal) [zeroDw2] = arr 768 2048 .f32 fun _ _ => 0 :=
  funext fun y => (canon_whole _ _ _ y).trans Ideal.ofBits_zero_f32

/-- Whatever has been stored of what the first point carries on, its product with zero is zero. -/
theorem dwA_at (T : List (View.Piece (Elt Ideal) S256x2048 .bf16)) : ∀ n, n ≤ 8 → ∀ (i : Fin 2048) (j : Fin 768), (View.canon (dwA a p q T n) (ix2 i j) : EReal) = 0
  | 0, _, i, j => congrFun zeroDw_canon (ix2 i j)
  | n + 1, hn, i, j => by
    have ih := dwA_at T n (by omega)
    have hi := i.isLt
    unfold dwA; rw [dif_pos (show n < 8 by omega)]
    by_cases hm : 256 * n ≤ i.val ∧ i.val < 256 * n + 256
    · refine (store_in (256 * n) 0 (inbDw ⟨n, by omega⟩) ⟨i.val - 256 * n, by omega⟩ j i j _ _ (show i.val = 256 * n + (i.val - 256 * n) by omega) (Nat.zero_add _).symm).trans ?_
      refine (addProd_at _ _ _ _ j).trans ?_
      rw [readCov_at (256 * n) 0 (inbDw ⟨n, by omega⟩) a ⟨i.val - 256 * n, by omega⟩ j i j _ (show i.val = 256 * n + (i.val - 256 * n) by omega) (Nat.zero_add _).symm]
      refine (congrArg₂ (fun s t : EReal => s + t) (ih i j) (Finset.sum_eq_zero fun l _ => ?_)).trans (zero_add 0)
      rw [readCov_at 0 0 inb_S256x768_S256x768_0_0 q l j l j _ (Nat.zero_add _).symm (Nat.zero_add _).symm, zero768_canon]
      exact mul_zero _
    · exact (store_out (256 * n) 0 (inbDw ⟨n, by omega⟩) i j _ _ (by omega)).trans (ih i j)
/-- The first point leaves zero in `dw1` (or `dw3`), -/
theorem dwA_canon (T : List (View.Piece (Elt Ideal) S256x2048 .bf16)) (X Y : Mat) : View.canon (dwA a p q T 8) = arr 2048 768 .f32 (rowsProd 0 X Y) :=
  funext fun y => (congrArg (View.canon (dwA a p q T 8)) (eq_ix2 y)).trans (dwA_at a p q T 8 le_rfl (y 0) (y 1))
/-- and in `dw2`. -/
theorem dw2A_canon (X Y : Mat) : View.canon (dw2C (F := Ideal) a2 p q [zeroDw2] [zero2048] [zero768] 4) = arr 768 2048 .f32 (rowsProd 0 X Y) := by
  refine (dw2C_canon a2 p q zeroDw2_canon zero2048_canon zero768_canon).trans (congrArg (arr 768 2048 .f32) (funext fun i => funext fun j => ?_))
  show (0 : EReal) + ∑ l : Fin 256, (0 : EReal) * 0 = 0
  rw [zero_add]; exact Finset.sum_eq_zero fun _ _ => mul_zero _
end

/-! ## The rows of a tile are rows of the whole -/

section
variable {M N : Mat} (f : Num)
/-- The widened column codes of a tile are those of the array. -/
theorem colWide_tile (t : ℕ) (h : ∀ i, i < 256 → M i = N (256 * t + i)) {i : ℕ} (hi : i < 256) : colWide f M i = colWide f N (256 * t + i) := by
  have e : ∀ p : Fin 128, M (128 * (i / 128) + p.val) = N (128 * ((256 * t + i) / 128) + p.val) := fun p => by
    have := p.isLt
    rw [h _ (by omega)]; exact congrArg N (by omega)
  unfold colWide; rw [colCode_tile f t h hi]; unfold colMax; simp only [e]
end

/-- The product over a tile is the product over its rows of the array. -/
theorem rowsProd_tile {X Y X' Y' : Mat} {n : ℕ} (hX : ∀ i, i < 256 → X i = X' (n + i)) (hY : ∀ i, i < 256 → Y i = Y' (n + i)) (i j : ℕ) :
    rowsProd n X' Y' i j + rowsProd 256 X Y i j = rowsProd (n + 256) X' Y' i j := by
  rw [← rowsProd_add]
  refine congrArg (rowsProd n X' Y' i j + ·) (Finset.sum_congr rfl fun l _ => ?_)
  rw [hX l.val l.isLt, hY l.val l.isLt]

end Cert.KernelIdeal.Step

end
-- ==== Proof.KernelValue.lean ====
/- The kernel's run: every output array ends as one array of the step's mathematics on the operands. -/
module

public import proofs.«01_k».proof.Proof.KernelRun
public import proofs.«01_k».proof.Proof.GradTiles

@[expose] public section

set_option maxRecDepth 16384

noncomputable section

namespace Cert.KernelIdeal.Step

open Idealize.ShloMosaic Idealize.ShloMosaic.TcCoe Idealize.ShloMosaic.ValueIdx Idealize.SL.Sem Cert.KernelIdeal.Gen
open Idealize.ShloMosaic.Pipeline (Dat)
open Cert.Spec

variable (m : (ℓ : Loc nD τ sig) → Buf (Elt Ideal) ℓ) (ρ : Dev nD → PrngReg)

/-! ## The operands -/

/-- The operands a device is launched with. -/
abbrev launched (c : Dev nD) : Ops := ⟨of (m := 12288) (n := 2048) (φ := .bf16) (m ((c.tc : Thread nD τ).loc main_arg0)),
  of (m := 12288) (n := 2048) (φ := .bf16) (m ((c.tc : Thread nD τ).loc main_arg1)),
  of (m := 2048) (n := 1536) (φ := .bf16) (m ((c.tc : Thread nD τ).loc main_arg2)),
  of (m := 768) (n := 2048) (φ := .bf16) (m ((c.tc : Thread nD τ).loc main_arg3))⟩
/-- The operands of a point: the point's 256 rows and the weights. -/
abbrev tile (c : Dev nD) (t : Fin cfg0.N) : Ops := ops (iblk m c 0 t) (iblk m c 1 t) (iblk m c 2 t) (iblk m c 3 t)

/-- The windows that move with the point. -/
def moving : List (Fin cfg0.W) := [0, 1, 4, 5, 9, 10, 11, 12, 13, 14, 15, 17, 19, 20, 21, 22, 23, 25, 27]

/-- Such a window's block at a point is the point's, in rows. -/
theorem index_row : ∀ w ∈ moving, ∀ (t : Fin cfg0.N) (a), a.val = 0 → (cfg0.win w).index t a = t.val :=
  (by decide +kernel : ∀ w ∈ moving, ∀ (t : Fin grid0.N) (a), a.val = 0 → (cfg0.win w).index t a = t.val)
/-- It spans the columns. -/
theorem index_col : ∀ w ∈ moving, ∀ (t : Fin cfg0.N) (a), a.val = 1 → (cfg0.win w).index t a = 0 :=
  (by decide +kernel : ∀ w ∈ moving, ∀ (t : Fin grid0.N) (a), a.val = 1 → (cfg0.win w).index t a = 0)
/-- The weights and their gradients are whole at every point. -/
theorem index_whole : ∀ w ∈ ([2, 3, 6, 7, 8] : List (Fin cfg0.W)), ∀ (t : Fin cfg0.N) (a), (cfg0.win w).index t a = 0 :=
  (by decide +kernel : ∀ w ∈ ([2, 3, 6, 7, 8] : List (Fin cfg0.W)), ∀ (t : Fin grid0.N) (a), (cfg0.win w).index t a = 0)

/-- An index at offset zero is the index itself. -/
theorem at_zero {s : Shape} {i j : s.Idx} {k : Fin s.rank → ℕ} (hk : ∀ a, k a = 0) (h : ∀ a, (i a).val = k a * s.size a + 1 * (j a).val) : i = j :=
  funext fun a => Fin.ext ((h a).trans (by rw [hk a]; omega))

/-- Two indices with equal coordinates are equal. -/
theorem idx_ext {n k : ℕ} {i j : (⟨2, ![n, k]⟩ : Shape).Idx} (h0 : (i 0).val = (j 0).val) (h1 : (i 1).val = (j 1).val) : i = j :=
  funext fun a => Fin.ext (match a with | ⟨0, _⟩ => h0 | ⟨1, _⟩ => h1)

/-- The row of an array a row of a block is. -/
theorem row_of {k t a b : ℕ} (hk : k = t) (h : a = k * 256 + 1 * b) : a = 256 * t + b := by subst hk; omega
/-- The column of an array a column of a block is. -/
theorem col_of {k n a b : ℕ} (hk : k = 0) (h : a = k * n + 1 * b) : a = b := by subst hk; omega

/-- There are 48 points. -/
theorem point_lt (t : Fin cfg0.N) : t.val < 48 := lt_of_lt_of_eq t.isLt (show cfg0.N = 48 from N_0)

/-- If a block is the 256 rows of an array from `256 t`, so are their functions of naturals. -/
theorem of_rows {n : ℕ} {φ : FTy} (b : FVec Ideal ⟨2, ![256, n]⟩ φ) (v : FVec Ideal ⟨2, ![12288, n]⟩ φ) (t : ℕ) (ht : t < 48)
    (e : (⟨2, ![256, n]⟩ : Shape).Idx → (⟨2, ![12288, n]⟩ : Shape).Idx) (hb : ∀ j, b j = v (e j))
    (h0 : ∀ j, (e j 0).val = 256 * t + (j 0).val) (h1 : ∀ j, (e j 1).val = (j 1).val) (i : ℕ) (hi : i < 256) : of b i = of v (256 * t + i) := by
  funext j
  by_cases hj : j < n
  · rw [of_eq b i j hi hj, of_eq v (256 * t + i) j (by omega) hj, hb]
    exact congrArg v (idx_ext (h0 _) (h1 _))
  · unfold of; rw [dif_neg fun h => hj h.2, dif_neg fun h => hj h.2]

/-- A point's operands are the 256 rows of the launch's from `256 t`. -/
theorem tileOf (c : Dev nD) (t : Fin cfg0.N) : TileOf (tile m c t) (launched m c) (256 * t.val) where
  x := of_rows (φ := .bf16) (iblk m c 0 t) (m ((c.tc : Thread nD τ).loc main_arg0)) t.val (point_lt t) ((cfg0.win 0).blk t).view.emb
    (fun j => congrFun (V_main_arg0 m c) _)
    (fun j => row_of (index_row 0 (by decide) t ⟨0, by decide⟩ rfl) rfl) (fun j => col_of (index_col 0 (by decide) t ⟨1, by decide⟩ rfl) rfl)
  dy := of_rows (φ := .bf16) (iblk m c 1 t) (m ((c.tc : Thread nD τ).loc main_arg1)) t.val (point_lt t) ((cfg0.win 1).blk t).view.emb
    (fun j => congrFun (V_main_arg1 m c) _)
    (fun j => row_of (index_row 1 (by decide) t ⟨0, by decide⟩ rfl) rfl) (fun j => col_of (index_col 1 (by decide) t ⟨1, by decide⟩ rfl) rfl)
  w13 := congrArg (of (m := 2048) (n := 1536) (φ := .bf16)) ((funext fun j => congrArg (V m c main_arg2)
    (at_zero (s := S2048x1536) (j := j) (index_whole 2 (by decide) t) fun _ => rfl)).trans (V_main_arg2 m c))
  w2 := congrArg (of (m := 768) (n := 2048) (φ := .bf16)) ((funext fun j => congrArg (V m c main_arg3)
    (at_zero (s := S768x2048) (j := j) (index_whole 3 (by decide) t) fun _ => rfl)).trans (V_main_arg3 m c))

/-! ## The output arrays -/

/-- The point that writes an entry. -/
def pointOf {n : ℕ} (i : (⟨2, ![12288, n]⟩ : Shape).Idx) : Fin cfg0.N := ⟨(i 0).val / 256, by
  rw [show cfg0.N = 48 from N_0]; have := (i 0).isLt; change (i 0).val < 12288 at this; omega⟩
/-- Where in its block. -/
def inBlock {n : ℕ} (i : (⟨2, ![12288, n]⟩ : Shape).Idx) : (⟨2, ![256, n]⟩ : Shape).Idx := ix2 ⟨(i 0).val % 256, Nat.mod_lt _ (by decide)⟩ (i 1)

/-- The row of an index is its row in the block of its point. -/
theorem inBlock_row {n k : ℕ} {a : ℕ} (i : (⟨2, ![12288, n]⟩ : Shape).Idx) (hk : k = (pointOf i).val) (h : a = k * 256 + 1 * ((inBlock i) 0).val) : a = (i 0).val := by
  have e : a = (i 0).val / 256 * 256 + 1 * ((i 0).val % 256) := h.trans (by rw [hk]; rfl)
  omega

/-- A block that holds the rows of an array agrees with it at every entry. -/
theorem arr_rows {n : ℕ} {φ : FTy} {M N : Mat} {t : ℕ} (h : ∀ i, i < 256 → M i = N (256 * t + i)) {j : (⟨2, ![256, n]⟩ : Shape).Idx}
    {i : (⟨2, ![12288, n]⟩ : Shape).Idx} (h0 : (i 0).val = 256 * t + (j 0).val) (h1 : (i 1).val = (j 1).val) : arr 256 n φ M j = arr 12288 n φ N i := by
  unfold arr; rw [h0, h1, h _ (show (j 0).val < 256 from (j 0).isLt)]

/-- What a point leaves in `y`. -/
theorem left_y (c : Dev nD) (t : Fin cfg0.N) : (dats m 0 c).after 4 t = arr 256 2048 .bf16 (tile m c t).y :=
  (after_y m c t).trans (yL_canon (ms0_0 t) (hs0_0 t) (ms0_2 t) (hs0_2 t) (ms0_3 t) (hs0_3 t) scM0_0 scM0_4 scM0_9 (iblk m c 0 t) (iblk m c 1 t) (iblk m c 2 t) (iblk m c 3 t))
/-- The array `y` of the run. -/
theorem final_y (c : Dev nD) : (dats m 0 c).arrAt 4 cfg0.N = arr 12288 2048 .bf16 (launched m c).y :=
  (dats m 0 c).arrAt_eq_of_cover 4 (arr 12288 2048 .bf16 (launched m c).y)
    (fun t _ => (congrArg ((cfg0.win 4).cut (grid0.coords t)) (left_y m c t)).trans (funext fun j => arr_rows (n := 2048) (φ := .bf16) (fun i hi => (tileOf m c t).y hi)
      (row_of (index_row 4 (by decide) t ⟨0, by decide⟩ rfl) rfl) (col_of (index_col 4 (by decide) t ⟨1, by decide⟩ rfl) rfl)))
    fun i => ⟨pointOf (n := 2048) i, flush0_4 _, by
      have h := ((cfg0.win 4).blk (pointOf (n := 2048) i)).view.emb_mem_set (inBlock (n := 2048) i)
      rwa [show ((cfg0.win 4).blk (pointOf (n := 2048) i)).view.emb (inBlock (n := 2048) i) = i from
        idx_ext (n := 12288) (k := 2048) (inBlock_row (n := 2048) i (index_row 4 (by decide) _ ⟨0, by decide⟩ rfl) rfl) (col_of (index_col 4 (by decide) _ ⟨1, by decide⟩ rfl) rfl)] at h⟩
/-- What a point leaves in `dx`. -/
theorem left_dx (c : Dev nD) (t : Fin cfg0.N) : (dats m 0 c).after 5 t = arr 256 2048 .bf16 (tile m c t).dx :=
  (after_dx m c t).trans (dxL_canon (ms0_0 t) (hs0_0 t) (ms0_1 t) (hs0_1 t) (ms0_2 t) (hs0_2 t) (ms0_3 t) (hs0_3 t) scM0_0 scM0_1 scM0_5 scM0_9 scM0_10 (iblk m c 0 t) (iblk m c 1 t) (iblk m c 2 t) (iblk m c 3 t))
/-- The array `dx` of the run. -/
theorem final_dx (c : Dev nD) : (dats m 0 c).arrAt 5 cfg0.N = arr 12288 2048 .bf16 (launched m c).dx :=
  (dats m 0 c).arrAt_eq_of_cover 5 (arr 12288 2048 .bf16 (launched m c).dx)
    (fun t _ => (congrArg ((cfg0.win 5).cut (grid0.coords t)) (left_dx m c t)).trans (funext fun j => arr_rows (n := 2048) (φ := .bf16) (fun i hi => (tileOf m c t).dx hi)
      (row_of (index_row 5 (by decide) t ⟨0, by decide⟩ rfl) rfl) (col_of (index_col 5 (by decide) t ⟨1, by decide⟩ rfl) rfl)))
    fun i => ⟨pointOf (n := 2048) i, flush0_5 _, by
      have h := ((cfg0.win 5).blk (pointOf (n := 2048) i)).view.emb_mem_set (inBlock (n := 2048) i)
      rwa [show ((cfg0.win 5).blk (pointOf (n := 2048) i)).view.emb (inBlock (n := 2048) i) = i from
        idx_ext (n := 12288) (k := 2048) (inBlock_row (n := 2048) i (index_row 5 (by decide) _ ⟨0, by decide⟩ rfl) rfl) (col_of (index_col 5 (by decide) _ ⟨1, by decide⟩ rfl) rfl)] at h⟩
/-- What a point leaves in `xq`. -/
theorem left_xq (c : Dev nD) (t : Fin cfg0.N) : (dats m 0 c).after 9 t = arr 256 2048 .fp8e4m3 (rowCode n4 (tile m c t).x) :=
  (after_xq m c t).trans (xq_canon (ms0_0 t) (hs0_0 t) (iblk m c 0 t) (iblk m c 1 t) (iblk m c 2 t) (iblk m c 3 t))
/-- The array `xq` of the run. -/
theorem final_xq (c : Dev nD) : (dats m 0 c).arrAt 9 cfg0.N = arr 12288 2048 .fp8e4m3 (rowCode n4 (launched m c).x) :=
  (dats m 0 c).arrAt_eq_of_cover 9 (arr 12288 2048 .fp8e4m3 (rowCode n4 (launched m c).x))
    (fun t _ => (congrArg ((cfg0.win 9).cut (grid0.coords t)) (left_xq m c t)).trans (funext fun j => arr_rows (n := 2048) (φ := .fp8e4m3) (fun i hi => rowCode_tile n4 (fun i hi => (tileOf m c t).x i hi) hi)
      (row_of (index_row 9 (by decide) t ⟨0, by decide⟩ rfl) rfl) (col_of (index_col 9 (by decide) t ⟨1, by decide⟩ rfl) rfl)))
    fun i => ⟨pointOf (n := 2048) i, flush0_9 _, by
      have h := ((cfg0.win 9).blk (pointOf (n := 2048) i)).view.emb_mem_set (inBlock (n := 2048) i)
      rwa [show ((cfg0.win 9).blk (pointOf (n := 2048) i)).view.emb (inBlock (n := 2048) i) = i from
        idx_ext (n := 12288) (k := 2048) (inBlock_row (n := 2048) i (index_row 9 (by decide) _ ⟨0, by decide⟩ rfl) rfl) (col_of (index_col 9 (by decide) _ ⟨1, by decide⟩ rfl) rfl)] at h⟩
/-- What a point leaves in `xs`. -/
theorem left_xs (c : Dev nD) (t : Fin cfg0.N) : (dats m 0 c).after 10 t = arr 256 16 .f32 (rowScale n4 (tile m c t).x) :=
  (after_xs m c t).trans (xs_canon (ms0_0 t) (hs0_0 t) (iblk m c 0 t) (iblk m c 1 t) (iblk m c 2 t) (iblk m c 3 t))
/-- The array `xs` of the run. -/
theorem final_xs (c : Dev nD) : (dats m 0 c).arrAt 10 cfg0.N = arr 12288 16 .f32 (rowScale n4 (launched m c).x) :=
  (dats m 0 c).arrAt_eq_of_cover 10 (arr 12288 16 .f32 (rowScale n4 (launched m c).x))
    (fun t _ => (congrArg ((cfg0.win 10).cut (grid0.coords t)) (left_xs m c t)).trans (funext fun j => arr_rows (n := 16) (φ := .f32) (fun i hi => rowScale_tile n4 (fun i hi => (tileOf m c t).x i hi) hi)
      (row_of (index_row 10 (by decide) t ⟨0, by decide⟩ rfl) rfl) (col_of (index_col 10 (by decide) t ⟨1, by decide⟩ rfl) rfl)))
    fun i => ⟨pointOf (n := 16) i, flush0_10 _, by
      have h := ((cfg0.win 10).blk (pointOf (n := 16) i)).view.emb_mem_set (inBlock (n := 16) i)
      rwa [show ((cfg0.win 10).blk (pointOf (n := 16) i)).view.emb (inBlock (n := 16) i) = i from
        idx_ext (n := 12288) (k := 16) (inBlock_row (n := 16) i (index_row 10 (by decide) _ ⟨0, by decide⟩ rfl) rfl) (col_of (index_col 10 (by decide) _ ⟨1, by decide⟩ rfl) rfl)] at h⟩
/-- What a point leaves in `hq`. -/
theorem left_hq (c : Dev nD) (t : Fin cfg0.N) : (dats m 0 c).after 11 t = arr 256 768 .fp8e4m3 (rowCode n4 (tile m c t).h) :=
  (after_hq m c t).trans (hq_canon (ms0_0 t) (hs0_0 t) (ms0_2 t) (hs0_2 t) scM0_0 scM0_9 (iblk m c 0 t) (iblk m c 1 t) (iblk m c 2 t) (iblk m c 3 t))
/-- The array `hq` of the run. -/
theorem final_hq (c : Dev nD) : (dats m 0 c).arrAt 11 cfg0.N = arr 12288 768 .fp8e4m3 (rowCode n4 (launched m c).h) :=
  (dats m 0 c).arrAt_eq_of_cover 11 (arr 12288 768 .fp8e4m3 (rowCode n4 (launched m c).h))
    (fun t _ => (congrArg ((cfg0.win 11).cut (grid0.coords t)) (left_hq m c t)).trans (funext fun j => arr_rows (n := 768) (φ := .fp8e4m3) (fun i hi => rowCode_tile n4 (fun i hi => (tileOf m c t).h hi) hi)
      (row_of (index_row 11 (by decide) t ⟨0, by decide⟩ rfl) rfl) (col_of (index_col 11 (by decide) t ⟨1, by decide⟩ rfl) rfl)))
    fun i => ⟨pointOf (n := 768) i, flush0_11 _, by
      have h := ((cfg0.win 11).blk (pointOf (n := 768) i)).view.emb_mem_set (inBlock (n := 768) i)
      rwa [show ((cfg0.win 11).blk (pointOf (n := 768) i)).view.emb (inBlock (n := 768) i) = i from
        idx_ext (n := 12288) (k := 768) (inBlock_row (n := 768) i (index_row 11 (by decide) _ ⟨0, by decide⟩ rfl) rfl) (col_of (index_col 11 (by decide) _ ⟨1, by decide⟩ rfl) rfl)] at h⟩
/-- What a point leaves in `hs`. -/
theorem left_hs (c : Dev nD) (t : Fin cfg0.N) : (dats m 0 c).after 12 t = arr 256 6 .f32 (rowScale n4 (tile m c t).h) :=
  (after_hs m c t).trans (hs_canon (ms0_0 t) (hs0_0 t) (ms0_2 t) (hs0_2 t) scM0_0 scM0_9 (iblk m c 0 t) (iblk m c 1 t) (iblk m c 2 t) (iblk m c 3 t))
/-- The array `hs` of the run. -/
theorem final_hs (c : Dev nD) : (dats m 0 c).arrAt 12 cfg0.N = arr 12288 6 .f32 (rowScale n4 (launched m c).h) :=
  (dats m 0 c).arrAt_eq_of_cover 12 (arr 12288 6 .f32 (rowScale n4 (launched m c).h))
    (fun t _ => (congrArg ((cfg0.win 12).cut (grid0.coords t)) (left_hs m c t)).trans (funext fun j => arr_rows (n := 6) (φ := .f32) (fun i hi => rowScale_tile n4 (fun i hi => (tileOf m c t).h hi) hi)
      (row_of (index_row 12 (by decide) t ⟨0, by decide⟩ rfl) rfl) (col_of (index_col 12 (by decide) t ⟨1, by decide⟩ rfl) rfl)))
    fun i => ⟨pointOf (n := 6) i, flush0_12 _, by
      have h := ((cfg0.win 12).blk (pointOf (n := 6) i)).view.emb_mem_set (inBlock (n := 6) i)
      rwa [show ((cfg0.win 12).blk (pointOf (n := 6) i)).view.emb (inBlock (n := 6) i) = i from
        idx_ext (n := 12288) (k := 6) (inBlock_row (n := 6) i (index_row 12 (by decide) _ ⟨0, by decide⟩ rfl) rfl) (col_of (index_col 12 (by decide) _ ⟨1, by decide⟩ rfl) rfl)] at h⟩
/-- What a point leaves in `dyq`. -/
theorem left_dyq (c : Dev nD) (t : Fin cfg0.N) : (dats m 0 c).after 13 t = arr 256 2048 .fp8e5m2 (rowCode n5 (tile m c t).dy) :=
  (after_dyq m c t).trans (dyq_canon (ms0_1 t) (hs0_1 t) (iblk m c 0 t) (iblk m c 1 t) (iblk m c 2 t) (iblk m c 3 t))
/-- The array `dyq` of the run. -/
theorem final_dyq (c : Dev nD) : (dats m 0 c).arrAt 13 cfg0.N = arr 12288 2048 .fp8e5m2 (rowCode n5 (launched m c).dy) :=
  (dats m 0 c).arrAt_eq_of_cover 13 (arr 12288 2048 .fp8e5m2 (rowCode n5 (launched m c).dy))
    (fun t _ => (congrArg ((cfg0.win 13).cut (grid0.coords t)) (left_dyq m c t)).trans (funext fun j => arr_rows (n := 2048) (φ := .fp8e5m2) (fun i hi => rowCode_tile n5 (fun i hi => (tileOf m c t).dy i hi) hi)
      (row_of (index_row 13 (by decide) t ⟨0, by decide⟩ rfl) rfl) (col_of (index_col 13 (by decide) t ⟨1, by decide⟩ rfl) rfl)))
    fun i => ⟨pointOf (n := 2048) i, flush0_13 _, by
      have h := ((cfg0.win 13).blk (pointOf (n := 2048) i)).view.emb_mem_set (inBlock (n := 2048) i)
      rwa [show ((cfg0.win 13).blk (pointOf (n := 2048) i)).view.emb (inBlock (n := 2048) i) = i from
        idx_ext (n := 12288) (k := 2048) (inBlock_row (n := 2048) i (index_row 13 (by decide) _ ⟨0, by decide⟩ rfl) rfl) (col_of (index_col 13 (by decide) _ ⟨1, by decide⟩ rfl) rfl)] at h⟩
/-- What a point leaves in `dys`. -/
theorem left_dys (c : Dev nD) (t : Fin cfg0.N) : (dats m 0 c).after 14 t = arr 256 16 .f32 (rowScale n5 (tile m c t).dy) :=
  (after_dys m c t).trans (dys_canon (ms0_1 t) (hs0_1 t) (iblk m c 0 t) (iblk m c 1 t) (iblk m c 2 t) (iblk m c 3 t))
/-- The array `dys` of the run. -/
theorem final_dys (c : Dev nD) : (dats m 0 c).arrAt 14 cfg0.N = arr 12288 16 .f32 (rowScale n5 (launched m c).dy) :=
  (dats m 0 c).arrAt_eq_of_cover 14 (arr 12288 16 .f32 (rowScale n5 (launched m c).dy))
    (fun t _ => (congrArg ((cfg0.win 14).cut (grid0.coords t)) (left_dys m c t)).trans (funext fun j => arr_rows (n := 16) (φ := .f32) (fun i hi => rowScale_tile n5 (fun i hi => (tileOf m c t).dy i hi) hi)
      (row_of (index_row 14 (by decide) t ⟨0, by decide⟩ rfl) rfl) (col_of (index_col 14 (by decide) t ⟨1, by decide⟩ rfl) rfl)))
    fun i => ⟨pointOf (n := 16) i, flush0_14 _, by
      have h := ((cfg0.win 14).blk (pointOf (n := 16) i)).view.emb_mem_set (inBlock (n := 16) i)
      rwa [show ((cfg0.win 14).blk (pointOf (n := 16) i)).view.emb (inBlock (n := 16) i) = i from
        idx_ext (n := 12288) (k := 16) (inBlock_row (n := 16) i (index_row 14 (by decide) _ ⟨0, by decide⟩ rfl) rfl) (col_of (index_col 14 (by decide) _ ⟨1, by decide⟩ rfl) rfl)] at h⟩
/-- What a point leaves in `dycq`. -/
theorem left_dycq (c : Dev nD) (t : Fin cfg0.N) : (dats m 0 c).after 15 t = arr 256 2048 .fp8e5m2 (colCode n5 (tile m c t).dy) :=
  (after_dycq m c t).trans (dycq_canon (ms0_1 t) (hs0_1 t) (iblk m c 0 t) (iblk m c 1 t) (iblk m c 2 t) (iblk m c 3 t))
/-- The array `dycq` of the run. -/
theorem final_dycq (c : Dev nD) : (dats m 0 c).arrAt 15 cfg0.N = arr 12288 2048 .fp8e5m2 (colCode n5 (launched m c).dy) :=
  (dats m 0 c).arrAt_eq_of_cover 15 (arr 12288 2048 .fp8e5m2 (colCode n5 (launched m c).dy))
    (fun t _ => (congrArg ((cfg0.win 15).cut (grid0.coords t)) (left_dycq m c t)).trans (funext fun j => arr_rows (n := 2048) (φ := .fp8e5m2) (fun i hi => colCode_tile n5 t.val (fun i hi => (tileOf m c t).dy i hi) hi)
      (row_of (index_row 15 (by decide) t ⟨0, by decide⟩ rfl) rfl) (col_of (index_col 15 (by decide) t ⟨1, by decide⟩ rfl) rfl)))
    fun i => ⟨pointOf (n := 2048) i, flush0_15 _, by
      have h := ((cfg0.win 15).blk (pointOf (n := 2048) i)).view.emb_mem_set (inBlock (n := 2048) i)
      rwa [show ((cfg0.win 15).blk (pointOf (n := 2048) i)).view.emb (inBlock (n := 2048) i) = i from
        idx_ext (n := 12288) (k := 2048) (inBlock_row (n := 2048) i (index_row 15 (by decide) _ ⟨0, by decide⟩ rfl) rfl) (col_of (index_col 15 (by decide) _ ⟨1, by decide⟩ rfl) rfl)] at h⟩
/-- What a point leaves in `hcq`. -/
theorem left_hcq (c : Dev nD) (t : Fin cfg0.N) : (dats m 0 c).after 17 t = arr 256 768 .fp8e4m3 (colCode n4 (tile m c t).hw) :=
  (after_hcq m c t).trans (hcq_canon (ms0_0 t) (hs0_0 t) (ms0_2 t) (hs0_2 t) scM0_0 scM0_9 (iblk m c 0 t) (iblk m c 1 t) (iblk m c 2 t) (iblk m c 3 t))
/-- The array `hcq` of the run. -/
theorem final_hcq (c : Dev nD) : (dats m 0 c).arrAt 17 cfg0.N = arr 12288 768 .fp8e4m3 (colCode n4 (launched m c).hw) :=
  (dats m 0 c).arrAt_eq_of_cover 17 (arr 12288 768 .fp8e4m3 (colCode n4 (launched m c).hw))
    (fun t _ => (congrArg ((cfg0.win 17).cut (grid0.coords t)) (left_hcq m c t)).trans (funext fun j => arr_rows (n := 768) (φ := .fp8e4m3) (fun i hi => colCode_tile n4 t.val (fun i hi => (tileOf m c t).hw hi) hi)
      (row_of (index_row 17 (by decide) t ⟨0, by decide⟩ rfl) rfl) (col_of (index_col 17 (by decide) t ⟨1, by decide⟩ rfl) rfl)))
    fun i => ⟨pointOf (n := 768) i, flush0_17 _, by
      have h := ((cfg0.win 17).blk (pointOf (n := 768) i)).view.emb_mem_set (inBlock (n := 768) i)
      rwa [show ((cfg0.win 17).blk (pointOf (n := 768) i)).view.emb (inBlock (n := 768) i) = i from
        idx_ext (n := 12288) (k := 768) (inBlock_row (n := 768) i (index_row 17 (by decide) _ ⟨0, by decide⟩ rfl) rfl) (col_of (index_col 17 (by decide) _ ⟨1, by decide⟩ rfl) rfl)] at h⟩
/-- What a point leaves in `daq`. -/
theorem left_daq (c : Dev nD) (t : Fin cfg0.N) : (dats m 0 c).after 19 t = arr 256 768 .fp8e5m2 (rowCode n5 (tile m c t).da) :=
  (after_daq m c t).trans (daq_canon (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t))
/-- The array `daq` of the run. -/
theorem final_daq (c : Dev nD) : (dats m 0 c).arrAt 19 cfg0.N = arr 12288 768 .fp8e5m2 (rowCode n5 (launched m c).da) :=
  (dats m 0 c).arrAt_eq_of_cover 19 (arr 12288 768 .fp8e5m2 (rowCode n5 (launched m c).da))
    (fun t _ => (congrArg ((cfg0.win 19).cut (grid0.coords t)) (left_daq m c t)).trans (funext fun j => arr_rows (n := 768) (φ := .fp8e5m2) (fun i hi => rowCode_tile n5 (fun i hi => (tileOf m c t).da hi) hi)
      (row_of (index_row 19 (by decide) t ⟨0, by decide⟩ rfl) rfl) (col_of (index_col 19 (by decide) t ⟨1, by decide⟩ rfl) rfl)))
    fun i => ⟨pointOf (n := 768) i, flush0_19 _, by
      have h := ((cfg0.win 19).blk (pointOf (n := 768) i)).view.emb_mem_set (inBlock (n := 768) i)
      rwa [show ((cfg0.win 19).blk (pointOf (n := 768) i)).view.emb (inBlock (n := 768) i) = i from
        idx_ext (n := 12288) (k := 768) (inBlock_row (n := 768) i (index_row 19 (by decide) _ ⟨0, by decide⟩ rfl) rfl) (col_of (index_col 19 (by decide) _ ⟨1, by decide⟩ rfl) rfl)] at h⟩
/-- What a point leaves in `das`. -/
theorem left_das (c : Dev nD) (t : Fin cfg0.N) : (dats m 0 c).after 20 t = arr 256 6 .f32 (rowScale n5 (tile m c t).da) :=
  (after_das m c t).trans (das_canon (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t))
/-- The array `das` of the run. -/
theorem final_das (c : Dev nD) : (dats m 0 c).arrAt 20 cfg0.N = arr 12288 6 .f32 (rowScale n5 (launched m c).da) :=
  (dats m 0 c).arrAt_eq_of_cover 20 (arr 12288 6 .f32 (rowScale n5 (launched m c).da))
    (fun t _ => (congrArg ((cfg0.win 20).cut (grid0.coords t)) (left_das m c t)).trans (funext fun j => arr_rows (n := 6) (φ := .f32) (fun i hi => rowScale_tile n5 (fun i hi => (tileOf m c t).da hi) hi)
      (row_of (index_row 20 (by decide) t ⟨0, by decide⟩ rfl) rfl) (col_of (index_col 20 (by decide) t ⟨1, by decide⟩ rfl) rfl)))
    fun i => ⟨pointOf (n := 6) i, flush0_20 _, by
      have h := ((cfg0.win 20).blk (pointOf (n := 6) i)).view.emb_mem_set (inBlock (n := 6) i)
      rwa [show ((cfg0.win 20).blk (pointOf (n := 6) i)).view.emb (inBlock (n := 6) i) = i from
        idx_ext (n := 12288) (k := 6) (inBlock_row (n := 6) i (index_row 20 (by decide) _ ⟨0, by decide⟩ rfl) rfl) (col_of (index_col 20 (by decide) _ ⟨1, by decide⟩ rfl) rfl)] at h⟩
/-- What a point leaves in `dbq`. -/
theorem left_dbq (c : Dev nD) (t : Fin cfg0.N) : (dats m 0 c).after 21 t = arr 256 768 .fp8e5m2 (rowCode n5 (tile m c t).db) :=
  (after_dbq m c t).trans (dbq_canon (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t))
/-- The array `dbq` of the run. -/
theorem final_dbq (c : Dev nD) : (dats m 0 c).arrAt 21 cfg0.N = arr 12288 768 .fp8e5m2 (rowCode n5 (launched m c).db) :=
  (dats m 0 c).arrAt_eq_of_cover 21 (arr 12288 768 .fp8e5m2 (rowCode n5 (launched m c).db))
    (fun t _ => (congrArg ((cfg0.win 21).cut (grid0.coords t)) (left_dbq m c t)).trans (funext fun j => arr_rows (n := 768) (φ := .fp8e5m2) (fun i hi => rowCode_tile n5 (fun i hi => (tileOf m c t).db hi) hi)
      (row_of (index_row 21 (by decide) t ⟨0, by decide⟩ rfl) rfl) (col_of (index_col 21 (by decide) t ⟨1, by decide⟩ rfl) rfl)))
    fun i => ⟨pointOf (n := 768) i, flush0_21 _, by
      have h := ((cfg0.win 21).blk (pointOf (n := 768) i)).view.emb_mem_set (inBlock (n := 768) i)
      rwa [show ((cfg0.win 21).blk (pointOf (n := 768) i)).view.emb (inBlock (n := 768) i) = i from
        idx_ext (n := 12288) (k := 768) (inBlock_row (n := 768) i (index_row 21 (by decide) _ ⟨0, by decide⟩ rfl) rfl) (col_of (index_col 21 (by decide) _ ⟨1, by decide⟩ rfl) rfl)] at h⟩
/-- What a point leaves in `dbs`. -/
theorem left_dbs (c : Dev nD) (t : Fin cfg0.N) : (dats m 0 c).after 22 t = arr 256 6 .f32 (rowScale n5 (tile m c t).db) :=
  (after_dbs m c t).trans (dbs_canon (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t))
/-- The array `dbs` of the run. -/
theorem final_dbs (c : Dev nD) : (dats m 0 c).arrAt 22 cfg0.N = arr 12288 6 .f32 (rowScale n5 (launched m c).db) :=
  (dats m 0 c).arrAt_eq_of_cover 22 (arr 12288 6 .f32 (rowScale n5 (launched m c).db))
    (fun t _ => (congrArg ((cfg0.win 22).cut (grid0.coords t)) (left_dbs m c t)).trans (funext fun j => arr_rows (n := 6) (φ := .f32) (fun i hi => rowScale_tile n5 (fun i hi => (tileOf m c t).db hi) hi)
      (row_of (index_row 22 (by decide) t ⟨0, by decide⟩ rfl) rfl) (col_of (index_col 22 (by decide) t ⟨1, by decide⟩ rfl) rfl)))
    fun i => ⟨pointOf (n := 6) i, flush0_22 _, by
      have h := ((cfg0.win 22).blk (pointOf (n := 6) i)).view.emb_mem_set (inBlock (n := 6) i)
      rwa [show ((cfg0.win 22).blk (pointOf (n := 6) i)).view.emb (inBlock (n := 6) i) = i from
        idx_ext (n := 12288) (k := 6) (inBlock_row (n := 6) i (index_row 22 (by decide) _ ⟨0, by decide⟩ rfl) rfl) (col_of (index_col 22 (by decide) _ ⟨1, by decide⟩ rfl) rfl)] at h⟩
/-- What a point leaves in `xcq`. -/
theorem left_xcq (c : Dev nD) (t : Fin cfg0.N) : (dats m 0 c).after 23 t = arr 256 2048 .fp8e4m3 (colCode n4 (tile m c t).xw) :=
  (after_xcq m c t).trans (xcq_canon (ms0_0 t) (hs0_0 t) (iblk m c 0 t) (iblk m c 1 t) (iblk m c 2 t) (iblk m c 3 t))
/-- The array `xcq` of the run. -/
theorem final_xcq (c : Dev nD) : (dats m 0 c).arrAt 23 cfg0.N = arr 12288 2048 .fp8e4m3 (colCode n4 (launched m c).xw) :=
  (dats m 0 c).arrAt_eq_of_cover 23 (arr 12288 2048 .fp8e4m3 (colCode n4 (launched m c).xw))
    (fun t _ => (congrArg ((cfg0.win 23).cut (grid0.coords t)) (left_xcq m c t)).trans (funext fun j => arr_rows (n := 2048) (φ := .fp8e4m3) (fun i hi => colCode_tile n4 t.val (fun i hi => (tileOf m c t).xw hi) hi)
      (row_of (index_row 23 (by decide) t ⟨0, by decide⟩ rfl) rfl) (col_of (index_col 23 (by decide) t ⟨1, by decide⟩ rfl) rfl)))
    fun i => ⟨pointOf (n := 2048) i, flush0_23 _, by
      have h := ((cfg0.win 23).blk (pointOf (n := 2048) i)).view.emb_mem_set (inBlock (n := 2048) i)
      rwa [show ((cfg0.win 23).blk (pointOf (n := 2048) i)).view.emb (inBlock (n := 2048) i) = i from
        idx_ext (n := 12288) (k := 2048) (inBlock_row (n := 2048) i (index_row 23 (by decide) _ ⟨0, by decide⟩ rfl) rfl) (col_of (index_col 23 (by decide) _ ⟨1, by decide⟩ rfl) rfl)] at h⟩
/-- What a point leaves in `dacq`. -/
theorem left_dacq (c : Dev nD) (t : Fin cfg0.N) : (dats m 0 c).after 25 t = arr 256 768 .fp8e5m2 (colCode n5 (tile m c t).da) :=
  (after_dacq m c t).trans (dacq_canon (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t))
/-- The array `dacq` of the run. -/
theorem final_dacq (c : Dev nD) : (dats m 0 c).arrAt 25 cfg0.N = arr 12288 768 .fp8e5m2 (colCode n5 (launched m c).da) :=
  (dats m 0 c).arrAt_eq_of_cover 25 (arr 12288 768 .fp8e5m2 (colCode n5 (launched m c).da))
    (fun t _ => (congrArg ((cfg0.win 25).cut (grid0.coords t)) (left_dacq m c t)).trans (funext fun j => arr_rows (n := 768) (φ := .fp8e5m2) (fun i hi => colCode_tile n5 t.val (fun i hi => (tileOf m c t).da hi) hi)
      (row_of (index_row 25 (by decide) t ⟨0, by decide⟩ rfl) rfl) (col_of (index_col 25 (by decide) t ⟨1, by decide⟩ rfl) rfl)))
    fun i => ⟨pointOf (n := 768) i, flush0_25 _, by
      have h := ((cfg0.win 25).blk (pointOf (n := 768) i)).view.emb_mem_set (inBlock (n := 768) i)
      rwa [show ((cfg0.win 25).blk (pointOf (n := 768) i)).view.emb (inBlock (n := 768) i) = i from
        idx_ext (n := 12288) (k := 768) (inBlock_row (n := 768) i (index_row 25 (by decide) _ ⟨0, by decide⟩ rfl) rfl) (col_of (index_col 25 (by decide) _ ⟨1, by decide⟩ rfl) rfl)] at h⟩
/-- What a point leaves in `dbcq`. -/
theorem left_dbcq (c : Dev nD) (t : Fin cfg0.N) : (dats m 0 c).after 27 t = arr 256 768 .fp8e5m2 (colCode n5 (tile m c t).db) :=
  (after_dbcq m c t).trans (dbcq_canon (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t))
/-- The array `dbcq` of the run. -/
theorem final_dbcq (c : Dev nD) : (dats m 0 c).arrAt 27 cfg0.N = arr 12288 768 .fp8e5m2 (colCode n5 (launched m c).db) :=
  (dats m 0 c).arrAt_eq_of_cover 27 (arr 12288 768 .fp8e5m2 (colCode n5 (launched m c).db))
    (fun t _ => (congrArg ((cfg0.win 27).cut (grid0.coords t)) (left_dbcq m c t)).trans (funext fun j => arr_rows (n := 768) (φ := .fp8e5m2) (fun i hi => colCode_tile n5 t.val (fun i hi => (tileOf m c t).db hi) hi)
      (row_of (index_row 27 (by decide) t ⟨0, by decide⟩ rfl) rfl) (col_of (index_col 27 (by decide) t ⟨1, by decide⟩ rfl) rfl)))
    fun i => ⟨pointOf (n := 768) i, flush0_27 _, by
      have h := ((cfg0.win 27).blk (pointOf (n := 768) i)).view.emb_mem_set (inBlock (n := 768) i)
      rwa [show ((cfg0.win 27).blk (pointOf (n := 768) i)).view.emb (inBlock (n := 768) i) = i from
        idx_ext (n := 12288) (k := 768) (inBlock_row (n := 768) i (index_row 27 (by decide) _ ⟨0, by decide⟩ rfl) rfl) (col_of (index_col 27 (by decide) _ ⟨1, by decide⟩ rfl) rfl)] at h⟩

/-! ## The weight gradients -/

/-- Adding the product over a tile to that over the rows before it. -/
theorem adds {X Y X' Y' : Mat} {k n : ℕ} (hn : 256 * (k + 1) = n) (hX : ∀ i, i < 256 → X i = X' (256 * k + i)) (hY : ∀ i, i < 256 → Y i = Y' (256 * k + i)) :
    (fun i j => rowsProd (256 * k) X' Y' i j + rowsProd 256 X Y i j) = rowsProd n X' Y' := by
  subst hn; exact funext fun i => funext fun j => rowsProd_tile hX hY i j

/-- The last point. -/
def lastPoint : Fin cfg0.N := ⟨47, (show 47 < cfg0.N from lt_of_lt_of_eq (by decide) (show cfg0.N = 48 from N_0).symm)⟩
/-- The entry of a whole block an entry of the array is. -/
def allOf {s : Shape} (i : s.Idx) : s.Idx := i

/-- The rows of which the gradients hold the product after point `k`: those before the point's own, or all after the last. -/
def rowsIn (k : ℕ) : ℕ := 256 * if k = 47 then 48 else k
/-- After the last point all rows are in the sum. -/
theorem rowsIn_last {k : ℕ} (h : k = 47) : rowsIn k = 256 * 48 := by unfold rowsIn; rw [if_pos h]
/-- After an earlier point the rows of the earlier tiles are in the sum. -/
theorem rowsIn_lt {k : ℕ} (h : k ≠ 47) : rowsIn k = 256 * k := by unfold rowsIn; rw [if_neg h]

section
variable (c : Dev nD) (t : Fin cfg0.N)
/-- What a point carries: the wide column-quantised values of its rows, -/
theorem held_xcw : at_xcw m c t = arr 256 2048 .bf16 (tile m c t).xcw := xcw_canon (ms0_0 t) (hs0_0 t) (iblk m c 0 t) (iblk m c 1 t) (iblk m c 2 t) (iblk m c 3 t)
@[inherit_doc held_xcw]
theorem held_dycw : at_dycw m c t = arr 256 2048 .bf16 (tile m c t).dycw := dycw_canon (ms0_1 t) (hs0_1 t) (iblk m c 0 t) (iblk m c 1 t) (iblk m c 2 t) (iblk m c 3 t)
@[inherit_doc held_xcw]
theorem held_hcw : at_hcw m c t = arr 256 768 .bf16 (tile m c t).hcw :=
  hcw_canon (ms0_0 t) (hs0_0 t) (ms0_2 t) (hs0_2 t) scM0_0 scM0_9 (iblk m c 0 t) (iblk m c 1 t) (iblk m c 2 t) (iblk m c 3 t)
@[inherit_doc held_xcw]
theorem held_dacw : at_dacw m c t = arr 256 768 .bf16 (tile m c t).dacw :=
  dacw_canon (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t)
@[inherit_doc held_xcw]
theorem held_dbcw : at_dbcw m c t = arr 256 768 .bf16 (tile m c t).dbcw :=
  dbcw_canon (ms0_0 t) (hs0_0 t) (ms0_1 t) (hs0_1 t) (ms0_2 t) (hs0_2 t) (ms0_3 t) (hs0_3 t) scM0_0 scM0_1 scM0_9 scM0_10 (iblk m c 0 t) (iblk m c 1 t) (iblk m c 2 t) (iblk m c 3 t)
/-- and these are those of the launch's rows. -/
theorem rows_xcw : ∀ i, i < 256 → (tile m c t).xcw i = (launched m c).xcw (256 * t.val + i) := fun _ hi => colWide_tile n4 t.val (fun _ hi => (tileOf m c t).xw hi) hi
@[inherit_doc rows_xcw]
theorem rows_dycw : ∀ i, i < 256 → (tile m c t).dycw i = (launched m c).dycw (256 * t.val + i) := fun _ hi => colWide_tile n5 t.val (fun i hi => (tileOf m c t).dy i hi) hi
@[inherit_doc rows_xcw]
theorem rows_hcw : ∀ i, i < 256 → (tile m c t).hcw i = (launched m c).hcw (256 * t.val + i) := fun _ hi => colWide_tile n4 t.val (fun _ hi => (tileOf m c t).hw hi) hi
@[inherit_doc rows_xcw]
theorem rows_dacw : ∀ i, i < 256 → (tile m c t).dacw i = (launched m c).dacw (256 * t.val + i) := fun _ hi => colWide_tile n5 t.val (fun _ hi => (tileOf m c t).da hi) hi
@[inherit_doc rows_xcw]
theorem rows_dbcw : ∀ i, i < 256 → (tile m c t).dbcw i = (launched m c).dbcw (256 * t.val + i) := fun _ hi => colWide_tile n5 t.val (fun _ hi => (tileOf m c t).db hi) hi
end

/-- A point adds to `dw1` the product over the rows of the point before; the last adds its own too. -/
theorem next_dw1_is (c : Dev nD) (t u : Fin cfg0.N) (hu : t.val = u.val + 1) {W : FVec Ideal S2048x768 .f32}
    (hW : W = arr 2048 768 .f32 (rowsProd (256 * u.val) (launched m c).xcw (launched m c).dacw)) :
    next_dw1 m c t u W = arr 2048 768 .f32 (rowsProd (rowsIn t.val) (launched m c).xcw (launched m c).dacw) := by
  have ht := point_lt t
  subst hW
  unfold next_dw1; rw [held_xcw, held_dacw]
  have e := (dwL_canon (ms0_6 t) (hs0_6 t) scM0_2 (Memref.isWhole_whole _) scM0_7 (Memref.isWhole_whole _) _ _ _).trans
    (congrArg (arr 2048 768 .f32) (adds (n := 256 * t.val) (by rw [hu]) (rows_xcw m c u) (rows_dacw m c u)))
  by_cases h : t.val % 48 = 47
  · rw [if_pos h]
    have h' : t.val = 47 := by omega
    exact (dwC_canon _ _ _ e (held_xcw m c t) (held_dacw m c t)).trans
      (congrArg (arr 2048 768 .f32) (adds (by rw [rowsIn_last h', h']) (rows_xcw m c t) (rows_dacw m c t)))
  · rw [if_neg h, rowsIn_lt (by omega)]; exact e
/-- `dw1` after a point. -/
theorem sum_dw1_is (c : Dev nD) : ∀ k hk, sum_dw1 m c k hk = arr 2048 768 .f32 (rowsProd (rowsIn k) (launched m c).xcw (launched m c).dacw)
  | 0, hk => dwA_canon (ms0_6 ⟨0, hk⟩) scM0_2 scM0_7 _ _ _
  | k + 1, hk => next_dw1_is m c ⟨k + 1, hk⟩ ⟨k, Nat.lt_of_succ_lt hk⟩ rfl
    ((sum_dw1_is c k _).trans (by rw [rowsIn_lt (by have := point_lt ⟨k + 1, hk⟩; dsimp only at this; omega)]))
/-- What the last point leaves in `dw1`. -/
theorem left_dw1 (c : Dev nD) (t : Fin cfg0.N) (h : t.val % 48 = 47) : (dats m 0 c).after 6 t = arr 2048 768 .f32 (launched m c).dw1 :=
  (after_dw1 m c t).trans ((sum_dw1_is m c t.val t.isLt).trans (by rw [rowsIn_last (by have := point_lt t; omega)]; rfl))
/-- The last point writes it back. -/
theorem flushes_dw1 : (cfg0.win 6).flush lastPoint = true := (flush0_6 _).mpr rfl
/-- The array `dw1` of the run. -/
theorem final_dw1 (c : Dev nD) : (dats m 0 c).arrAt 6 cfg0.N = arr 2048 768 .f32 (launched m c).dw1 :=
  (dats m 0 c).arrAt_eq_of_cover 6 (arr 2048 768 .f32 (launched m c).dw1)
    (fun t ht => (congrArg ((cfg0.win 6).cut (grid0.coords t)) (left_dw1 m c t ((flush0_6 t).mp ht))).trans
      (funext fun j => (congrArg (arr 2048 768 .f32 (launched m c).dw1) (at_zero (s := S2048x768) (j := j) (index_whole 6 (by decide) t) fun _ => rfl)).symm))
    fun i => ⟨_, flushes_dw1, by
      have h := ((cfg0.win 6).blk lastPoint).view.emb_mem_set (allOf (s := S2048x768) i)
      rwa [show ((cfg0.win 6).blk lastPoint).view.emb (allOf (s := S2048x768) i) = i from
        at_zero (s := S2048x768) (i := _) (j := i) (index_whole 6 (by decide) _) fun _ => rfl] at h⟩
/-- A point adds to `dw3` the product over the rows of the point before; the last adds its own too. -/
theorem next_dw3_is (c : Dev nD) (t u : Fin cfg0.N) (hu : t.val = u.val + 1) {W : FVec Ideal S2048x768 .f32}
    (hW : W = arr 2048 768 .f32 (rowsProd (256 * u.val) (launched m c).xcw (launched m c).dbcw)) :
    next_dw3 m c t u W = arr 2048 768 .f32 (rowsProd (rowsIn t.val) (launched m c).xcw (launched m c).dbcw) := by
  have ht := point_lt t
  subst hW
  unfold next_dw3; rw [held_xcw, held_dbcw]
  have e := (dwL_canon (ms0_7 t) (hs0_7 t) scM0_2 (Memref.isWhole_whole _) scM0_8 (Memref.isWhole_whole _) _ _ _).trans
    (congrArg (arr 2048 768 .f32) (adds (n := 256 * t.val) (by rw [hu]) (rows_xcw m c u) (rows_dbcw m c u)))
  by_cases h : t.val % 48 = 47
  · rw [if_pos h]
    have h' : t.val = 47 := by omega
    exact (dwC_canon _ _ _ e (held_xcw m c t) (held_dbcw m c t)).trans
      (congrArg (arr 2048 768 .f32) (adds (by rw [rowsIn_last h', h']) (rows_xcw m c t) (rows_dbcw m c t)))
  · rw [if_neg h, rowsIn_lt (by omega)]; exact e
/-- `dw3` after a point. -/
theorem sum_dw3_is (c : Dev nD) : ∀ k hk, sum_dw3 m c k hk = arr 2048 768 .f32 (rowsProd (rowsIn k) (launched m c).xcw (launched m c).dbcw)
  | 0, hk => dwA_canon (ms0_7 ⟨0, hk⟩) scM0_2 scM0_8 _ _ _
  | k + 1, hk => next_dw3_is m c ⟨k + 1, hk⟩ ⟨k, Nat.lt_of_succ_lt hk⟩ rfl
    ((sum_dw3_is c k _).trans (by rw [rowsIn_lt (by have := point_lt ⟨k + 1, hk⟩; dsimp only at this; omega)]))
/-- What the last point leaves in `dw3`. -/
theorem left_dw3 (c : Dev nD) (t : Fin cfg0.N) (h : t.val % 48 = 47) : (dats m 0 c).after 7 t = arr 2048 768 .f32 (launched m c).dw3 :=
  (after_dw3 m c t).trans ((sum_dw3_is m c t.val t.isLt).trans (by rw [rowsIn_last (by have := point_lt t; omega)]; rfl))
/-- The last point writes it back. -/
theorem flushes_dw3 : (cfg0.win 7).flush lastPoint = true := (flush0_7 _).mpr rfl
/-- The array `dw3` of the run. -/
theorem final_dw3 (c : Dev nD) : (dats m 0 c).arrAt 7 cfg0.N = arr 2048 768 .f32 (launched m c).dw3 :=
  (dats m 0 c).arrAt_eq_of_cover 7 (arr 2048 768 .f32 (launched m c).dw3)
    (fun t ht => (congrArg ((cfg0.win 7).cut (grid0.coords t)) (left_dw3 m c t ((flush0_7 t).mp ht))).trans
      (funext fun j => (congrArg (arr 2048 768 .f32 (launched m c).dw3) (at_zero (s := S2048x768) (j := j) (index_whole 7 (by decide) t) fun _ => rfl)).symm))
    fun i => ⟨_, flushes_dw3, by
      have h := ((cfg0.win 7).blk lastPoint).view.emb_mem_set (allOf (s := S2048x768) i)
      rwa [show ((cfg0.win 7).blk lastPoint).view.emb (allOf (s := S2048x768) i) = i from
        at_zero (s := S2048x768) (i := _) (j := i) (index_whole 7 (by decide) _) fun _ => rfl] at h⟩
/-- A point adds to `dw2` the product over the rows of the point before; the last adds its own too. -/
theorem next_dw2_is (c : Dev nD) (t u : Fin cfg0.N) (hu : t.val = u.val + 1) {W : FVec Ideal S768x2048 .f32}
    (hW : W = arr 768 2048 .f32 (rowsProd (256 * u.val) (launched m c).hcw (launched m c).dycw)) :
    next_dw2 m c t u W = arr 768 2048 .f32 (rowsProd (rowsIn t.val) (launched m c).hcw (launched m c).dycw) := by
  have ht := point_lt t
  subst hW
  unfold next_dw2; rw [held_dycw, held_hcw]
  have e := (dw2L_canon (ms0_8 t) (hs0_8 t) scM0_3 (Memref.isWhole_whole _) scM0_6 (Memref.isWhole_whole _) _ _ _).trans
    (congrArg (arr 768 2048 .f32) (adds (n := 256 * t.val) (by rw [hu]) (rows_hcw m c u) (rows_dycw m c u)))
  by_cases h : t.val % 48 = 47
  · rw [if_pos h]
    have h' : t.val = 47 := by omega
    exact (dw2C_canon _ _ _ e (held_dycw m c t) (held_hcw m c t)).trans
      (congrArg (arr 768 2048 .f32) (adds (by rw [rowsIn_last h', h']) (rows_hcw m c t) (rows_dycw m c t)))
  · rw [if_neg h, rowsIn_lt (by omega)]; exact e
/-- `dw2` after a point. -/
theorem sum_dw2_is (c : Dev nD) : ∀ k hk, sum_dw2 m c k hk = arr 768 2048 .f32 (rowsProd (rowsIn k) (launched m c).hcw (launched m c).dycw)
  | 0, hk => dw2A_canon (ms0_8 ⟨0, hk⟩) scM0_3 scM0_6 _ _
  | k + 1, hk => next_dw2_is m c ⟨k + 1, hk⟩ ⟨k, Nat.lt_of_succ_lt hk⟩ rfl
    ((sum_dw2_is c k _).trans (by rw [rowsIn_lt (by have := point_lt ⟨k + 1, hk⟩; dsimp only at this; omega)]))
/-- What the last point leaves in `dw2`. -/
theorem left_dw2 (c : Dev nD) (t : Fin cfg0.N) (h : t.val % 48 = 47) : (dats m 0 c).after 8 t = arr 768 2048 .f32 (launched m c).dw2 :=
  (after_dw2 m c t).trans ((sum_dw2_is m c t.val t.isLt).trans (by rw [rowsIn_last (by have := point_lt t; omega)]; rfl))
/-- The last point writes it back. -/
theorem flushes_dw2 : (cfg0.win 8).flush lastPoint = true := (flush0_8 _).mpr rfl
/-- The array `dw2` of the run. -/
theorem final_dw2 (c : Dev nD) : (dats m 0 c).arrAt 8 cfg0.N = arr 768 2048 .f32 (launched m c).dw2 :=
  (dats m 0 c).arrAt_eq_of_cover 8 (arr 768 2048 .f32 (launched m c).dw2)
    (fun t ht => (congrArg ((cfg0.win 8).cut (grid0.coords t)) (left_dw2 m c t ((flush0_8 t).mp ht))).trans
      (funext fun j => (congrArg (arr 768 2048 .f32 (launched m c).dw2) (at_zero (s := S768x2048) (j := j) (index_whole 8 (by decide) t) fun _ => rfl)).symm))
    fun i => ⟨_, flushes_dw2, by
      have h := ((cfg0.win 8).blk lastPoint).view.emb_mem_set (allOf (s := S768x2048) i)
      rwa [show ((cfg0.win 8).blk lastPoint).view.emb (allOf (s := S768x2048) i) = i from
        at_zero (s := S768x2048) (i := _) (j := i) (index_whole 8 (by decide) _) fun _ => rfl] at h⟩

/-! The run, output by output. -/

section
variable (r : PUnit × MemSt nD τ sig (Elt Ideal)) (h : Pipeline.RDat.FramePost (cfgs 0) (fun c => (dats m 0 c).toRForget unsaid) (V m) r) (c : Dev nD)
include h

/-- `y` at the end. -/
theorem end_y : r.2.mem ((c.tc : Thread nD τ).loc main_v0_0) = arr 12288 2048 .bf16 (launched m c).y := (output m r h c 4 rfl).trans (final_y m c)
/-- `dx` at the end. -/
theorem end_dx : r.2.mem ((c.tc : Thread nD τ).loc main_v0_1) = arr 12288 2048 .bf16 (launched m c).dx := (output m r h c 5 rfl).trans (final_dx m c)
/-- `dw1` at the end. -/
theorem end_dw1 : r.2.mem ((c.tc : Thread nD τ).loc main_v0_2) = arr 2048 768 .f32 (launched m c).dw1 := (output m r h c 6 rfl).trans (final_dw1 m c)
/-- `dw3` at the end. -/
theorem end_dw3 : r.2.mem ((c.tc : Thread nD τ).loc main_v0_3) = arr 2048 768 .f32 (launched m c).dw3 := (output m r h c 7 rfl).trans (final_dw3 m c)
/-- `dw2` at the end. -/
theorem end_dw2 : r.2.mem ((c.tc : Thread nD τ).loc main_v0_4) = arr 768 2048 .f32 (launched m c).dw2 := (output m r h c 8 rfl).trans (final_dw2 m c)
/-- `xq` at the end. -/
theorem end_xq : r.2.mem ((c.tc : Thread nD τ).loc main_v0_5) = arr 12288 2048 .fp8e4m3 (rowCode n4 (launched m c).x) := (output m r h c 9 rfl).trans (final_xq m c)
/-- `xs` at the end. -/
theorem end_xs : r.2.mem ((c.tc : Thread nD τ).loc main_v0_6) = arr 12288 16 .f32 (rowScale n4 (launched m c).x) := (output m r h c 10 rfl).trans (final_xs m c)
/-- `hq` at the end. -/
theorem end_hq : r.2.mem ((c.tc : Thread nD τ).loc main_v0_7) = arr 12288 768 .fp8e4m3 (rowCode n4 (launched m c).h) := (output m r h c 11 rfl).trans (final_hq m c)
/-- `hs` at the end. -/
theorem end_hs : r.2.mem ((c.tc : Thread nD τ).loc main_v0_8) = arr 12288 6 .f32 (rowScale n4 (launched m c).h) := (output m r h c 12 rfl).trans (final_hs m c)
/-- `dyq` at the end. -/
theorem end_dyq : r.2.mem ((c.tc : Thread nD τ).loc main_v0_9) = arr 12288 2048 .fp8e5m2 (rowCode n5 (launched m c).dy) := (output m r h c 13 rfl).trans (final_dyq m c)
/-- `dys` at the end. -/
theorem end_dys : r.2.mem ((c.tc : Thread nD τ).loc main_v0_10) = arr 12288 16 .f32 (rowScale n5 (launched m c).dy) := (output m r h c 14 rfl).trans (final_dys m c)
/-- `dycq` at the end. -/
theorem end_dycq : r.2.mem ((c.tc : Thread nD τ).loc main_v0_11) = arr 12288 2048 .fp8e5m2 (colCode n5 (launched m c).dy) := (output m r h c 15 rfl).trans (final_dycq m c)
/-- `hcq` at the end. -/
theorem end_hcq : r.2.mem ((c.tc : Thread nD τ).loc main_v0_13) = arr 12288 768 .fp8e4m3 (colCode n4 (launched m c).hw) := (output m r h c 17 rfl).trans (final_hcq m c)
/-- `daq` at the end. -/
theorem end_daq : r.2.mem ((c.tc : Thread nD τ).loc main_v0_15) = arr 12288 768 .fp8e5m2 (rowCode n5 (launched m c).da) := (output m r h c 19 rfl).trans (final_daq m c)
/-- `das` at the end. -/
theorem end_das : r.2.mem ((c.tc : Thread nD τ).loc main_v0_16) = arr 12288 6 .f32 (rowScale n5 (launched m c).da) := (output m r h c 20 rfl).trans (final_das m c)
/-- `dbq` at the end. -/
theorem end_dbq : r.2.mem ((c.tc : Thread nD τ).loc main_v0_17) = arr 12288 768 .fp8e5m2 (rowCode n5 (launched m c).db) := (output m r h c 21 rfl).trans (final_dbq m c)
/-- `dbs` at the end. -/
theorem end_dbs : r.2.mem ((c.tc : Thread nD τ).loc main_v0_18) = arr 12288 6 .f32 (rowScale n5 (launched m c).db) := (output m r h c 22 rfl).trans (final_dbs m c)
/-- `xcq` at the end. -/
theorem end_xcq : r.2.mem ((c.tc : Thread nD τ).loc main_v0_19) = arr 12288 2048 .fp8e4m3 (colCode n4 (launched m c).xw) := (output m r h c 23 rfl).trans (final_xcq m c)
/-- `dacq` at the end. -/
theorem end_dacq : r.2.mem ((c.tc : Thread nD τ).loc main_v0_21) = arr 12288 768 .fp8e5m2 (colCode n5 (launched m c).da) := (output m r h c 25 rfl).trans (final_dacq m c)
/-- `dbcq` at the end. -/
theorem end_dbcq : r.2.mem ((c.tc : Thread nD τ).loc main_v0_23) = arr 12288 768 .fp8e5m2 (colCode n5 (launched m c).db) := (output m r h c 27 rfl).trans (final_dbcq m c)
end

/-- Every run ends with the outputs those arrays and the operands as they were. -/
theorem run : θ_run (defs (F := Ideal)) (onTc (τ := τ) (main (F := Ideal))) ⟨m, fun _ => 0, ρ⟩ fun r => ∀ c : Dev nD,
      r.2.mem ((c.tc : Thread nD τ).loc main_v0_0) = arr 12288 2048 .bf16 (launched m c).y
      ∧ r.2.mem ((c.tc : Thread nD τ).loc main_v0_1) = arr 12288 2048 .bf16 (launched m c).dx
      ∧ r.2.mem ((c.tc : Thread nD τ).loc main_v0_2) = arr 2048 768 .f32 (launched m c).dw1
      ∧ r.2.mem ((c.tc : Thread nD τ).loc main_v0_3) = arr 2048 768 .f32 (launched m c).dw3
      ∧ r.2.mem ((c.tc : Thread nD τ).loc main_v0_4) = arr 768 2048 .f32 (launched m c).dw2
      ∧ r.2.mem ((c.tc : Thread nD τ).loc main_v0_5) = arr 12288 2048 .fp8e4m3 (rowCode n4 (launched m c).x)
      ∧ r.2.mem ((c.tc : Thread nD τ).loc main_v0_6) = arr 12288 16 .f32 (rowScale n4 (launched m c).x)
      ∧ r.2.mem ((c.tc : Thread nD τ).loc main_v0_7) = arr 12288 768 .fp8e4m3 (rowCode n4 (launched m c).h)
      ∧ r.2.mem ((c.tc : Thread nD τ).loc main_v0_8) = arr 12288 6 .f32 (rowScale n4 (launched m c).h)
      ∧ r.2.mem ((c.tc : Thread nD τ).loc main_v0_9) = arr 12288 2048 .fp8e5m2 (rowCode n5 (launched m c).dy)
      ∧ r.2.mem ((c.tc : Thread nD τ).loc main_v0_10) = arr 12288 16 .f32 (rowScale n5 (launched m c).dy)
      ∧ r.2.mem ((c.tc : Thread nD τ).loc main_v0_11) = arr 12288 2048 .fp8e5m2 (colCode n5 (launched m c).dy)
      ∧ r.2.mem ((c.tc : Thread nD τ).loc main_v0_13) = arr 12288 768 .fp8e4m3 (colCode n4 (launched m c).hw)
      ∧ r.2.mem ((c.tc : Thread nD τ).loc main_v0_15) = arr 12288 768 .fp8e5m2 (rowCode n5 (launched m c).da)
      ∧ r.2.mem ((c.tc : Thread nD τ).loc main_v0_16) = arr 12288 6 .f32 (rowScale n5 (launched m c).da)
      ∧ r.2.mem ((c.tc : Thread nD τ).loc main_v0_17) = arr 12288 768 .fp8e5m2 (rowCode n5 (launched m c).db)
      ∧ r.2.mem ((c.tc : Thread nD τ).loc main_v0_18) = arr 12288 6 .f32 (rowScale n5 (launched m c).db)
      ∧ r.2.mem ((c.tc : Thread nD τ).loc main_v0_19) = arr 12288 2048 .fp8e4m3 (colCode n4 (launched m c).xw)
      ∧ r.2.mem ((c.tc : Thread nD τ).loc main_v0_21) = arr 12288 768 .fp8e5m2 (colCode n5 (launched m c).da)
      ∧ r.2.mem ((c.tc : Thread nD τ).loc main_v0_23) = arr 12288 768 .fp8e5m2 (colCode n5 (launched m c).db)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun r h c => ⟨end_y m r h c,
    end_dx m r h c,
    end_dw1 m r h c,
    end_dw3 m r h c,
    end_dw2 m r h c,
    end_xq m r h c,
    end_xs m r h c,
    end_hq m r h c,
    end_hs m r h c,
    end_dyq m r h c,
    end_dys m r h c,
    end_dycq m r h c,
    end_hcq m r h c,
    end_daq m r h c,
    end_das m r h c,
    end_dbq m r h c,
    end_dbs m r h c,
    end_xcq m r h c,
    end_dacq m r h c,
    end_dbcq m r h c,
    operands_kept m r h c⟩) (run_main m ρ)

end Cert.KernelIdeal.Step

end
-- ==== Proof.RefWhole.lean ====
/- The reference's body, written once: the quantiser on a whole array along rows or columns, the gate and the products, over any float
   interpretation, and each output's array as one such expression of the operands. -/
module

public import proofs.«01_k».proof.Proof.Gen.ReferenceIdeal.Frame
public import Idealize.ShloMosaic.Lib.Pipeline.Value

@[expose] public section

set_option maxRecDepth 16384

noncomputable section

namespace Cert.ReferenceIdeal.Whole

open Idealize.ShloMosaic Cert.ReferenceIdeal.Gen

variable {F : FTy → Type} [FloatOps F]

/-! ## The quantiser on a whole array -/

/-- An 8-bit format: its type, the reciprocal of its largest value, and the two clipping bounds, as 32-bit words. -/
structure Fmt where
  ty : FTy
  lt : ty.bits < FTy.bits .f32
  rc : BitVec 32
  lo : BitVec 32
  hi : BitVec 32

/-- E4M3, largest value 448. -/
abbrev e4 : Fmt := ⟨.fp8e4m3, bitsLt_fp8e4m3_f32, 0x3B124925#32, 0xC3E00000#32, 0x43E00000#32⟩
/-- E5M2, largest value 57344. -/
abbrev e5 : Fmt := ⟨.fp8e5m2, bitsLt_fp8e5m2_f32, 0x37924925#32, 0xC7600000#32, 0x47600000#32⟩

/-- The exponent of each scale. -/
def expo (s : Shape) (rc : BitVec 32) (amax : FVec F s .f32) : FVec F s .f32 :=
  select (cmpf .oeq (mulf amax (broadcast s (Scalar.ofBits .f32 rc))) (broadcast s (Scalar.ofBits .f32 0x00000000#32)))
    (broadcast s (Scalar.ofBits .f32 0x00000000#32))
    (addf (floor (divf (log (mulf amax (broadcast s (Scalar.ofBits .f32 rc)))) (log (broadcast s (Scalar.ofBits .f32 0x40000000#32)))))
      (broadcast s (Scalar.ofBits .f32 0x3F800000#32)))
/-- The scales. -/
def scale (s : Shape) (rc : BitVec 32) (amax : FVec F s .f32) : FVec F s .f32 := exp2 (expo s rc amax)
/-- Their inverses. -/
def inv (s : Shape) (rc : BitVec 32) (amax : FVec F s .f32) : FVec F s .f32 :=
  exp2 (subf (broadcast s (Scalar.ofBits .f32 0x00000000#32)) (expo s rc amax))

/-- Shapes with two and three axes. -/
abbrev D2 (a b : ℕ) : Shape := ⟨2, ![a, b]⟩
abbrev D3 (a b c : ℕ) : Shape := ⟨3, ![a, b, c]⟩

/-- Values times their inverse scales, clipped and rounded to the format. -/
def clip (f : Fmt) {s : Shape} (v i : FVec F s .f32) : FVec F s f.ty :=
  truncf f.ty (minimumf (broadcast s (Scalar.ofBits .f32 f.hi)) (maximumf (broadcast s (Scalar.ofBits .f32 f.lo)) (mulf v i))) f.lt

/-- What the shapes satisfy that cutting `n` rows of `c` into `k` groups of 128 needs, -/
structure RowCut (n k c : ℕ) : Prop where
  cut : (D2 n c).ShapeCasts (D3 n k 128)
  red : (D3 n k 128).Reduces [2] (D2 n k)
  col : (D2 n k).ShapeCasts (D3 n k 1)
  spr : (D3 n k 1).Broadcasts (D3 n k 128)
  back : (D3 n k 128).ShapeCasts (D2 n c)
/-- and cutting `n` rows into `k` groups of 128. -/
structure ColCut (n k c : ℕ) : Prop where
  cut : (D2 n c).ShapeCasts (D3 k 128 c)
  red : (D3 k 128 c).Reduces [1] (D2 k c)
  col : (D2 k c).ShapeCasts (D3 k 1 c)
  spr : (D3 k 1 c).Broadcasts (D3 k 128 c)
  back : (D3 k 128 c).ShapeCasts (D2 n c)

section
variable {n k c : ℕ} (H : RowCut n k c) (f : Fmt) (v : FVec F (D2 n c) .f32)
/-- The largest magnitude of each group along the rows, -/
def rowMax : FVec F (D2 n k) .f32 := multiReduction .maximumf [2] (D2 n k) (absf (shapeCast (D3 n k 128) v H.cut)) 0xFF800000#32 H.red (.inl rfl) rfl
/-- one number for each group spread over it, -/
def rowSpread (s : FVec F (D2 n k) .f32) : FVec F (D3 n k 128) .f32 := broadcastTo (D3 n k 128) (shapeCast (D3 n k 1) s H.col) H.spr
/-- the codes, group by group, -/
def rowCut : FVec F (D3 n k 128) f.ty := clip f (shapeCast (D3 n k 128) v H.cut) (rowSpread H (inv (D2 n k) f.rc (rowMax H v)))
/-- as an array, the scales, and the codes times their scales. -/
def rowCode : FVec F (D2 n c) f.ty := shapeCast (D2 n c) (rowCut H f v) H.back
def rowScale : FVec F (D2 n k) .f32 := scale (D2 n k) f.rc (rowMax H v)
def rowWide : FVec F (D2 n c) .f32 := shapeCast (D2 n c) (mulf (extf .f32 (rowCut H f v) f.lt) (rowSpread H (rowScale H f v))) H.back
end

section
variable {n k c : ℕ} (H : ColCut n k c) (f : Fmt) (v : FVec F (D2 n c) .f32)
/-- The same along the columns. -/
def colMax : FVec F (D2 k c) .f32 := multiReduction .maximumf [1] (D2 k c) (absf (shapeCast (D3 k 128 c) v H.cut)) 0xFF800000#32 H.red (.inl rfl) rfl
def colSpread (s : FVec F (D2 k c) .f32) : FVec F (D3 k 128 c) .f32 := broadcastTo (D3 k 128 c) (shapeCast (D3 k 1 c) s H.col) H.spr
def colCut : FVec F (D3 k 128 c) f.ty := clip f (shapeCast (D3 k 128 c) v H.cut) (colSpread H (inv (D2 k c) f.rc (colMax H v)))
def colCode : FVec F (D2 n c) f.ty := shapeCast (D2 n c) (colCut H f v) H.back
def colScale : FVec F (D2 k c) .f32 := scale (D2 k c) f.rc (colMax H v)
def colWide : FVec F (D2 n c) .f32 := shapeCast (D2 n c) (mulf (extf .f32 (colCut H f v) f.lt) (colSpread H (colScale H f v))) H.back
end

/-- The cuts used: 2048 and 768 columns in groups of 128, and 12288 rows in groups of 128. -/
theorem cut16 : RowCut 12288 16 2048 := ⟨shapeCasts_S12288x2048_S12288x16x128, reduces_S12288x16x128_S12288x16, shapeCasts_S12288x16_S12288x16x1,
  broadcasts_S12288x16x1_S12288x16x128, shapeCasts_S12288x16x128_S12288x2048⟩
/-- 768 columns in groups of 128. -/
theorem cut6 : RowCut 12288 6 768 := ⟨shapeCasts_S12288x768_S12288x6x128, reduces_S12288x6x128_S12288x6, shapeCasts_S12288x6_S12288x6x1,
  broadcasts_S12288x6x1_S12288x6x128, shapeCasts_S12288x6x128_S12288x768⟩
/-- 12288 rows of 2048 columns in groups of 128. -/
theorem down2048 : ColCut 12288 96 2048 := ⟨shapeCasts_S12288x2048_S96x128x2048, reduces_S96x128x2048_S96x2048, shapeCasts_S96x2048_S96x1x2048,
  broadcasts_S96x1x2048_S96x128x2048, shapeCasts_S96x128x2048_S12288x2048⟩
/-- 12288 rows of 768 columns in groups of 128. -/
theorem down768 : ColCut 12288 96 768 := ⟨shapeCasts_S12288x768_S96x128x768, reduces_S96x128x768_S96x768, shapeCasts_S96x768_S96x1x768,
  broadcasts_S96x1x768_S96x128x768, shapeCasts_S96x128x768_S12288x768⟩

/-! ## The gate and the products -/

section
variable {s : Shape}
/-- The logistic function. -/
def logis (a : FVec F s .f32) : FVec F s .f32 :=
  divf (broadcast s (Scalar.ofBits .f32 0x3F800000#32))
    (addf (broadcast s (Scalar.ofBits .f32 0x3F800000#32)) (exp (subf (broadcast s (Scalar.ofBits .f32 0x00000000#32)) a)))
/-- The gated activation and the two gradients. -/
def gateH (a b : FVec F s .f32) : FVec F s .f32 := mulf (mulf a (logis a)) b
def gateA (a b d : FVec F s .f32) : FVec F s .f32 :=
  mulf (mulf (mulf d b) (logis a)) (addf (broadcast s (Scalar.ofBits .f32 0x3F800000#32))
    (mulf a (subf (broadcast s (Scalar.ofBits .f32 0x3F800000#32)) (logis a))))
def gateB (a d : FVec F s .f32) : FVec F s .f32 := mulf (mulf d a) (logis a)
end

section
variable (x dy : FVec F S12288x2048 .bf16) (w13 : FVec F S2048x1536 .bf16) (w2 : FVec F S768x2048 .bf16)

/-- The operands widened to float32; `w13`'s columns come in groups of 256, of `w1` and of `w3` by turns. -/
def xF : FVec F S12288x2048 .f32 := extf .f32 x bitsLt_bf16_f32
def w2F : FVec F S768x2048 .f32 := extf .f32 w2 bitsLt_bf16_f32
def pairs : FVec F S2048x3x2x256 .f32 := shapeCast S2048x3x2x256 (extf .f32 w13 bitsLt_bf16_f32) shapeCasts_S2048x1536_S2048x3x2x256
def w1 : FVec F S2048x768 .f32 :=
  shapeCast S2048x768 (shapeCast S2048x3x256 (extractStridedSlice S2048x3x1x256 ![0, 0, 0, 0] (pairs w13) slices_S2048x3x2x256_o0_0_0_0_S2048x3x1x256)
    shapeCasts_S2048x3x1x256_S2048x3x256) shapeCasts_S2048x3x256_S2048x768
def w3 : FVec F S2048x768 .f32 :=
  shapeCast S2048x768 (shapeCast S2048x3x256 (extractStridedSlice S2048x3x1x256 ![0, 0, 1, 0] (pairs w13) slices_S2048x3x2x256_o0_0_1_0_S2048x3x1x256)
    shapeCasts_S2048x3x1x256_S2048x3x256) shapeCasts_S2048x3x256_S2048x768

/-- The products: tokens by `d` by `f`, with the second transposed, and tokens by `f` by `d`, the same. -/
def up (u : FVec F S12288x2048 .f32) (w : FVec F S2048x768 .f32) : FVec F S12288x768 .f32 :=
  matmul dot_S12288x2048_S2048x768_S12288x768_1_0_0_1_n_n none u w (constant S12288x768 .f32 0x00000000#32)
def upT (u : FVec F S12288x2048 .f32) (w : FVec F S768x2048 .f32) : FVec F S12288x768 .f32 :=
  matmul dot_S12288x2048_S768x2048_S12288x768_1_1_0_0_n_n none u w (constant S12288x768 .f32 0x00000000#32)
def down (u : FVec F S12288x768 .f32) (w : FVec F S768x2048 .f32) : FVec F S12288x2048 .f32 :=
  matmul dot_S12288x768_S768x2048_S12288x2048_1_0_0_1_n_n none u w (constant S12288x2048 .f32 0x00000000#32)
def downT (u : FVec F S12288x768 .f32) (w : FVec F S2048x768 .f32) : FVec F S12288x2048 .f32 :=
  matmul dot_S12288x768_S2048x768_S12288x2048_1_1_0_0_n_n none u w (constant S12288x2048 .f32 0x00000000#32)
/-- The products over the tokens. -/
def gradUp (u : FVec F S12288x2048 .f32) (w : FVec F S12288x768 .f32) : FVec F S2048x768 .f32 :=
  matmul dot_S12288x2048_S12288x768_S2048x768_0_0_1_1_n_n none u w (constant S2048x768 .f32 0x00000000#32)
def gradDown (u : FVec F S12288x768 .f32) (w : FVec F S12288x2048 .f32) : FVec F S768x2048 .f32 :=
  matmul dot_S12288x768_S12288x2048_S768x2048_0_0_1_1_n_n none u w (constant S768x2048 .f32 0x00000000#32)

/-! ## The step -/

def xw : FVec F S12288x2048 .f32 := rowWide cut16 e4 (xF x)
def dyw : FVec F S12288x2048 .f32 := rowWide cut16 e5 (xF dy)
def a : FVec F S12288x768 .f32 := up (xw x) (w1 w13)
def b : FVec F S12288x768 .f32 := up (xw x) (w3 w13)
def dh : FVec F S12288x768 .f32 := upT (dyw dy) (w2F w2)
def h : FVec F S12288x768 .f32 := gateH (a x w13) (b x w13)
def da : FVec F S12288x768 .f32 := gateA (a x w13) (b x w13) (dh dy w2)
def db : FVec F S12288x768 .f32 := gateB (a x w13) (dh dy w2)
def hw : FVec F S12288x768 .f32 := rowWide cut6 e4 (h x w13)
def daw : FVec F S12288x768 .f32 := rowWide cut6 e5 (da x dy w13 w2)
def dbw : FVec F S12288x768 .f32 := rowWide cut6 e5 (db x dy w13 w2)
def y : FVec F S12288x2048 .bf16 := truncf .bf16 (down (hw x w13) (w2F w2)) bitsLt_bf16_f32
def dx : FVec F S12288x2048 .bf16 :=
  truncf .bf16 (addf (downT (daw x dy w13 w2) (w1 w13)) (downT (dbw x dy w13 w2) (w3 w13))) bitsLt_bf16_f32
def xcw : FVec F S12288x2048 .f32 := colWide down2048 e4 (xw x)
def dycw : FVec F S12288x2048 .f32 := colWide down2048 e5 (xF dy)
def hcw : FVec F S12288x768 .f32 := colWide down768 e4 (hw x w13)
def dacw : FVec F S12288x768 .f32 := colWide down768 e5 (da x dy w13 w2)
def dbcw : FVec F S12288x768 .f32 := colWide down768 e5 (db x dy w13 w2)
def dw1 : FVec F S2048x768 .f32 := gradUp (xcw x) (dacw x dy w13 w2)
def dw3 : FVec F S2048x768 .f32 := gradUp (xcw x) (dbcw x dy w13 w2)
def dw2 : FVec F S768x2048 .f32 := gradDown (hcw x w13) (dycw dy)

/-! ## The body's outputs are these -/

/-- The origin. -/
theorem zero2 : (![0, 0] : Fin 2 → ℕ) = fun _ => 0 := funext fun a => by fin_cases a <;> rfl
/-- Reading the whole operand gives it. -/
theorem ldX (v : Vec F S12288x2048 .bf16) : View.ld v r0_2 = v := View.ld_unit_zero (S := S12288x2048) zero2 _ v
/-- Reading the whole operand gives it. -/
theorem ldW13 (v : Vec F S2048x1536 .bf16) : View.ld v r0_0 = v := View.ld_unit_zero (S := S2048x1536) zero2 _ v
/-- Reading the whole operand gives it. -/
theorem ldW2 (v : Vec F S768x2048 .bf16) : View.ld v r0_1 = v := View.ld_unit_zero (S := S768x2048) zero2 _ v

/-! The values the outputs share. -/

/-- This subterm of the body is: `w1`. -/
theorem pay86 : k0_pay86 x dy w13 w2 = w1 w13 := by unfold k0_pay86; rw [ldW13]; rfl
/-- This subterm of the body is: `w3`. -/
theorem pay87 : k0_pay87 x dy w13 w2 = w3 w13 := by unfold k0_pay87; rw [ldW13]; rfl
/-- This subterm of the body is: `w2`. -/
theorem pay88 : k0_pay88 x dy w13 w2 = w2F w2 := by unfold k0_pay88; rw [ldW2]; rfl
/-- This subterm of the body is: The widened row codes of `x`. -/
theorem pay90 : k0_pay90 x dy w13 w2 = xw x := by unfold k0_pay90 k0_pay89; rw [ldX]; rfl
/-- This subterm of the body is: The widened column codes of `xw`. -/
theorem pay91 : k0_pay91 x dy w13 w2 = xcw x := by unfold k0_pay91 k0_pay89; rw [ldX]; rfl
/-- This subterm of the body is: The widened row codes of `dy`. -/
theorem pay95 : k0_pay95 x dy w13 w2 = dyw dy := by unfold k0_pay95 k0_pay94 k0_pay93 k0_pay92; rw [ldX]; rfl
/-- This subterm of the body is: `da`. -/
theorem pay98 : k0_pay98 x dy w13 w2 = da x dy w13 w2 := by unfold k0_pay98; rw [pay86, pay87, pay88, pay90, pay95]; rfl
/-- This subterm of the body is: `db`. -/
theorem pay99 : k0_pay99 x dy w13 w2 = db x dy w13 w2 := by unfold k0_pay99; rw [pay86, pay88, pay90, pay95]; rfl
/-- This subterm of the body is: `h` in groups. -/
theorem pay100 : k0_pay100 x dy w13 w2 = shapeCast S12288x6x128 (h x w13) cut6.cut := by unfold k0_pay100; rw [pay86, pay87, pay90]; rfl
/-- The body's `hw`. -/
theorem pay_hw : k0_pay46 (k0_pay100 x dy w13 w2) (k0_pay101 x dy w13 w2) (k0_pay102 x dy w13 w2) = hw x w13 := by
  unfold k0_pay101 k0_pay102; rw [pay100, pay86, pay87, pay90]; rfl
/-- The body's `dycw`. -/
theorem pay_dycw : k0_pay31 (k0_pay96 x dy w13 w2) (k0_pay97 x dy w13 w2) (k0_pay28 (View.ld dy r0_2)) (Scalar.ofBits .f32 0x00000000#32) = dycw dy := by
  unfold k0_pay96 k0_pay97; rw [ldX]; rfl
/-- The body's `hcw`. -/
theorem pay_hcw : k0_pay53 (k0_pay103 x dy w13 w2) (k0_pay49 (k0_pay100 x dy w13 w2) (k0_pay101 x dy w13 w2) (k0_pay102 x dy w13 w2)) (k0_pay104 x dy w13 w2) = hcw x w13 := by
  unfold k0_pay103 k0_pay104 k0_pay101 k0_pay102; rw [pay100, pay86, pay87, pay90]; rfl
/-- The body's `dacw`. -/
theorem pay_dacw : k0_pay65 (k0_pay105 x dy w13 w2) (k0_pay106 x dy w13 w2) = dacw x dy w13 w2 := by unfold k0_pay105 k0_pay106; rw [pay98]; rfl

/-! The outputs. -/

/-- The body leaves `y`, the output. -/
theorem out_y : out0_4 x dy w13 w2 = y x w13 w2 := by
  unfold out0_4; rw [View.canon_unit_zero zero2, pay88, pay_hw]; rfl
/-- The body leaves `dx`, the gradient of the input. -/
theorem out_dx : out0_5 x dy w13 w2 = dx x dy w13 w2 := by
  unfold out0_5 k0_pay107 k0_pay108 k0_pay109; rw [View.canon_unit_zero zero2, pay86, pay87, pay98, pay99]; rfl
/-- The body leaves `dw1`, a gradient of the weights. -/
theorem out_dw1 : out0_6 x dy w13 w2 = dw1 x dy w13 w2 := by
  unfold out0_6; rw [View.canon_unit_zero zero2, pay91, pay_dacw]; rfl
/-- The body leaves `dw3`, a gradient of the weights. -/
theorem out_dw3 : out0_7 x dy w13 w2 = dw3 x dy w13 w2 := by
  unfold out0_7 k0_pay110; rw [View.canon_unit_zero zero2, pay91, pay99]; rfl
/-- The body leaves `dw2`, a gradient of the weights. -/
theorem out_dw2 : out0_8 x dy w13 w2 = dw2 x dy w13 := by
  unfold out0_8; rw [View.canon_unit_zero zero2, pay_dycw, pay_hcw]; rfl
/-- The body leaves the row codes of `x`. -/
theorem out_xq : out0_9 x dy w13 w2 = rowCode cut16 e4 (xF x) := by
  unfold out0_9; rw [View.canon_unit_zero zero2, ldX]; rfl
/-- The body leaves the row scales of `x`. -/
theorem out_xs : out0_10 x dy w13 w2 = rowScale cut16 e4 (xF x) := by
  unfold out0_10; rw [View.canon_unit_zero zero2, ldX]; rfl
/-- The body leaves the row codes of `h`. -/
theorem out_hq : out0_11 x dy w13 w2 = rowCode cut6 e4 (h x w13) := by
  unfold out0_11 k0_pay101 k0_pay102; rw [View.canon_unit_zero zero2, pay100, pay86, pay87, pay90]; rfl
/-- The body leaves the row scales of `h`. -/
theorem out_hs : out0_12 x dy w13 w2 = rowScale cut6 e4 (h x w13) := by
  unfold out0_12 k0_pay101 k0_pay102; rw [View.canon_unit_zero zero2, pay86, pay87, pay90]; rfl
/-- The body leaves the row codes of `dy`. -/
theorem out_dyq : out0_13 x dy w13 w2 = rowCode cut16 e5 (xF dy) := by
  unfold out0_13 k0_pay94 k0_pay93 k0_pay92; rw [View.canon_unit_zero zero2, ldX]; rfl
/-- The body leaves the row scales of `dy`. -/
theorem out_dys : out0_14 x dy w13 w2 = rowScale cut16 e5 (xF dy) := by
  unfold out0_14 k0_pay94 k0_pay93; rw [View.canon_unit_zero zero2, ldX]; rfl
/-- The body leaves the column codes of `dy`. -/
theorem out_dycq : out0_15 x dy w13 w2 = colCode down2048 e5 (xF dy) := by
  unfold out0_15 k0_pay96 k0_pay97; rw [View.canon_unit_zero zero2, ldX]; rfl
/-- The body leaves the column codes of `hw`. -/
theorem out_hcq : out0_16 x dy w13 w2 = colCode down768 e4 (hw x w13) := by
  unfold out0_16 k0_pay103 k0_pay104 k0_pay101 k0_pay102; rw [View.canon_unit_zero zero2, pay100, pay86, pay87, pay90]; rfl
/-- The body leaves the row codes of `da`. -/
theorem out_daq : out0_17 x dy w13 w2 = rowCode cut6 e5 (da x dy w13 w2) := by
  unfold out0_17; rw [View.canon_unit_zero zero2, pay98]; rfl
/-- The body leaves the row scales of `da`. -/
theorem out_das : out0_18 x dy w13 w2 = rowScale cut6 e5 (da x dy w13 w2) := by
  unfold out0_18; rw [View.canon_unit_zero zero2, pay98]; rfl
/-- The body leaves the row codes of `db`. -/
theorem out_dbq : out0_19 x dy w13 w2 = rowCode cut6 e5 (db x dy w13 w2) := by
  unfold out0_19 k0_pay107 k0_pay108 k0_pay109; rw [View.canon_unit_zero zero2, pay99]; rfl
/-- The body leaves the row scales of `db`. -/
theorem out_dbs : out0_20 x dy w13 w2 = rowScale cut6 e5 (db x dy w13 w2) := by
  unfold out0_20 k0_pay108 k0_pay109; rw [View.canon_unit_zero zero2, pay99]; rfl
/-- The body leaves the column codes of `xw`. -/
theorem out_xcq : out0_21 x dy w13 w2 = colCode down2048 e4 (xw x) := by
  unfold out0_21 k0_pay89; rw [View.canon_unit_zero zero2, ldX]; rfl
/-- The body leaves the column codes of `da`. -/
theorem out_dacq : out0_22 x dy w13 w2 = colCode down768 e5 (da x dy w13 w2) := by
  unfold out0_22 k0_pay105 k0_pay106; rw [View.canon_unit_zero zero2, pay98]; rfl
/-- The body leaves the column codes of `db`. -/
theorem out_dbcq : out0_23 x dy w13 w2 = colCode down768 e5 (db x dy w13 w2) := by
  unfold out0_23 k0_pay110; rw [View.canon_unit_zero zero2, pay99]; rfl
end

end Cert.ReferenceIdeal.Whole

end
-- ==== Proof.RefRead.lean ====
/- The reference's arrays, read at an entry over the extended reals: each is one array of the step's mathematics on the operands. -/
module

public import proofs.«01_k».proof.Proof.RefWhole
public import proofs.«01_k».proof.Proof.Spec

@[expose] public section

set_option maxRecDepth 16384

noncomputable section

namespace Cert.ReferenceIdeal.Whole

open Idealize.ShloMosaic Idealize.ShloMosaic.ValueIdx Cert.ReferenceIdeal.Gen
open Cert.Spec (Mat Num Ops word arr of of_ix2 n4 n5 amax)

/-- The constants of a format. -/
abbrev Fmt.num (f : Fmt) : Num := ⟨f.rc, f.lo, f.hi⟩

/-- Two arrays with two axes are equal if they are at every pair of coordinates. -/
theorem ext2 {m n : ℕ} {α : Type} {u v : (D2 m n).Idx → α} (h : ∀ (i : Fin m) (j : Fin n), u (ix2 i j) = v (ix2 i j)) : u = v :=
  funext fun y => by rw [eq_ix2 y]; exact h _ _

/-! ## The quantiser along rows -/

section
variable {n k : ℕ} (H : RowCut n k (128 * k)) (f : Fmt) (M : Mat)

/-- A row cut into groups keeps its entries. -/
theorem cut_at {α : Type} (x : (D2 n (128 * k)).Idx → α) (i : Fin n) (g : Fin k) (p : Fin 128) :
    shapeCast (D3 n k 128) x H.cut (ix3 i g p) = x (ix2 i ⟨128 * g.val + p.val, by have := g.isLt; have := p.isLt; omega⟩) :=
  shapeCast_apply x _ _ _ (by
    rw [Shape.rowMajor_val_two, Shape.rowMajor_val_three]
    show i.val * (128 * k) + (128 * g.val + p.val) = (i.val * k + g.val) * 128 + p.val
    ring)
/-- Groups put back in a row keep theirs. -/
theorem back_at {α : Type} (x : (D3 n k 128).Idx → α) (i : Fin n) (j : Fin (128 * k)) :
    shapeCast (D2 n (128 * k)) x H.back (ix2 i j) = x (ix3 i ⟨j.val / 128, by have := j.isLt; omega⟩ ⟨j.val % 128, by omega⟩) :=
  shapeCast_apply x _ _ _ (by
    rw [Shape.rowMajor_val_two, Shape.rowMajor_val_three]
    show (i.val * k + j.val / 128) * 128 + j.val % 128 = i.val * (128 * k) + j.val
    have := Nat.div_add_mod j.val 128
    nlinarith)
/-- A row scale spread over its group. -/
theorem rowSpread_at (s : FVec Ideal (D2 n k) .f32) (i : Fin n) (g : Fin k) (p : Fin 128) : rowSpread H s (ix3 i g p) = s (ix2 i g) := by
  unfold rowSpread
  refine (broadcastTo_apply _ _ _ (ix3 i g (0 : Fin 1)) (fun a => ?_)).trans ?_
  · have := i.isLt; have := g.isLt
    match a with
    | ⟨0, _⟩ => show i.val = if n = 1 then 0 else i.val; split <;> omega
    | ⟨1, _⟩ => show g.val = if k = 1 then 0 else g.val; split <;> omega
    | ⟨2, _⟩ => rfl
  · refine shapeCast_apply s _ _ _ ?_
    rw [Shape.rowMajor_val_two, Shape.rowMajor_val_three]
    show i.val * k + g.val = (i.val * k + g.val) * 1 + 0
    omega

/-- The entries a maximum over a group of a row runs over. -/
theorem lift_row (i : Fin n) (g : Fin k) (p : Fin 128) : H.red.lift (ix2 i g) p = ix3 i g p := by
  funext a; apply Fin.ext
  match a with
  | ⟨0, _⟩ => rfl
  | ⟨1, _⟩ => rfl
  | ⟨2, _⟩ => rfl

/-- The largest magnitude of a group of a row. -/
theorem rowMax_at (i : Fin n) (g : Fin k) : rowMax H (arr n (128 * k) .f32 M) (ix2 i g) = Spec.rowMax M i.val (128 * g.val) := by
  unfold rowMax; refine (Ideal.multiReduction_maximumf_single _ _ H.red _ _ (ix2 i g)).trans ?_
  unfold Spec.rowMax amax
  congr 1; funext p
  have e := (congrArg (shapeCast (D3 n k 128) (arr n (128 * k) .f32 M) H.cut) (lift_row H i g p)).trans (cut_at H (arr n (128 * k) .f32 M) i g p)
  exact congrArg (fun t : EReal => max t (-t)) e

/-- The scale, entry by entry. -/
theorem scale_at {s : Shape} (rc : BitVec 32) (m : FVec Ideal s .f32) (y : s.Idx) : Whole.scale s rc m y = Spec.scale rc (m y) := rfl
/-- The inverse scale, entry by entry. -/
theorem inv_at {s : Shape} (rc : BitVec 32) (m : FVec Ideal s .f32) (y : s.Idx) : Whole.inv s rc m y = Spec.inv rc (m y) := rfl
/-- The clipped scaled value, entry by entry. -/
theorem clip_at {s : Shape} (v w : FVec Ideal s .f32) (y : s.Idx) : clip f v w y = min (word f.hi) (max (word f.lo) (v y * w y)) := rfl

/-- A row code, in groups. -/
theorem rowCut_at (i : Fin n) (g : Fin k) (p : Fin 128) :
    rowCut H f (arr n (128 * k) .f32 M) (ix3 i g p) = Spec.code f.num (M i.val (128 * g.val + p.val)) (Spec.rowMax M i.val (128 * g.val)) := by
  unfold rowCut; rw [clip_at, cut_at H, rowSpread_at H, inv_at, rowMax_at H]; rfl

/-- The row scales of an array. -/
theorem rowScale_arr : rowScale H f (arr n (128 * k) .f32 M) = arr n k .f32 (Spec.rowScale f.num M) := ext2 fun i g => by
  unfold rowScale; rw [scale_at, rowMax_at]; rfl
/-- The row codes of an array. -/
theorem rowCode_arr : rowCode H f (arr n (128 * k) .f32 M) = arr n (128 * k) f.ty (Spec.rowCode f.num M) := ext2 fun i j => by
  unfold rowCode; rw [back_at H, rowCut_at]
  show Spec.code f.num (M i.val (128 * (j.val / 128) + j.val % 128)) _ = Spec.code f.num (M i.val j.val) _
  rw [Nat.div_add_mod]; rfl
/-- The widened row codes of an array. -/
theorem rowWide_arr : rowWide H f (arr n (128 * k) .f32 M) = arr n (128 * k) .f32 (Spec.rowWide f.num M) := ext2 fun i j => by
  unfold rowWide; rw [back_at H]
  refine (congrArg₂ (fun s t : EReal => s * t) (rowCut_at H f M i _ _) (rowSpread_at H _ i _ _)).trans ?_
  rw [rowScale_arr]
  show Spec.code f.num (M i.val (128 * (j.val / 128) + j.val % 128)) _ * _ = Spec.code f.num (M i.val j.val) _ * _
  rw [Nat.div_add_mod]; rfl
end

/-! ## and along columns -/

section
variable {k c : ℕ} (H : ColCut (128 * k) k c) (f : Fmt) (M : Mat)

/-- A column cut into groups keeps its entries. -/
theorem colCut_at {α : Type} (x : (D2 (128 * k) c).Idx → α) (g : Fin k) (p : Fin 128) (j : Fin c) :
    shapeCast (D3 k 128 c) x H.cut (ix3 g p j) = x (ix2 ⟨128 * g.val + p.val, by have := g.isLt; have := p.isLt; omega⟩ j) :=
  shapeCast_apply x _ _ _ (by
    rw [Shape.rowMajor_val_two, Shape.rowMajor_val_three]
    show (128 * g.val + p.val) * c + j.val = (g.val * 128 + p.val) * c + j.val
    ring)
/-- Groups put back in a column keep theirs. -/
theorem colBack_at {α : Type} (x : (D3 k 128 c).Idx → α) (i : Fin (128 * k)) (j : Fin c) :
    shapeCast (D2 (128 * k) c) x H.back (ix2 i j) = x (ix3 ⟨i.val / 128, by have := i.isLt; omega⟩ ⟨i.val % 128, by omega⟩ j) :=
  shapeCast_apply x _ _ _ (by
    rw [Shape.rowMajor_val_two, Shape.rowMajor_val_three]
    show (i.val / 128 * 128 + i.val % 128) * c + j.val = i.val * c + j.val
    rw [Nat.div_add_mod'])
/-- A column scale spread over its group. -/
theorem colSpread_at (s : FVec Ideal (D2 k c) .f32) (g : Fin k) (p : Fin 128) (j : Fin c) : colSpread H s (ix3 g p j) = s (ix2 g j) := by
  unfold colSpread
  refine (broadcastTo_apply _ _ _ (ix3 g (0 : Fin 1) j) (fun a => ?_)).trans ?_
  · have := j.isLt; have := g.isLt
    match a with
    | ⟨0, _⟩ => show g.val = if k = 1 then 0 else g.val; split <;> omega
    | ⟨1, _⟩ => rfl
    | ⟨2, _⟩ => show j.val = if c = 1 then 0 else j.val; split <;> omega
  · refine shapeCast_apply s _ _ _ ?_
    rw [Shape.rowMajor_val_two, Shape.rowMajor_val_three]
    show g.val * c + j.val = (g.val * 1 + 0) * c + j.val
    rw [Nat.mul_one, Nat.add_zero]

/-- The entries a maximum over a group of a column runs over. -/
theorem lift_col (g : Fin k) (p : Fin 128) (j : Fin c) : H.red.lift (ix2 g j) p = ix3 g p j := by
  funext a; apply Fin.ext
  match a with
  | ⟨0, _⟩ => rfl
  | ⟨1, _⟩ => rfl
  | ⟨2, _⟩ => rfl

/-- The largest magnitude of a group of a column. -/
theorem colMax_at (g : Fin k) (j : Fin c) : colMax H (arr (128 * k) c .f32 M) (ix2 g j) = Spec.colMax M (128 * g.val) j.val := by
  unfold colMax; refine (Ideal.multiReduction_maximumf_single _ _ H.red _ _ (ix2 g j)).trans ?_
  unfold Spec.colMax amax
  congr 1; funext p
  have e := (congrArg (shapeCast (D3 k 128 c) (arr (128 * k) c .f32 M) H.cut) (lift_col H g p j)).trans (colCut_at H (arr (128 * k) c .f32 M) g p j)
  exact congrArg (fun t : EReal => max t (-t)) e

/-- A column code, in groups. -/
theorem colCodes_at (g : Fin k) (p : Fin 128) (j : Fin c) :
    colCut H f (arr (128 * k) c .f32 M) (ix3 g p j) = Spec.code f.num (M (128 * g.val + p.val) j.val) (Spec.colMax M (128 * g.val) j.val) := by
  unfold colCut; rw [clip_at, colCut_at H, colSpread_at H, inv_at, colMax_at]; rfl
/-- The column codes of an array. -/
theorem colCode_arr : colCode H f (arr (128 * k) c .f32 M) = arr (128 * k) c f.ty (Spec.colCode f.num M) := ext2 fun i j => by
  unfold colCode; rw [colBack_at H, colCodes_at]
  show Spec.code f.num (M (128 * (i.val / 128) + i.val % 128) j.val) _ = Spec.code f.num (M i.val j.val) _
  rw [Nat.div_add_mod]; rfl
/-- The widened column codes of an array. -/
theorem colWide_arr : colWide H f (arr (128 * k) c .f32 M) = arr (128 * k) c .f32 (Spec.colWide f.num M) := ext2 fun i j => by
  unfold colWide; rw [colBack_at H]
  refine (congrArg₂ (fun s t : EReal => s * t) (colCodes_at H f M _ _ j) (colSpread_at H _ _ _ j)).trans ?_
  unfold colScale; rw [scale_at, colMax_at]
  show Spec.code f.num (M (128 * (i.val / 128) + i.val % 128) j.val) _ * _ = Spec.code f.num (M i.val j.val) _ * _
  rw [Nat.div_add_mod]; rfl
end

/-! ## The products -/

/-- The product from 2048 to 768 columns, as sums. -/
theorem up_arr (U W : Mat) : up (arr 12288 2048 .f32 U) (arr 2048 768 .f32 W) = arr 12288 768 .f32 fun i j => ∑ l : Fin 2048, U i l.val * W l.val j := ext2 fun i j => by
  unfold up; refine (Ideal.matmul_plain_apply (M := 12288) (K := 2048) (N := 768) none _ _ _ i j).trans ?_
  refine (congrArg (· + _) (show (constant (F := Ideal) S12288x768 .f32 0x00000000#32 (ix2 i j) : EReal) = 0 from Ideal.ofBits_zero_f32)).trans ?_
  rw [zero_add]; rfl
/-- The same with the second operand transposed. -/
theorem upT_arr (U W : Mat) : upT (arr 12288 2048 .f32 U) (arr 768 2048 .f32 W) = arr 12288 768 .f32 fun i j => ∑ l : Fin 2048, U i l.val * W j l.val := ext2 fun i j => by
  unfold upT; refine (Ideal.matmul_transposedRhs_apply (M := 12288) (K := 2048) (N := 768) none _ _ _ i j).trans ?_
  refine (congrArg (· + _) (show (constant (F := Ideal) S12288x768 .f32 0x00000000#32 (ix2 i j) : EReal) = 0 from Ideal.ofBits_zero_f32)).trans ?_
  rw [zero_add]; rfl
/-- The product from 768 to 2048 columns, as sums. -/
theorem down_arr (U W : Mat) : down (arr 12288 768 .f32 U) (arr 768 2048 .f32 W) = arr 12288 2048 .f32 fun i j => ∑ l : Fin 768, U i l.val * W l.val j := ext2 fun i j => by
  unfold down; refine (Ideal.matmul_plain_apply (M := 12288) (K := 768) (N := 2048) none _ _ _ i j).trans ?_
  refine (congrArg (· + _) (show (constant (F := Ideal) S12288x2048 .f32 0x00000000#32 (ix2 i j) : EReal) = 0 from Ideal.ofBits_zero_f32)).trans ?_
  rw [zero_add]; rfl
/-- The same with the second operand transposed. -/
theorem downT_arr (U W : Mat) : downT (arr 12288 768 .f32 U) (arr 2048 768 .f32 W) = arr 12288 2048 .f32 fun i j => ∑ l : Fin 768, U i l.val * W j l.val := ext2 fun i j => by
  unfold downT; refine (Ideal.matmul_transposedRhs_apply (M := 12288) (K := 768) (N := 2048) none _ _ _ i j).trans ?_
  refine (congrArg (· + _) (show (constant (F := Ideal) S12288x2048 .f32 0x00000000#32 (ix2 i j) : EReal) = 0 from Ideal.ofBits_zero_f32)).trans ?_
  rw [zero_add]; rfl
/-- The product over the tokens, of 2048 and 768 columns. -/
theorem gradUp_arr (U W : Mat) : gradUp (arr 12288 2048 .f32 U) (arr 12288 768 .f32 W) = arr 2048 768 .f32 (Spec.rowsProd 12288 U W) := ext2 fun i j => by
  unfold gradUp
  refine (Spec.matmul_rows_apply (M := 2048) (K := 12288) (N := 768) dot_S12288x2048_S12288x768_S2048x768_0_0_1_1_n_n.wf none _ _ _ i j).trans ?_
  refine (congrArg (· + _) (show (constant (F := Ideal) S2048x768 .f32 0x00000000#32 (ix2 i j) : EReal) = 0 from Ideal.ofBits_zero_f32)).trans ?_
  rw [zero_add]; rfl
/-- The same of 768 and 2048 columns. -/
theorem gradDown_arr (U W : Mat) : gradDown (arr 12288 768 .f32 U) (arr 12288 2048 .f32 W) = arr 768 2048 .f32 (Spec.rowsProd 12288 U W) := ext2 fun i j => by
  unfold gradDown
  refine (Spec.matmul_rows_apply (M := 768) (K := 12288) (N := 2048) dot_S12288x768_S12288x2048_S768x2048_0_0_1_1_n_n.wf none _ _ _ i j).trans ?_
  refine (congrArg (· + _) (show (constant (F := Ideal) S768x2048 .f32 0x00000000#32 (ix2 i j) : EReal) = 0 from Ideal.ofBits_zero_f32)).trans ?_
  rw [zero_add]; rfl

/-! ## The step -/

section
variable (x dy : FVec Ideal S12288x2048 .bf16) (w13 : FVec Ideal S2048x1536 .bf16) (w2 : FVec Ideal S768x2048 .bf16)

/-- The operands, as functions of two naturals. -/
abbrev ops : Ops := ⟨of (φ := .bf16) x, of (φ := .bf16) dy, of (φ := .bf16) w13, of (φ := .bf16) w2⟩

/-- The reference's `x` is the array the mathematics says. -/
theorem xF_arr : xF x = arr 12288 2048 .f32 (of (φ := .bf16) x) := ext2 fun i j => (of_ix2 (φ := .bf16) x i j).symm
/-- The reference's `w2` is the array the mathematics says. -/
theorem w2F_arr : w2F w2 = arr 768 2048 .f32 (of (φ := .bf16) w2) := ext2 fun i j => (of_ix2 (φ := .bf16) w2 i j).symm

/-- The column of `w13` a column of `w1` (`t = 0`) or of `w3` (`t = 1`) is. -/
theorem pairs_at (l : Fin 2048) (g : Fin 3) (t : Fin 2) (q : Fin 256) :
    pairs w13 (ix4 l g t q) = of (φ := .bf16) w13 l.val (512 * g.val + 256 * t.val + q.val) := by
  have := g.isLt; have := t.isLt; have := q.isLt
  refine (shapeCast_apply _ _ _ (ix2 l ⟨512 * g.val + 256 * t.val + q.val, by omega⟩) ?_).trans (of_ix2 (φ := .bf16) w13 l ⟨512 * g.val + 256 * t.val + q.val, by omega⟩).symm
  rw [Shape.rowMajor_val_two, Shape.rowMajor_val_four]
  show l.val * 1536 + (512 * g.val + 256 * t.val + q.val) = ((l.val * 3 + g.val) * 2 + t.val) * 256 + q.val
  omega
/-- The groups of 256 columns of one weight, put side by side. -/
theorem merge_at {α : Type} (u : S2048x3x1x256.Idx → α) (l : Fin 2048) (j : Fin 768) :
    shapeCast S2048x768 (shapeCast S2048x3x256 u shapeCasts_S2048x3x1x256_S2048x3x256) shapeCasts_S2048x3x256_S2048x768 (ix2 l j)
      = u (ix4 l ⟨j.val / 256, by have := j.isLt; omega⟩ 0 ⟨j.val % 256, by omega⟩) := by
  refine (shapeCast_apply _ _ _ (ix3 l ⟨j.val / 256, by have := j.isLt; omega⟩ ⟨j.val % 256, by omega⟩) ?_).trans (shapeCast_apply _ _ _ _ ?_)
  · rw [Shape.rowMajor_val_two, Shape.rowMajor_val_three]
    show (l.val * 3 + j.val / 256) * 256 + j.val % 256 = l.val * 768 + j.val
    omega
  · rw [Shape.rowMajor_val_three, Shape.rowMajor_val_four]
    show ((l.val * 3 + j.val / 256) * 1 + 0) * 256 + j.val % 256 = (l.val * 3 + j.val / 256) * 256 + j.val % 256
    omega
/-- The reference's `w1` is the array the mathematics says. -/
theorem w1_arr : w1 w13 = arr 2048 768 .f32 (ops x dy w13 w2).w1 := ext2 fun l j => by
  unfold w1; rw [merge_at]
  refine (extractStridedSlice_apply _ _ _ _ (ix4 l ⟨j.val / 256, by have := j.isLt; omega⟩ (0 : Fin 2) ⟨j.val % 256, by omega⟩) (fun a => ?_)).trans ((pairs_at w13 _ _ _ _).trans ?_)
  · match a with
    | ⟨0, _⟩ => show l.val = 0 + l.val; omega
    | ⟨1, _⟩ => show j.val / 256 = 0 + j.val / 256; omega
    | ⟨2, _⟩ => rfl
    | ⟨3, _⟩ => show j.val % 256 = 0 + j.val % 256; omega
  · exact congrArg (of (φ := .bf16) w13 l.val) (show 512 * (j.val / 256) + 256 * 0 + j.val % 256 = 512 * (j.val / 256) + j.val % 256 by omega)
/-- The reference's `w3` is the array the mathematics says. -/
theorem w3_arr : w3 w13 = arr 2048 768 .f32 (ops x dy w13 w2).w3 := ext2 fun l j => by
  unfold w3; rw [merge_at]
  refine (extractStridedSlice_apply _ _ _ _ (ix4 l ⟨j.val / 256, by have := j.isLt; omega⟩ (1 : Fin 2) ⟨j.val % 256, by omega⟩) (fun a => ?_)).trans ((pairs_at w13 _ _ _ _).trans ?_)
  · match a with
    | ⟨0, _⟩ => show l.val = 0 + l.val; omega
    | ⟨1, _⟩ => show j.val / 256 = 0 + j.val / 256; omega
    | ⟨2, _⟩ => rfl
    | ⟨3, _⟩ => show j.val % 256 = 0 + j.val % 256; omega
  · exact congrArg (of (φ := .bf16) w13 l.val) (show 512 * (j.val / 256) + 256 * 1 + j.val % 256 = 512 * (j.val / 256) + 256 + j.val % 256 by omega)

/-- The reference's `x` quantised along rows and widened is the array the mathematics says. -/
theorem xw_arr : xw x = arr 12288 2048 .f32 (ops x dy w13 w2).xw := by unfold xw; rw [xF_arr]; exact rowWide_arr (k := 16) cut16 e4 _
/-- The reference's `dy` quantised along rows and widened is the array the mathematics says. -/
theorem dyw_arr : dyw dy = arr 12288 2048 .f32 (ops x dy w13 w2).dyw := by unfold dyw; rw [xF_arr]; exact rowWide_arr (k := 16) cut16 e5 _
/-- The reference's `a` is the array the mathematics says. -/
theorem a_arr : a x w13 = arr 12288 768 .f32 (ops x dy w13 w2).a := by unfold a; rw [xw_arr x dy w13 w2, w1_arr x dy w13 w2]; exact up_arr _ _
/-- The reference's `b` is the array the mathematics says. -/
theorem b_arr : b x w13 = arr 12288 768 .f32 (ops x dy w13 w2).b := by unfold b; rw [xw_arr x dy w13 w2, w3_arr x dy w13 w2]; exact up_arr _ _
/-- The reference's `dh` is the array the mathematics says. -/
theorem dh_arr : dh dy w2 = arr 12288 768 .f32 (ops x dy w13 w2).dh := by unfold dh; rw [dyw_arr x dy w13 w2, w2F_arr]; exact upT_arr _ _
/-- The reference's `h` is the array the mathematics says. -/
theorem h_arr : h x w13 = arr 12288 768 .f32 (ops x dy w13 w2).h := by unfold h; rw [a_arr x dy w13 w2, b_arr x dy w13 w2]; rfl
/-- The reference's `da` is the array the mathematics says. -/
theorem da_arr : da x dy w13 w2 = arr 12288 768 .f32 (ops x dy w13 w2).da := by unfold da; rw [a_arr x dy w13 w2, b_arr x dy w13 w2, dh_arr x dy w13 w2]; rfl
/-- The reference's `db` is the array the mathematics says. -/
theorem db_arr : db x dy w13 w2 = arr 12288 768 .f32 (ops x dy w13 w2).db := by unfold db; rw [a_arr x dy w13 w2, dh_arr x dy w13 w2]; rfl
/-- The reference's `h` quantised along rows and widened is the array the mathematics says. -/
theorem hw_arr : hw x w13 = arr 12288 768 .f32 (ops x dy w13 w2).hw := by unfold hw; rw [h_arr x dy w13 w2]; exact rowWide_arr (k := 6) cut6 e4 _
/-- The reference's `da` quantised along rows and widened is the array the mathematics says. -/
theorem daw_arr : daw x dy w13 w2 = arr 12288 768 .f32 (ops x dy w13 w2).daw := by unfold daw; rw [da_arr]; exact rowWide_arr (k := 6) cut6 e5 _
/-- The reference's `db` quantised along rows and widened is the array the mathematics says. -/
theorem dbw_arr : dbw x dy w13 w2 = arr 12288 768 .f32 (ops x dy w13 w2).dbw := by unfold dbw; rw [db_arr]; exact rowWide_arr (k := 6) cut6 e5 _
/-- The reference's `xw` quantised along columns and widened is the array the mathematics says. -/
theorem xcw_arr : xcw x = arr 12288 2048 .f32 (ops x dy w13 w2).xcw := by unfold xcw; rw [xw_arr x dy w13 w2]; exact colWide_arr (k := 96) down2048 e4 _
/-- The reference's `dy` quantised along columns and widened is the array the mathematics says. -/
theorem dycw_arr : dycw dy = arr 12288 2048 .f32 (ops x dy w13 w2).dycw := by unfold dycw; rw [xF_arr]; exact colWide_arr (k := 96) down2048 e5 _
/-- The reference's `hw` quantised along columns and widened is the array the mathematics says. -/
theorem hcw_arr : hcw x w13 = arr 12288 768 .f32 (ops x dy w13 w2).hcw := by unfold hcw; rw [hw_arr x dy w13 w2]; exact colWide_arr (k := 96) down768 e4 _
/-- The reference's `da` quantised along columns and widened is the array the mathematics says. -/
theorem dacw_arr : dacw x dy w13 w2 = arr 12288 768 .f32 (ops x dy w13 w2).dacw := by unfold dacw; rw [da_arr]; exact colWide_arr (k := 96) down768 e5 _
/-- The reference's `db` quantised along columns and widened is the array the mathematics says. -/
theorem dbcw_arr : dbcw x dy w13 w2 = arr 12288 768 .f32 (ops x dy w13 w2).dbcw := by unfold dbcw; rw [db_arr]; exact colWide_arr (k := 96) down768 e5 _

/-! The outputs. -/

/-- The reference's `dw1` is the array the mathematics says. -/
theorem dw1_arr : dw1 x dy w13 w2 = arr 2048 768 .f32 (ops x dy w13 w2).dw1 := by unfold dw1; rw [xcw_arr x dy w13 w2, dacw_arr, gradUp_arr]; rfl
/-- The reference's `dw3` is the array the mathematics says. -/
theorem dw3_arr : dw3 x dy w13 w2 = arr 2048 768 .f32 (ops x dy w13 w2).dw3 := by unfold dw3; rw [xcw_arr x dy w13 w2, dbcw_arr, gradUp_arr]; rfl
/-- The reference's `dw2` is the array the mathematics says. -/
theorem dw2_arr : dw2 x dy w13 = arr 768 2048 .f32 (ops x dy w13 w2).dw2 := by unfold dw2; rw [hcw_arr x dy w13 w2, dycw_arr x dy w13 w2, gradDown_arr]; rfl

/-- The reference's `y` is the array the mathematics says. -/
theorem y_arr : y x w13 w2 = arr 12288 2048 .bf16 (ops x dy w13 w2).y := by
  unfold y; rw [hw_arr x dy w13 w2, w2F_arr, down_arr]; rfl
/-- The reference's `dx` is the array the mathematics says. -/
theorem dx_arr : dx x dy w13 w2 = arr 12288 2048 .bf16 (ops x dy w13 w2).dx := by
  unfold dx; rw [daw_arr, dbw_arr, w1_arr x dy w13 w2, w3_arr x dy w13 w2, downT_arr, downT_arr]; rfl
/-- The reference's row codes of `x` is the array the mathematics says. -/
theorem xq_arr : rowCode cut16 e4 (xF x) = arr 12288 2048 .fp8e4m3 (Spec.rowCode n4 (ops x dy w13 w2).x) := by rw [xF_arr]; exact rowCode_arr (k := 16) cut16 e4 _
/-- The reference's row scales of `x` is the array the mathematics says. -/
theorem xs_arr : rowScale cut16 e4 (xF x) = arr 12288 16 .f32 (Spec.rowScale n4 (ops x dy w13 w2).x) := by rw [xF_arr]; exact rowScale_arr (k := 16) cut16 e4 _
/-- The reference's row codes of `h` is the array the mathematics says. -/
theorem hq_arr : rowCode cut6 e4 (h x w13) = arr 12288 768 .fp8e4m3 (Spec.rowCode n4 (ops x dy w13 w2).h) := by rw [h_arr x dy w13 w2]; exact rowCode_arr (k := 6) cut6 e4 _
/-- The reference's row scales of `h` is the array the mathematics says. -/
theorem hs_arr : rowScale cut6 e4 (h x w13) = arr 12288 6 .f32 (Spec.rowScale n4 (ops x dy w13 w2).h) := by rw [h_arr x dy w13 w2]; exact rowScale_arr (k := 6) cut6 e4 _
/-- The reference's row codes of `dy` is the array the mathematics says. -/
theorem dyq_arr : rowCode cut16 e5 (xF dy) = arr 12288 2048 .fp8e5m2 (Spec.rowCode n5 (ops x dy w13 w2).dy) := by rw [xF_arr]; exact rowCode_arr (k := 16) cut16 e5 _
/-- The reference's row scales of `dy` is the array the mathematics says. -/
theorem dys_arr : rowScale cut16 e5 (xF dy) = arr 12288 16 .f32 (Spec.rowScale n5 (ops x dy w13 w2).dy) := by rw [xF_arr]; exact rowScale_arr (k := 16) cut16 e5 _
/-- The reference's column codes of `dy` is the array the mathematics says. -/
theorem dycq_arr : colCode down2048 e5 (xF dy) = arr 12288 2048 .fp8e5m2 (Spec.colCode n5 (ops x dy w13 w2).dy) := by rw [xF_arr]; exact colCode_arr (k := 96) down2048 e5 _
/-- The reference's column codes of `hw` is the array the mathematics says. -/
theorem hcq_arr : colCode down768 e4 (hw x w13) = arr 12288 768 .fp8e4m3 (Spec.colCode n4 (ops x dy w13 w2).hw) := by rw [hw_arr x dy w13 w2]; exact colCode_arr (k := 96) down768 e4 _
/-- The reference's row codes of `da` is the array the mathematics says. -/
theorem daq_arr : rowCode cut6 e5 (da x dy w13 w2) = arr 12288 768 .fp8e5m2 (Spec.rowCode n5 (ops x dy w13 w2).da) := by rw [da_arr]; exact rowCode_arr (k := 6) cut6 e5 _
/-- The reference's row scales of `da` is the array the mathematics says. -/
theorem das_arr : rowScale cut6 e5 (da x dy w13 w2) = arr 12288 6 .f32 (Spec.rowScale n5 (ops x dy w13 w2).da) := by rw [da_arr]; exact rowScale_arr (k := 6) cut6 e5 _
/-- The reference's row codes of `db` is the array the mathematics says. -/
theorem dbq_arr : rowCode cut6 e5 (db x dy w13 w2) = arr 12288 768 .fp8e5m2 (Spec.rowCode n5 (ops x dy w13 w2).db) := by rw [db_arr]; exact rowCode_arr (k := 6) cut6 e5 _
/-- The reference's row scales of `db` is the array the mathematics says. -/
theorem dbs_arr : rowScale cut6 e5 (db x dy w13 w2) = arr 12288 6 .f32 (Spec.rowScale n5 (ops x dy w13 w2).db) := by rw [db_arr]; exact rowScale_arr (k := 6) cut6 e5 _
/-- The reference's column codes of `xw` is the array the mathematics says. -/
theorem xcq_arr : colCode down2048 e4 (xw x) = arr 12288 2048 .fp8e4m3 (Spec.colCode n4 (ops x dy w13 w2).xw) := by rw [xw_arr x dy w13 w2]; exact colCode_arr (k := 96) down2048 e4 _
/-- The reference's column codes of `da` is the array the mathematics says. -/
theorem dacq_arr : colCode down768 e5 (da x dy w13 w2) = arr 12288 768 .fp8e5m2 (Spec.colCode n5 (ops x dy w13 w2).da) := by rw [da_arr]; exact colCode_arr (k := 96) down768 e5 _
/-- The reference's column codes of `db` is the array the mathematics says. -/
theorem dbcq_arr : colCode down768 e5 (db x dy w13 w2) = arr 12288 768 .fp8e5m2 (Spec.colCode n5 (ops x dy w13 w2).db) := by rw [db_arr]; exact colCode_arr (k := 96) down768 e5 _
end

end Cert.ReferenceIdeal.Whole

end
-- ==== Proof.RefFinal.lean ====
/- The reference's run: every output array ends as one array of the step's mathematics on the operands. -/
module

public import proofs.«01_k».proof.Proof.RefRead
public import proofs.«01_k».proof.Proof.Gen.ReferenceIdeal.Points

@[expose] public section

set_option maxRecDepth 16384

noncomputable section

namespace Cert.ReferenceIdeal.Whole

open Idealize.ShloMosaic Idealize.ShloMosaic.TcCoe Idealize.SL.Sem Cert.ReferenceIdeal.Gen
open Idealize.ShloMosaic.Pipeline (Dat)
open Cert.Spec (Ops arr of n4 n5)

variable (m : (ℓ : Loc nD τ sig) → Buf (Elt Ideal) ℓ) (ρ : Dev nD → PrngReg)

/-- The one grid point. -/
abbrev t0 : Fin cfg0.N := ⟨0, by decide⟩

/-- Every window's block is its whole array: its index is zero on both axes. -/
theorem index_zero : ∀ (w : Fin cfg0.W) (t : Fin cfg0.N) (a), (cfg0.win w).index t a = 0 :=
  (by decide +kernel : ∀ (w : Fin cfg0.W) (t : Fin grid0.N) (a), (cfg0.win w).index t a = 0)

/-- An index at offset zero is the index itself. -/
theorem at_zero {s : Shape} {i j : s.Idx} {k : Fin s.rank → ℕ} (hk : ∀ a, k a = 0) (h : ∀ a, (i a).val = k a * s.size a + 1 * (j a).val) : i = j :=
  funext fun a => Fin.ext ((h a).trans (by rw [hk a]; omega))

/-- The operands a device is launched with. -/
abbrev launched (c : Dev nD) : Ops := ops (m ((c.tc : Thread nD τ).loc main_arg0)) (m ((c.tc : Thread nD τ).loc main_arg1))
  (m ((c.tc : Thread nD τ).loc main_arg2)) (m ((c.tc : Thread nD τ).loc main_arg3))

/-- The body reads each operand whole. -/
theorem iblk_0 (c : Dev nD) (t : Fin cfg0.N) : iblk m c 0 t = m ((c.tc : Thread nD τ).loc main_arg0) :=
  (funext fun j => congrArg (V m c main_arg0) (at_zero (s := S12288x2048) (j := j) (index_zero 0 t) fun _ => rfl)).trans (V_main_arg0 m c)
@[inherit_doc iblk_0]
theorem iblk_1 (c : Dev nD) (t : Fin cfg0.N) : iblk m c 1 t = m ((c.tc : Thread nD τ).loc main_arg1) :=
  (funext fun j => congrArg (V m c main_arg1) (at_zero (s := S12288x2048) (j := j) (index_zero 1 t) fun _ => rfl)).trans (V_main_arg1 m c)
@[inherit_doc iblk_0]
theorem iblk_2 (c : Dev nD) (t : Fin cfg0.N) : iblk m c 2 t = m ((c.tc : Thread nD τ).loc main_arg2) :=
  (funext fun j => congrArg (V m c main_arg2) (at_zero (s := S2048x1536) (j := j) (index_zero 2 t) fun _ => rfl)).trans (V_main_arg2 m c)
@[inherit_doc iblk_0]
theorem iblk_3 (c : Dev nD) (t : Fin cfg0.N) : iblk m c 3 t = m ((c.tc : Thread nD τ).loc main_arg3) :=
  (funext fun j => congrArg (V m c main_arg3) (at_zero (s := S768x2048) (j := j) (index_zero 3 t) fun _ => rfl)).trans (V_main_arg3 m c)

/-! What the body leaves in each output. -/

/-- What the body leaves in `y`. -/
theorem left_y (c : Dev nD) (t : Fin cfg0.N) : (dats m 0 c).after 4 t = arr 12288 2048 .bf16 (launched m c).y := by
  rw [after0_4, iblk_0, iblk_1, iblk_2, iblk_3, out_y]; exact y_arr _ _ _ _
/-- What the body leaves in `dx`. -/
theorem left_dx (c : Dev nD) (t : Fin cfg0.N) : (dats m 0 c).after 5 t = arr 12288 2048 .bf16 (launched m c).dx := by
  rw [after0_5, iblk_0, iblk_1, iblk_2, iblk_3, out_dx]; exact dx_arr _ _ _ _
/-- What the body leaves in `dw1`. -/
theorem left_dw1 (c : Dev nD) (t : Fin cfg0.N) : (dats m 0 c).after 6 t = arr 2048 768 .f32 (launched m c).dw1 := by
  rw [after0_6, iblk_0, iblk_1, iblk_2, iblk_3, out_dw1]; exact dw1_arr _ _ _ _
/-- What the body leaves in `dw3`. -/
theorem left_dw3 (c : Dev nD) (t : Fin cfg0.N) : (dats m 0 c).after 7 t = arr 2048 768 .f32 (launched m c).dw3 := by
  rw [after0_7, iblk_0, iblk_1, iblk_2, iblk_3, out_dw3]; exact dw3_arr _ _ _ _
/-- What the body leaves in `dw2`. -/
theorem left_dw2 (c : Dev nD) (t : Fin cfg0.N) : (dats m 0 c).after 8 t = arr 768 2048 .f32 (launched m c).dw2 := by
  rw [after0_8, iblk_0, iblk_1, iblk_2, iblk_3, out_dw2]; exact dw2_arr _ _ _ _
/-- What the body leaves in `xq`. -/
theorem left_xq (c : Dev nD) (t : Fin cfg0.N) : (dats m 0 c).after 9 t = arr 12288 2048 .fp8e4m3 (Spec.rowCode n4 (launched m c).x) := by
  rw [after0_9, iblk_0, iblk_1, iblk_2, iblk_3, out_xq]; exact xq_arr _ _ _ _
/-- What the body leaves in `xs`. -/
theorem left_xs (c : Dev nD) (t : Fin cfg0.N) : (dats m 0 c).after 10 t = arr 12288 16 .f32 (Spec.rowScale n4 (launched m c).x) := by
  rw [after0_10, iblk_0, iblk_1, iblk_2, iblk_3, out_xs]; exact xs_arr _ _ _ _
/-- What the body leaves in `hq`. -/
theorem left_hq (c : Dev nD) (t : Fin cfg0.N) : (dats m 0 c).after 11 t = arr 12288 768 .fp8e4m3 (Spec.rowCode n4 (launched m c).h) := by
  rw [after0_11, iblk_0, iblk_1, iblk_2, iblk_3, out_hq]; exact hq_arr _ _ _ _
/-- What the body leaves in `hs`. -/
theorem left_hs (c : Dev nD) (t : Fin cfg0.N) : (dats m 0 c).after 12 t = arr 12288 6 .f32 (Spec.rowScale n4 (launched m c).h) := by
  rw [after0_12, iblk_0, iblk_1, iblk_2, iblk_3, out_hs]; exact hs_arr _ _ _ _
/-- What the body leaves in `dyq`. -/
theorem left_dyq (c : Dev nD) (t : Fin cfg0.N) : (dats m 0 c).after 13 t = arr 12288 2048 .fp8e5m2 (Spec.rowCode n5 (launched m c).dy) := by
  rw [after0_13, iblk_0, iblk_1, iblk_2, iblk_3, out_dyq]; exact dyq_arr _ _ _ _
/-- What the body leaves in `dys`. -/
theorem left_dys (c : Dev nD) (t : Fin cfg0.N) : (dats m 0 c).after 14 t = arr 12288 16 .f32 (Spec.rowScale n5 (launched m c).dy) := by
  rw [after0_14, iblk_0, iblk_1, iblk_2, iblk_3, out_dys]; exact dys_arr _ _ _ _
/-- What the body leaves in `dycq`. -/
theorem left_dycq (c : Dev nD) (t : Fin cfg0.N) : (dats m 0 c).after 15 t = arr 12288 2048 .fp8e5m2 (Spec.colCode n5 (launched m c).dy) := by
  rw [after0_15, iblk_0, iblk_1, iblk_2, iblk_3, out_dycq]; exact dycq_arr _ _ _ _
/-- What the body leaves in `hcq`. -/
theorem left_hcq (c : Dev nD) (t : Fin cfg0.N) : (dats m 0 c).after 16 t = arr 12288 768 .fp8e4m3 (Spec.colCode n4 (launched m c).hw) := by
  rw [after0_16, iblk_0, iblk_1, iblk_2, iblk_3, out_hcq]; exact hcq_arr _ _ _ _
/-- What the body leaves in `daq`. -/
theorem left_daq (c : Dev nD) (t : Fin cfg0.N) : (dats m 0 c).after 17 t = arr 12288 768 .fp8e5m2 (Spec.rowCode n5 (launched m c).da) := by
  rw [after0_17, iblk_0, iblk_1, iblk_2, iblk_3, out_daq]; exact daq_arr _ _ _ _
/-- What the body leaves in `das`. -/
theorem left_das (c : Dev nD) (t : Fin cfg0.N) : (dats m 0 c).after 18 t = arr 12288 6 .f32 (Spec.rowScale n5 (launched m c).da) := by
  rw [after0_18, iblk_0, iblk_1, iblk_2, iblk_3, out_das]; exact das_arr _ _ _ _
/-- What the body leaves in `dbq`. -/
theorem left_dbq (c : Dev nD) (t : Fin cfg0.N) : (dats m 0 c).after 19 t = arr 12288 768 .fp8e5m2 (Spec.rowCode n5 (launched m c).db) := by
  rw [after0_19, iblk_0, iblk_1, iblk_2, iblk_3, out_dbq]; exact dbq_arr _ _ _ _
/-- What the body leaves in `dbs`. -/
theorem left_dbs (c : Dev nD) (t : Fin cfg0.N) : (dats m 0 c).after 20 t = arr 12288 6 .f32 (Spec.rowScale n5 (launched m c).db) := by
  rw [after0_20, iblk_0, iblk_1, iblk_2, iblk_3, out_dbs]; exact dbs_arr _ _ _ _
/-- What the body leaves in `xcq`. -/
theorem left_xcq (c : Dev nD) (t : Fin cfg0.N) : (dats m 0 c).after 21 t = arr 12288 2048 .fp8e4m3 (Spec.colCode n4 (launched m c).xw) := by
  rw [after0_21, iblk_0, iblk_1, iblk_2, iblk_3, out_xcq]; exact xcq_arr _ _ _ _
/-- What the body leaves in `dacq`. -/
theorem left_dacq (c : Dev nD) (t : Fin cfg0.N) : (dats m 0 c).after 22 t = arr 12288 768 .fp8e5m2 (Spec.colCode n5 (launched m c).da) := by
  rw [after0_22, iblk_0, iblk_1, iblk_2, iblk_3, out_dacq]; exact dacq_arr _ _ _ _
/-- What the body leaves in `dbcq`. -/
theorem left_dbcq (c : Dev nD) (t : Fin cfg0.N) : (dats m 0 c).after 23 t = arr 12288 768 .fp8e5m2 (Spec.colCode n5 (launched m c).db) := by
  rw [after0_23, iblk_0, iblk_1, iblk_2, iblk_3, out_dbcq]; exact dbcq_arr _ _ _ _

/-! The output arrays: the point writes each back whole. -/

/-- The array `y` of the run. -/
theorem final_y (c : Dev nD) : (dats m 0 c).arrAt 4 cfg0.N = arr 12288 2048 .bf16 (launched m c).y :=
  (dats m 0 c).arrAt_eq_of_cover 4 (arr 12288 2048 .bf16 (launched m c).y)
    (fun t _ => (congrArg ((cfg0.win 4).cut (grid0.coords t)) (left_y m c t)).trans
      (funext fun j => (congrArg (arr 12288 2048 .bf16 (launched m c).y) (at_zero (s := S12288x2048) (j := j) (index_zero 4 t) fun _ => rfl)).symm))
    fun i => ⟨t0, flush0_4 _, by
      have h := ((cfg0.win 4).blk t0).view.emb_mem_set i
      rwa [show ((cfg0.win 4).blk t0).view.emb i = i from at_zero (s := S12288x2048) (j := i) (index_zero 4 t0) fun _ => rfl] at h⟩
/-- The array `dx` of the run. -/
theorem final_dx (c : Dev nD) : (dats m 0 c).arrAt 5 cfg0.N = arr 12288 2048 .bf16 (launched m c).dx :=
  (dats m 0 c).arrAt_eq_of_cover 5 (arr 12288 2048 .bf16 (launched m c).dx)
    (fun t _ => (congrArg ((cfg0.win 5).cut (grid0.coords t)) (left_dx m c t)).trans
      (funext fun j => (congrArg (arr 12288 2048 .bf16 (launched m c).dx) (at_zero (s := S12288x2048) (j := j) (index_zero 5 t) fun _ => rfl)).symm))
    fun i => ⟨t0, flush0_5 _, by
      have h := ((cfg0.win 5).blk t0).view.emb_mem_set i
      rwa [show ((cfg0.win 5).blk t0).view.emb i = i from at_zero (s := S12288x2048) (j := i) (index_zero 5 t0) fun _ => rfl] at h⟩
/-- The array `dw1` of the run. -/
theorem final_dw1 (c : Dev nD) : (dats m 0 c).arrAt 6 cfg0.N = arr 2048 768 .f32 (launched m c).dw1 :=
  (dats m 0 c).arrAt_eq_of_cover 6 (arr 2048 768 .f32 (launched m c).dw1)
    (fun t _ => (congrArg ((cfg0.win 6).cut (grid0.coords t)) (left_dw1 m c t)).trans
      (funext fun j => (congrArg (arr 2048 768 .f32 (launched m c).dw1) (at_zero (s := S2048x768) (j := j) (index_zero 6 t) fun _ => rfl)).symm))
    fun i => ⟨t0, flush0_6 _, by
      have h := ((cfg0.win 6).blk t0).view.emb_mem_set i
      rwa [show ((cfg0.win 6).blk t0).view.emb i = i from at_zero (s := S2048x768) (j := i) (index_zero 6 t0) fun _ => rfl] at h⟩
/-- The array `dw3` of the run. -/
theorem final_dw3 (c : Dev nD) : (dats m 0 c).arrAt 7 cfg0.N = arr 2048 768 .f32 (launched m c).dw3 :=
  (dats m 0 c).arrAt_eq_of_cover 7 (arr 2048 768 .f32 (launched m c).dw3)
    (fun t _ => (congrArg ((cfg0.win 7).cut (grid0.coords t)) (left_dw3 m c t)).trans
      (funext fun j => (congrArg (arr 2048 768 .f32 (launched m c).dw3) (at_zero (s := S2048x768) (j := j) (index_zero 7 t) fun _ => rfl)).symm))
    fun i => ⟨t0, flush0_7 _, by
      have h := ((cfg0.win 7).blk t0).view.emb_mem_set i
      rwa [show ((cfg0.win 7).blk t0).view.emb i = i from at_zero (s := S2048x768) (j := i) (index_zero 7 t0) fun _ => rfl] at h⟩
/-- The array `dw2` of the run. -/
theorem final_dw2 (c : Dev nD) : (dats m 0 c).arrAt 8 cfg0.N = arr 768 2048 .f32 (launched m c).dw2 :=
  (dats m 0 c).arrAt_eq_of_cover 8 (arr 768 2048 .f32 (launched m c).dw2)
    (fun t _ => (congrArg ((cfg0.win 8).cut (grid0.coords t)) (left_dw2 m c t)).trans
      (funext fun j => (congrArg (arr 768 2048 .f32 (launched m c).dw2) (at_zero (s := S768x2048) (j := j) (index_zero 8 t) fun _ => rfl)).symm))
    fun i => ⟨t0, flush0_8 _, by
      have h := ((cfg0.win 8).blk t0).view.emb_mem_set i
      rwa [show ((cfg0.win 8).blk t0).view.emb i = i from at_zero (s := S768x2048) (j := i) (index_zero 8 t0) fun _ => rfl] at h⟩
/-- The array `xq` of the run. -/
theorem final_xq (c : Dev nD) : (dats m 0 c).arrAt 9 cfg0.N = arr 12288 2048 .fp8e4m3 (Spec.rowCode n4 (launched m c).x) :=
  (dats m 0 c).arrAt_eq_of_cover 9 (arr 12288 2048 .fp8e4m3 (Spec.rowCode n4 (launched m c).x))
    (fun t _ => (congrArg ((cfg0.win 9).cut (grid0.coords t)) (left_xq m c t)).trans
      (funext fun j => (congrArg (arr 12288 2048 .fp8e4m3 (Spec.rowCode n4 (launched m c).x)) (at_zero (s := S12288x2048) (j := j) (index_zero 9 t) fun _ => rfl)).symm))
    fun i => ⟨t0, flush0_9 _, by
      have h := ((cfg0.win 9).blk t0).view.emb_mem_set i
      rwa [show ((cfg0.win 9).blk t0).view.emb i = i from at_zero (s := S12288x2048) (j := i) (index_zero 9 t0) fun _ => rfl] at h⟩
/-- The array `xs` of the run. -/
theorem final_xs (c : Dev nD) : (dats m 0 c).arrAt 10 cfg0.N = arr 12288 16 .f32 (Spec.rowScale n4 (launched m c).x) :=
  (dats m 0 c).arrAt_eq_of_cover 10 (arr 12288 16 .f32 (Spec.rowScale n4 (launched m c).x))
    (fun t _ => (congrArg ((cfg0.win 10).cut (grid0.coords t)) (left_xs m c t)).trans
      (funext fun j => (congrArg (arr 12288 16 .f32 (Spec.rowScale n4 (launched m c).x)) (at_zero (s := S12288x16) (j := j) (index_zero 10 t) fun _ => rfl)).symm))
    fun i => ⟨t0, flush0_10 _, by
      have h := ((cfg0.win 10).blk t0).view.emb_mem_set i
      rwa [show ((cfg0.win 10).blk t0).view.emb i = i from at_zero (s := S12288x16) (j := i) (index_zero 10 t0) fun _ => rfl] at h⟩
/-- The array `hq` of the run. -/
theorem final_hq (c : Dev nD) : (dats m 0 c).arrAt 11 cfg0.N = arr 12288 768 .fp8e4m3 (Spec.rowCode n4 (launched m c).h) :=
  (dats m 0 c).arrAt_eq_of_cover 11 (arr 12288 768 .fp8e4m3 (Spec.rowCode n4 (launched m c).h))
    (fun t _ => (congrArg ((cfg0.win 11).cut (grid0.coords t)) (left_hq m c t)).trans
      (funext fun j => (congrArg (arr 12288 768 .fp8e4m3 (Spec.rowCode n4 (launched m c).h)) (at_zero (s := S12288x768) (j := j) (index_zero 11 t) fun _ => rfl)).symm))
    fun i => ⟨t0, flush0_11 _, by
      have h := ((cfg0.win 11).blk t0).view.emb_mem_set i
      rwa [show ((cfg0.win 11).blk t0).view.emb i = i from at_zero (s := S12288x768) (j := i) (index_zero 11 t0) fun _ => rfl] at h⟩
/-- The array `hs` of the run. -/
theorem final_hs (c : Dev nD) : (dats m 0 c).arrAt 12 cfg0.N = arr 12288 6 .f32 (Spec.rowScale n4 (launched m c).h) :=
  (dats m 0 c).arrAt_eq_of_cover 12 (arr 12288 6 .f32 (Spec.rowScale n4 (launched m c).h))
    (fun t _ => (congrArg ((cfg0.win 12).cut (grid0.coords t)) (left_hs m c t)).trans
      (funext fun j => (congrArg (arr 12288 6 .f32 (Spec.rowScale n4 (launched m c).h)) (at_zero (s := S12288x6) (j := j) (index_zero 12 t) fun _ => rfl)).symm))
    fun i => ⟨t0, flush0_12 _, by
      have h := ((cfg0.win 12).blk t0).view.emb_mem_set i
      rwa [show ((cfg0.win 12).blk t0).view.emb i = i from at_zero (s := S12288x6) (j := i) (index_zero 12 t0) fun _ => rfl] at h⟩
/-- The array `dyq` of the run. -/
theorem final_dyq (c : Dev nD) : (dats m 0 c).arrAt 13 cfg0.N = arr 12288 2048 .fp8e5m2 (Spec.rowCode n5 (launched m c).dy) :=
  (dats m 0 c).arrAt_eq_of_cover 13 (arr 12288 2048 .fp8e5m2 (Spec.rowCode n5 (launched m c).dy))
    (fun t _ => (congrArg ((cfg0.win 13).cut (grid0.coords t)) (left_dyq m c t)).trans
      (funext fun j => (congrArg (arr 12288 2048 .fp8e5m2 (Spec.rowCode n5 (launched m c).dy)) (at_zero (s := S12288x2048) (j := j) (index_zero 13 t) fun _ => rfl)).symm))
    fun i => ⟨t0, flush0_13 _, by
      have h := ((cfg0.win 13).blk t0).view.emb_mem_set i
      rwa [show ((cfg0.win 13).blk t0).view.emb i = i from at_zero (s := S12288x2048) (j := i) (index_zero 13 t0) fun _ => rfl] at h⟩
/-- The array `dys` of the run. -/
theorem final_dys (c : Dev nD) : (dats m 0 c).arrAt 14 cfg0.N = arr 12288 16 .f32 (Spec.rowScale n5 (launched m c).dy) :=
  (dats m 0 c).arrAt_eq_of_cover 14 (arr 12288 16 .f32 (Spec.rowScale n5 (launched m c).dy))
    (fun t _ => (congrArg ((cfg0.win 14).cut (grid0.coords t)) (left_dys m c t)).trans
      (funext fun j => (congrArg (arr 12288 16 .f32 (Spec.rowScale n5 (launched m c).dy)) (at_zero (s := S12288x16) (j := j) (index_zero 14 t) fun _ => rfl)).symm))
    fun i => ⟨t0, flush0_14 _, by
      have h := ((cfg0.win 14).blk t0).view.emb_mem_set i
      rwa [show ((cfg0.win 14).blk t0).view.emb i = i from at_zero (s := S12288x16) (j := i) (index_zero 14 t0) fun _ => rfl] at h⟩
/-- The array `dycq` of the run. -/
theorem final_dycq (c : Dev nD) : (dats m 0 c).arrAt 15 cfg0.N = arr 12288 2048 .fp8e5m2 (Spec.colCode n5 (launched m c).dy) :=
  (dats m 0 c).arrAt_eq_of_cover 15 (arr 12288 2048 .fp8e5m2 (Spec.colCode n5 (launched m c).dy))
    (fun t _ => (congrArg ((cfg0.win 15).cut (grid0.coords t)) (left_dycq m c t)).trans
      (funext fun j => (congrArg (arr 12288 2048 .fp8e5m2 (Spec.colCode n5 (launched m c).dy)) (at_zero (s := S12288x2048) (j := j) (index_zero 15 t) fun _ => rfl)).symm))
    fun i => ⟨t0, flush0_15 _, by
      have h := ((cfg0.win 15).blk t0).view.emb_mem_set i
      rwa [show ((cfg0.win 15).blk t0).view.emb i = i from at_zero (s := S12288x2048) (j := i) (index_zero 15 t0) fun _ => rfl] at h⟩
/-- The array `hcq` of the run. -/
theorem final_hcq (c : Dev nD) : (dats m 0 c).arrAt 16 cfg0.N = arr 12288 768 .fp8e4m3 (Spec.colCode n4 (launched m c).hw) :=
  (dats m 0 c).arrAt_eq_of_cover 16 (arr 12288 768 .fp8e4m3 (Spec.colCode n4 (launched m c).hw))
    (fun t _ => (congrArg ((cfg0.win 16).cut (grid0.coords t)) (left_hcq m c t)).trans
      (funext fun j => (congrArg (arr 12288 768 .fp8e4m3 (Spec.colCode n4 (launched m c).hw)) (at_zero (s := S12288x768) (j := j) (index_zero 16 t) fun _ => rfl)).symm))
    fun i => ⟨t0, flush0_16 _, by
      have h := ((cfg0.win 16).blk t0).view.emb_mem_set i
      rwa [show ((cfg0.win 16).blk t0).view.emb i = i from at_zero (s := S12288x768) (j := i) (index_zero 16 t0) fun _ => rfl] at h⟩
/-- The array `daq` of the run. -/
theorem final_daq (c : Dev nD) : (dats m 0 c).arrAt 17 cfg0.N = arr 12288 768 .fp8e5m2 (Spec.rowCode n5 (launched m c).da) :=
  (dats m 0 c).arrAt_eq_of_cover 17 (arr 12288 768 .fp8e5m2 (Spec.rowCode n5 (launched m c).da))
    (fun t _ => (congrArg ((cfg0.win 17).cut (grid0.coords t)) (left_daq m c t)).trans
      (funext fun j => (congrArg (arr 12288 768 .fp8e5m2 (Spec.rowCode n5 (launched m c).da)) (at_zero (s := S12288x768) (j := j) (index_zero 17 t) fun _ => rfl)).symm))
    fun i => ⟨t0, flush0_17 _, by
      have h := ((cfg0.win 17).blk t0).view.emb_mem_set i
      rwa [show ((cfg0.win 17).blk t0).view.emb i = i from at_zero (s := S12288x768) (j := i) (index_zero 17 t0) fun _ => rfl] at h⟩
/-- The array `das` of the run. -/
theorem final_das (c : Dev nD) : (dats m 0 c).arrAt 18 cfg0.N = arr 12288 6 .f32 (Spec.rowScale n5 (launched m c).da) :=
  (dats m 0 c).arrAt_eq_of_cover 18 (arr 12288 6 .f32 (Spec.rowScale n5 (launched m c).da))
    (fun t _ => (congrArg ((cfg0.win 18).cut (grid0.coords t)) (left_das m c t)).trans
      (funext fun j => (congrArg (arr 12288 6 .f32 (Spec.rowScale n5 (launched m c).da)) (at_zero (s := S12288x6) (j := j) (index_zero 18 t) fun _ => rfl)).symm))
    fun i => ⟨t0, flush0_18 _, by
      have h := ((cfg0.win 18).blk t0).view.emb_mem_set i
      rwa [show ((cfg0.win 18).blk t0).view.emb i = i from at_zero (s := S12288x6) (j := i) (index_zero 18 t0) fun _ => rfl] at h⟩
/-- The array `dbq` of the run. -/
theorem final_dbq (c : Dev nD) : (dats m 0 c).arrAt 19 cfg0.N = arr 12288 768 .fp8e5m2 (Spec.rowCode n5 (launched m c).db) :=
  (dats m 0 c).arrAt_eq_of_cover 19 (arr 12288 768 .fp8e5m2 (Spec.rowCode n5 (launched m c).db))
    (fun t _ => (congrArg ((cfg0.win 19).cut (grid0.coords t)) (left_dbq m c t)).trans
      (funext fun j => (congrArg (arr 12288 768 .fp8e5m2 (Spec.rowCode n5 (launched m c).db)) (at_zero (s := S12288x768) (j := j) (index_zero 19 t) fun _ => rfl)).symm))
    fun i => ⟨t0, flush0_19 _, by
      have h := ((cfg0.win 19).blk t0).view.emb_mem_set i
      rwa [show ((cfg0.win 19).blk t0).view.emb i = i from at_zero (s := S12288x768) (j := i) (index_zero 19 t0) fun _ => rfl] at h⟩
/-- The array `dbs` of the run. -/
theorem final_dbs (c : Dev nD) : (dats m 0 c).arrAt 20 cfg0.N = arr 12288 6 .f32 (Spec.rowScale n5 (launched m c).db) :=
  (dats m 0 c).arrAt_eq_of_cover 20 (arr 12288 6 .f32 (Spec.rowScale n5 (launched m c).db))
    (fun t _ => (congrArg ((cfg0.win 20).cut (grid0.coords t)) (left_dbs m c t)).trans
      (funext fun j => (congrArg (arr 12288 6 .f32 (Spec.rowScale n5 (launched m c).db)) (at_zero (s := S12288x6) (j := j) (index_zero 20 t) fun _ => rfl)).symm))
    fun i => ⟨t0, flush0_20 _, by
      have h := ((cfg0.win 20).blk t0).view.emb_mem_set i
      rwa [show ((cfg0.win 20).blk t0).view.emb i = i from at_zero (s := S12288x6) (j := i) (index_zero 20 t0) fun _ => rfl] at h⟩
/-- The array `xcq` of the run. -/
theorem final_xcq (c : Dev nD) : (dats m 0 c).arrAt 21 cfg0.N = arr 12288 2048 .fp8e4m3 (Spec.colCode n4 (launched m c).xw) :=
  (dats m 0 c).arrAt_eq_of_cover 21 (arr 12288 2048 .fp8e4m3 (Spec.colCode n4 (launched m c).xw))
    (fun t _ => (congrArg ((cfg0.win 21).cut (grid0.coords t)) (left_xcq m c t)).trans
      (funext fun j => (congrArg (arr 12288 2048 .fp8e4m3 (Spec.colCode n4 (launched m c).xw)) (at_zero (s := S12288x2048) (j := j) (index_zero 21 t) fun _ => rfl)).symm))
    fun i => ⟨t0, flush0_21 _, by
      have h := ((cfg0.win 21).blk t0).view.emb_mem_set i
      rwa [show ((cfg0.win 21).blk t0).view.emb i = i from at_zero (s := S12288x2048) (j := i) (index_zero 21 t0) fun _ => rfl] at h⟩
/-- The array `dacq` of the run. -/
theorem final_dacq (c : Dev nD) : (dats m 0 c).arrAt 22 cfg0.N = arr 12288 768 .fp8e5m2 (Spec.colCode n5 (launched m c).da) :=
  (dats m 0 c).arrAt_eq_of_cover 22 (arr 12288 768 .fp8e5m2 (Spec.colCode n5 (launched m c).da))
    (fun t _ => (congrArg ((cfg0.win 22).cut (grid0.coords t)) (left_dacq m c t)).trans
      (funext fun j => (congrArg (arr 12288 768 .fp8e5m2 (Spec.colCode n5 (launched m c).da)) (at_zero (s := S12288x768) (j := j) (index_zero 22 t) fun _ => rfl)).symm))
    fun i => ⟨t0, flush0_22 _, by
      have h := ((cfg0.win 22).blk t0).view.emb_mem_set i
      rwa [show ((cfg0.win 22).blk t0).view.emb i = i from at_zero (s := S12288x768) (j := i) (index_zero 22 t0) fun _ => rfl] at h⟩
/-- The array `dbcq` of the run. -/
theorem final_dbcq (c : Dev nD) : (dats m 0 c).arrAt 23 cfg0.N = arr 12288 768 .fp8e5m2 (Spec.colCode n5 (launched m c).db) :=
  (dats m 0 c).arrAt_eq_of_cover 23 (arr 12288 768 .fp8e5m2 (Spec.colCode n5 (launched m c).db))
    (fun t _ => (congrArg ((cfg0.win 23).cut (grid0.coords t)) (left_dbcq m c t)).trans
      (funext fun j => (congrArg (arr 12288 768 .fp8e5m2 (Spec.colCode n5 (launched m c).db)) (at_zero (s := S12288x768) (j := j) (index_zero 23 t) fun _ => rfl)).symm))
    fun i => ⟨t0, flush0_23 _, by
      have h := ((cfg0.win 23).blk t0).view.emb_mem_set i
      rwa [show ((cfg0.win 23).blk t0).view.emb i = i from at_zero (s := S12288x768) (j := i) (index_zero 23 t0) fun _ => rfl] at h⟩

/-! The run, output by output. -/

section
variable (r : PUnit × MemSt nD τ sig (Elt Ideal)) (h : Pipeline.FramePost cfgs (dats m) 0 (V m) r) (c : Dev nD)
include h

/-- `y` at the end. -/
theorem end_y : r.2.mem ((c.tc : Thread nD τ).loc main_v0_0) = arr 12288 2048 .bf16 (launched m c).y := ((h c).1 4).trans (final_y m c)
/-- `dx` at the end. -/
theorem end_dx : r.2.mem ((c.tc : Thread nD τ).loc main_v0_1) = arr 12288 2048 .bf16 (launched m c).dx := ((h c).1 5).trans (final_dx m c)
/-- `dw1` at the end. -/
theorem end_dw1 : r.2.mem ((c.tc : Thread nD τ).loc main_v0_2) = arr 2048 768 .f32 (launched m c).dw1 := ((h c).1 6).trans (final_dw1 m c)
/-- `dw3` at the end. -/
theorem end_dw3 : r.2.mem ((c.tc : Thread nD τ).loc main_v0_3) = arr 2048 768 .f32 (launched m c).dw3 := ((h c).1 7).trans (final_dw3 m c)
/-- `dw2` at the end. -/
theorem end_dw2 : r.2.mem ((c.tc : Thread nD τ).loc main_v0_4) = arr 768 2048 .f32 (launched m c).dw2 := ((h c).1 8).trans (final_dw2 m c)
/-- `xq` at the end. -/
theorem end_xq : r.2.mem ((c.tc : Thread nD τ).loc main_v0_5) = arr 12288 2048 .fp8e4m3 (Spec.rowCode n4 (launched m c).x) := ((h c).1 9).trans (final_xq m c)
/-- `xs` at the end. -/
theorem end_xs : r.2.mem ((c.tc : Thread nD τ).loc main_v0_6) = arr 12288 16 .f32 (Spec.rowScale n4 (launched m c).x) := ((h c).1 10).trans (final_xs m c)
/-- `hq` at the end. -/
theorem end_hq : r.2.mem ((c.tc : Thread nD τ).loc main_v0_7) = arr 12288 768 .fp8e4m3 (Spec.rowCode n4 (launched m c).h) := ((h c).1 11).trans (final_hq m c)
/-- `hs` at the end. -/
theorem end_hs : r.2.mem ((c.tc : Thread nD τ).loc main_v0_8) = arr 12288 6 .f32 (Spec.rowScale n4 (launched m c).h) := ((h c).1 12).trans (final_hs m c)
/-- `dyq` at the end. -/
theorem end_dyq : r.2.mem ((c.tc : Thread nD τ).loc main_v0_9) = arr 12288 2048 .fp8e5m2 (Spec.rowCode n5 (launched m c).dy) := ((h c).1 13).trans (final_dyq m c)
/-- `dys` at the end. -/
theorem end_dys : r.2.mem ((c.tc : Thread nD τ).loc main_v0_10) = arr 12288 16 .f32 (Spec.rowScale n5 (launched m c).dy) := ((h c).1 14).trans (final_dys m c)
/-- `dycq` at the end. -/
theorem end_dycq : r.2.mem ((c.tc : Thread nD τ).loc main_v0_11) = arr 12288 2048 .fp8e5m2 (Spec.colCode n5 (launched m c).dy) := ((h c).1 15).trans (final_dycq m c)
/-- `hcq` at the end. -/
theorem end_hcq : r.2.mem ((c.tc : Thread nD τ).loc main_v0_12) = arr 12288 768 .fp8e4m3 (Spec.colCode n4 (launched m c).hw) := ((h c).1 16).trans (final_hcq m c)
/-- `daq` at the end. -/
theorem end_daq : r.2.mem ((c.tc : Thread nD τ).loc main_v0_13) = arr 12288 768 .fp8e5m2 (Spec.rowCode n5 (launched m c).da) := ((h c).1 17).trans (final_daq m c)
/-- `das` at the end. -/
theorem end_das : r.2.mem ((c.tc : Thread nD τ).loc main_v0_14) = arr 12288 6 .f32 (Spec.rowScale n5 (launched m c).da) := ((h c).1 18).trans (final_das m c)
/-- `dbq` at the end. -/
theorem end_dbq : r.2.mem ((c.tc : Thread nD τ).loc main_v0_15) = arr 12288 768 .fp8e5m2 (Spec.rowCode n5 (launched m c).db) := ((h c).1 19).trans (final_dbq m c)
/-- `dbs` at the end. -/
theorem end_dbs : r.2.mem ((c.tc : Thread nD τ).loc main_v0_16) = arr 12288 6 .f32 (Spec.rowScale n5 (launched m c).db) := ((h c).1 20).trans (final_dbs m c)
/-- `xcq` at the end. -/
theorem end_xcq : r.2.mem ((c.tc : Thread nD τ).loc main_v0_17) = arr 12288 2048 .fp8e4m3 (Spec.colCode n4 (launched m c).xw) := ((h c).1 21).trans (final_xcq m c)
/-- `dacq` at the end. -/
theorem end_dacq : r.2.mem ((c.tc : Thread nD τ).loc main_v0_18) = arr 12288 768 .fp8e5m2 (Spec.colCode n5 (launched m c).da) := ((h c).1 22).trans (final_dacq m c)
/-- `dbcq` at the end. -/
theorem end_dbcq : r.2.mem ((c.tc : Thread nD τ).loc main_v0_19) = arr 12288 768 .fp8e5m2 (Spec.colCode n5 (launched m c).db) := ((h c).1 23).trans (final_dbcq m c)
/-- The operand is kept. -/
theorem kept_0 : r.2.mem ((c.tc : Thread nD τ).loc main_arg0) = m ((c.tc : Thread nD τ).loc main_arg0) :=
  ((h c).1 0).trans (((dats m 0 c).arrAt_in 0 rfl _).trans ((A_eq m c 0).trans (V_main_arg0 m c)))
/-- The operand is kept. -/
theorem kept_1 : r.2.mem ((c.tc : Thread nD τ).loc main_arg1) = m ((c.tc : Thread nD τ).loc main_arg1) :=
  ((h c).1 1).trans (((dats m 0 c).arrAt_in 1 rfl _).trans ((A_eq m c 1).trans (V_main_arg1 m c)))
/-- The operand is kept. -/
theorem kept_2 : r.2.mem ((c.tc : Thread nD τ).loc main_arg2) = m ((c.tc : Thread nD τ).loc main_arg2) :=
  ((h c).1 2).trans (((dats m 0 c).arrAt_in 2 rfl _).trans ((A_eq m c 2).trans (V_main_arg2 m c)))
/-- The operand is kept. -/
theorem kept_3 : r.2.mem ((c.tc : Thread nD τ).loc main_arg3) = m ((c.tc : Thread nD τ).loc main_arg3) :=
  ((h c).1 3).trans (((dats m 0 c).arrAt_in 3 rfl _).trans ((A_eq m c 3).trans (V_main_arg3 m c)))
end

/-- Every run ends with the outputs those arrays and the operands as they were. -/
theorem run : θ_run (defs (F := Ideal)) (onTc (τ := τ) (main (F := Ideal))) ⟨m, fun _ => 0, ρ⟩ fun r => ∀ c : Dev nD,
      r.2.mem ((c.tc : Thread nD τ).loc main_v0_0) = arr 12288 2048 .bf16 (launched m c).y
      ∧ r.2.mem ((c.tc : Thread nD τ).loc main_v0_1) = arr 12288 2048 .bf16 (launched m c).dx
      ∧ r.2.mem ((c.tc : Thread nD τ).loc main_v0_2) = arr 2048 768 .f32 (launched m c).dw1
      ∧ r.2.mem ((c.tc : Thread nD τ).loc main_v0_3) = arr 2048 768 .f32 (launched m c).dw3
      ∧ r.2.mem ((c.tc : Thread nD τ).loc main_v0_4) = arr 768 2048 .f32 (launched m c).dw2
      ∧ r.2.mem ((c.tc : Thread nD τ).loc main_v0_5) = arr 12288 2048 .fp8e4m3 (Spec.rowCode n4 (launched m c).x)
      ∧ r.2.mem ((c.tc : Thread nD τ).loc main_v0_6) = arr 12288 16 .f32 (Spec.rowScale n4 (launched m c).x)
      ∧ r.2.mem ((c.tc : Thread nD τ).loc main_v0_7) = arr 12288 768 .fp8e4m3 (Spec.rowCode n4 (launched m c).h)
      ∧ r.2.mem ((c.tc : Thread nD τ).loc main_v0_8) = arr 12288 6 .f32 (Spec.rowScale n4 (launched m c).h)
      ∧ r.2.mem ((c.tc : Thread nD τ).loc main_v0_9) = arr 12288 2048 .fp8e5m2 (Spec.rowCode n5 (launched m c).dy)
      ∧ r.2.mem ((c.tc : Thread nD τ).loc main_v0_10) = arr 12288 16 .f32 (Spec.rowScale n5 (launched m c).dy)
      ∧ r.2.mem ((c.tc : Thread nD τ).loc main_v0_11) = arr 12288 2048 .fp8e5m2 (Spec.colCode n5 (launched m c).dy)
      ∧ r.2.mem ((c.tc : Thread nD τ).loc main_v0_12) = arr 12288 768 .fp8e4m3 (Spec.colCode n4 (launched m c).hw)
      ∧ r.2.mem ((c.tc : Thread nD τ).loc main_v0_13) = arr 12288 768 .fp8e5m2 (Spec.rowCode n5 (launched m c).da)
      ∧ r.2.mem ((c.tc : Thread nD τ).loc main_v0_14) = arr 12288 6 .f32 (Spec.rowScale n5 (launched m c).da)
      ∧ r.2.mem ((c.tc : Thread nD τ).loc main_v0_15) = arr 12288 768 .fp8e5m2 (Spec.rowCode n5 (launched m c).db)
      ∧ r.2.mem ((c.tc : Thread nD τ).loc main_v0_16) = arr 12288 6 .f32 (Spec.rowScale n5 (launched m c).db)
      ∧ r.2.mem ((c.tc : Thread nD τ).loc main_v0_17) = arr 12288 2048 .fp8e4m3 (Spec.colCode n4 (launched m c).xw)
      ∧ r.2.mem ((c.tc : Thread nD τ).loc main_v0_18) = arr 12288 768 .fp8e5m2 (Spec.colCode n5 (launched m c).da)
      ∧ r.2.mem ((c.tc : Thread nD τ).loc main_v0_19) = arr 12288 768 .fp8e5m2 (Spec.colCode n5 (launched m c).db)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun r h c => ⟨end_y m r h c,
    end_dx m r h c,
    end_dw1 m r h c,
    end_dw3 m r h c,
    end_dw2 m r h c,
    end_xq m r h c,
    end_xs m r h c,
    end_hq m r h c,
    end_hs m r h c,
    end_dyq m r h c,
    end_dys m r h c,
    end_dycq m r h c,
    end_hcq m r h c,
    end_daq m r h c,
    end_das m r h c,
    end_dbq m r h c,
    end_dbs m r h c,
    end_xcq m r h c,
    end_dacq m r h c,
    end_dbcq m r h c,
    kept_0 m r h c,
    kept_1 m r h c,
    kept_2 m r h c,
    kept_3 m r h c⟩) (run_main m ρ)

end Cert.ReferenceIdeal.Whole

end
-- ==== Proof.lean ====
module

public import proofs.«01_k».proof.Defs
public import proofs.«01_k».proof.Proof.KernelSame
public import proofs.«01_k».proof.Proof.KernelValue
public import proofs.«01_k».proof.Proof.RefFinal
public import Idealize.ShloMosaic.Adequacy
public import Idealize.ShloMosaic.Init

@[expose] public section

noncomputable section

namespace Cert.Proof

open Idealize.ShloMosaic Idealize.SL.Sem Cert.Kernel

/-- Launched on the same operands, the reference computes on what the kernel computes on. -/
theorem launched_eq {m : (ℓ : Loc KernelIdeal.nD KernelIdeal.τ KernelIdeal.sig) → Buf (Elt Ideal) ℓ}
    {m' : (ℓ : Loc ReferenceIdeal.nD ReferenceIdeal.τ ReferenceIdeal.sig) → Buf (Elt Ideal) ℓ} (c : Dev KernelIdeal.nD)
    (hag : m' ((c.tc : Thread ReferenceIdeal.nD ReferenceIdeal.τ).loc ReferenceIdeal.main_arg0) = m ((c.tc : Thread KernelIdeal.nD KernelIdeal.τ).loc KernelIdeal.main_arg0) ∧
      m' ((c.tc : Thread ReferenceIdeal.nD ReferenceIdeal.τ).loc ReferenceIdeal.main_arg1) = m ((c.tc : Thread KernelIdeal.nD KernelIdeal.τ).loc KernelIdeal.main_arg1) ∧
      m' ((c.tc : Thread ReferenceIdeal.nD ReferenceIdeal.τ).loc ReferenceIdeal.main_arg2) = m ((c.tc : Thread KernelIdeal.nD KernelIdeal.τ).loc KernelIdeal.main_arg2) ∧
      m' ((c.tc : Thread ReferenceIdeal.nD ReferenceIdeal.τ).loc ReferenceIdeal.main_arg3) = m ((c.tc : Thread KernelIdeal.nD KernelIdeal.τ).loc KernelIdeal.main_arg3)) : ReferenceIdeal.Whole.launched m' c = KernelIdeal.Step.launched m c := by
  obtain ⟨e0, e1, e2, e3⟩ := hag
  show Spec.Ops.mk _ _ _ _ = Spec.Ops.mk _ _ _ _
  rw [e0, e1, e2, e3]

/-- The two programs write the same twenty arrays, each of the step's mathematics on the operands. -/
theorem algebraic : Cert.algebraic_KernelIdeal_ReferenceIdeal := by
  intro m g m' g' _ hag
  refine ⟨fun c => Spec.arr 12288 2048 .bf16 (KernelIdeal.Step.launched m c).y,
    fun c => Spec.arr 12288 2048 .bf16 (KernelIdeal.Step.launched m c).dx,
    fun c => Spec.arr 2048 768 .f32 (KernelIdeal.Step.launched m c).dw1,
    fun c => Spec.arr 2048 768 .f32 (KernelIdeal.Step.launched m c).dw3,
    fun c => Spec.arr 768 2048 .f32 (KernelIdeal.Step.launched m c).dw2,
    fun c => Spec.arr 12288 2048 .fp8e4m3 (Spec.rowCode Spec.n4 (KernelIdeal.Step.launched m c).x),
    fun c => Spec.arr 12288 16 .f32 (Spec.rowScale Spec.n4 (KernelIdeal.Step.launched m c).x),
    fun c => Spec.arr 12288 768 .fp8e4m3 (Spec.rowCode Spec.n4 (KernelIdeal.Step.launched m c).h),
    fun c => Spec.arr 12288 6 .f32 (Spec.rowScale Spec.n4 (KernelIdeal.Step.launched m c).h),
    fun c => Spec.arr 12288 2048 .fp8e5m2 (Spec.rowCode Spec.n5 (KernelIdeal.Step.launched m c).dy),
    fun c => Spec.arr 12288 16 .f32 (Spec.rowScale Spec.n5 (KernelIdeal.Step.launched m c).dy),
    fun c => Spec.arr 12288 2048 .fp8e5m2 (Spec.colCode Spec.n5 (KernelIdeal.Step.launched m c).dy),
    fun c => Spec.arr 12288 768 .fp8e4m3 (Spec.colCode Spec.n4 (KernelIdeal.Step.launched m c).hw),
    fun c => Spec.arr 12288 768 .fp8e5m2 (Spec.rowCode Spec.n5 (KernelIdeal.Step.launched m c).da),
    fun c => Spec.arr 12288 6 .f32 (Spec.rowScale Spec.n5 (KernelIdeal.Step.launched m c).da),
    fun c => Spec.arr 12288 768 .fp8e5m2 (Spec.rowCode Spec.n5 (KernelIdeal.Step.launched m c).db),
    fun c => Spec.arr 12288 6 .f32 (Spec.rowScale Spec.n5 (KernelIdeal.Step.launched m c).db),
    fun c => Spec.arr 12288 2048 .fp8e4m3 (Spec.colCode Spec.n4 (KernelIdeal.Step.launched m c).xw),
    fun c => Spec.arr 12288 768 .fp8e5m2 (Spec.colCode Spec.n5 (KernelIdeal.Step.launched m c).da),
    fun c => Spec.arr 12288 768 .fp8e5m2 (Spec.colCode Spec.n5 (KernelIdeal.Step.launched m c).db), KernelIdeal.Step.run m g, ?_⟩
  refine (θ_run _ _ _).mono (fun r h c => ?_) (ReferenceIdeal.Whole.run m' g')
  have h := h c
  rw [launched_eq c (hag c)] at h
  exact h

/-- The certificate: the three frames, and the kernel and the reference computing the same arrays. -/
theorem claim : Cert.Claim := ⟨Cert.Kernel.Gen.facts, Cert.KernelIdeal.Gen.facts, Cert.ReferenceIdeal.Gen.facts,
  fun m ρ _ => Cert.Kernel.Same.runs_eq.mpr (fun m g => Cert.KernelIdeal.Step.frame (F := Bits) m g) m ρ,
  fun m ρ _ => Cert.KernelIdeal.Step.frame m ρ, fun m ρ _ => Cert.ReferenceIdeal.Gen.frame m ρ, trivial, algebraic⟩

end Cert.Proof

end
